-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite [hPre_finite : Cert.Pre_finite.Facts] (m : (ℓ : Loc Cert.MlaIdeal.nD Cert.MlaIdeal.τ Cert.MlaIdeal.sig) → Buf (Elt Ideal) ℓ) : Prop :=
  ∀ c : Dev Cert.MlaIdeal.nD,
    (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite [hPre_finite : Cert.Pre_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedIdeal_bounds_finite [hPre_bounds_finite : Cert.Pre_bounds_finite.Facts] (m : (ℓ : Loc Cert.GatedIdeal.nD Cert.GatedIdeal.τ Cert.GatedIdeal.sig) → Buf (Elt Ideal) ℓ) : Prop :=
  ∀ c : Dev Cert.GatedIdeal.nD,
    (Cert.Pre_bounds_finite.fn (F := Ideal) (m ((c.tc : Thread Cert.GatedIdeal.nD Cert.GatedIdeal.τ).loc Cert.GatedIdeal.main_arg0)) (m ((c.tc : Thread Cert.GatedIdeal.nD Cert.GatedIdeal.τ).loc Cert.GatedIdeal.main_arg1)) (m ((c.tc : Thread Cert.GatedIdeal.nD Cert.GatedIdeal.τ).loc Cert.GatedIdeal.main_arg2)) (m ((c.tc : Thread Cert.GatedIdeal.nD Cert.GatedIdeal.τ).loc Cert.GatedIdeal.main_arg3))) = (fun _ => 1#1)

def Pre_GatedRefIdeal (m : (ℓ : Loc Cert.GatedRefIdeal.nD Cert.GatedRefIdeal.τ Cert.GatedRefIdeal.sig) → Buf (Elt Ideal) ℓ) : Prop :=
  True

def Pre_GatedRefIdeal_bounds_finite [hPre_bounds_finite : Cert.Pre_bounds_finite.Facts] (m : (ℓ : Loc Cert.GatedRefIdeal.nD Cert.GatedRefIdeal.τ Cert.GatedRefIdeal.sig) → Buf (Elt Ideal) ℓ) : Prop :=
  ∀ c : Dev Cert.GatedRefIdeal.nD,
    (Cert.Pre_bounds_finite.fn (F := Ideal) (m ((c.tc : Thread Cert.GatedRefIdeal.nD Cert.GatedRefIdeal.τ).loc Cert.GatedRefIdeal.main_arg0)) (m ((c.tc : Thread Cert.GatedRefIdeal.nD Cert.GatedRefIdeal.τ).loc Cert.GatedRefIdeal.main_arg1)) (m ((c.tc : Thread Cert.GatedRefIdeal.nD Cert.GatedRefIdeal.τ).loc Cert.GatedRefIdeal.main_arg2)) (m ((c.tc : Thread Cert.GatedRefIdeal.nD Cert.GatedRefIdeal.τ).loc Cert.GatedRefIdeal.main_arg3))) = (fun _ => 1#1)

def Pre_DownSample (m : (ℓ : Loc Cert.DownSample.nD Cert.DownSample.τ Cert.DownSample.sig) → Buf (Elt Bits) ℓ) : Prop :=
  True

def Pre_DownSampleIdeal (m : (ℓ : Loc Cert.DownSampleIdeal.nD Cert.DownSampleIdeal.τ Cert.DownSampleIdeal.sig) → Buf (Elt Ideal) ℓ) : Prop :=
  True

def Pre_DownSampleRefIdeal (m : (ℓ : Loc Cert.DownSampleRefIdeal.nD Cert.DownSampleRefIdeal.τ Cert.DownSampleRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_GatedPrompt (m : (ℓ : Loc Cert.GatedPrompt.nD Cert.GatedPrompt.τ Cert.GatedPrompt.sig) → Buf (Elt Bits) ℓ) : Prop :=
  True

def Pre_GatedPromptIdeal (m : (ℓ : Loc Cert.GatedPromptIdeal.nD Cert.GatedPromptIdeal.τ Cert.GatedPromptIdeal.sig) → Buf (Elt Ideal) ℓ) : Prop :=
  True

def Pre_GatedPromptIdeal_prompt_bounds_finite [hPre_prompt_bounds_finite : Cert.Pre_prompt_bounds_finite.Facts] (m : (ℓ : Loc Cert.GatedPromptIdeal.nD Cert.GatedPromptIdeal.τ Cert.GatedPromptIdeal.sig) → Buf (Elt Ideal) ℓ) : Prop :=
  ∀ c : Dev Cert.GatedPromptIdeal.nD,
    (Cert.Pre_prompt_bounds_finite.fn (F := Ideal) (m ((c.tc : Thread Cert.GatedPromptIdeal.nD Cert.GatedPromptIdeal.τ).loc Cert.GatedPromptIdeal.main_arg0)) (m ((c.tc : Thread Cert.GatedPromptIdeal.nD Cert.GatedPromptIdeal.τ).loc Cert.GatedPromptIdeal.main_arg1)) (m ((c.tc : Thread Cert.GatedPromptIdeal.nD Cert.GatedPromptIdeal.τ).loc Cert.GatedPromptIdeal.main_arg2))) = (fun _ => 1#1)

def Pre_GatedPromptRefIdeal (m : (ℓ : Loc Cert.GatedPromptRefIdeal.nD Cert.GatedPromptRefIdeal.τ Cert.GatedPromptRefIdeal.sig) → Buf (Elt Ideal) ℓ) : Prop :=
  True

def Pre_GatedPromptRefIdeal_prompt_bounds_finite [hPre_prompt_bounds_finite : Cert.Pre_prompt_bounds_finite.Facts] (m : (ℓ : Loc Cert.GatedPromptRefIdeal.nD Cert.GatedPromptRefIdeal.τ Cert.GatedPromptRefIdeal.sig) → Buf (Elt Ideal) ℓ) : Prop :=
  ∀ c : Dev Cert.GatedPromptRefIdeal.nD,
    (Cert.Pre_prompt_bounds_finite.fn (F := Ideal) (m ((c.tc : Thread Cert.GatedPromptRefIdeal.nD Cert.GatedPromptRefIdeal.τ).loc Cert.GatedPromptRefIdeal.main_arg0)) (m ((c.tc : Thread Cert.GatedPromptRefIdeal.nD Cert.GatedPromptRefIdeal.τ).loc Cert.GatedPromptRefIdeal.main_arg1)) (m ((c.tc : Thread Cert.GatedPromptRefIdeal.nD Cert.GatedPromptRefIdeal.τ).loc Cert.GatedPromptRefIdeal.main_arg2))) = (fun _ => 1#1)

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleRefIdeal (m : (ℓ : Loc Cert.OutSampleRefIdeal.nD Cert.OutSampleRefIdeal.τ Cert.OutSampleRefIdeal.sig) → Buf (Elt Ideal) ℓ) : Prop :=
  True

def Pre_UpSample (m : (ℓ : Loc Cert.UpSample.nD Cert.UpSample.τ Cert.UpSample.sig) → Buf (Elt Bits) ℓ) : Prop :=
  True

def Pre_UpSampleIdeal (m : (ℓ : Loc Cert.UpSampleIdeal.nD Cert.UpSampleIdeal.τ Cert.UpSampleIdeal.sig) → Buf (Elt Ideal) ℓ) : Prop :=
  True

def Pre_UpSampleRefIdeal (m : (ℓ : Loc Cert.UpSampleRefIdeal.nD Cert.UpSampleRefIdeal.τ Cert.UpSampleRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_finite [hMlaIdeal : Cert.MlaIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_finite [hMlaRefIdeal : Cert.MlaRefIdeal.Facts] [hPre_finite : Cert.Pre_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedIdeal_pre_bounds_finite [hGatedIdeal : Cert.GatedIdeal.Facts] [hPre_bounds_finite : Cert.Pre_bounds_finite.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal_bounds_finite m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_GatedRefIdeal_pre_bounds_finite [hGatedRefIdeal : Cert.GatedRefIdeal.Facts] [hPre_bounds_finite : Cert.Pre_bounds_finite.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal_bounds_finite m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_DownSample [hDownSample : Cert.DownSample.Facts] : Prop :=
  ∀ (m : (ℓ : Loc Cert.DownSample.nD Cert.DownSample.τ Cert.DownSample.sig) → Buf (Elt Bits) ℓ) (g : Dev Cert.DownSample.nD → PrngReg), Pre_DownSample m →
    θ_run (Cert.DownSample.defs (F := Bits)) (onTc (τ := Cert.DownSample.τ) (Cert.DownSample.main (F := Bits))) ⟨m, fun _ => 0, g⟩ (fun r => (∀ c : Dev Cert.DownSample.nD,
      r.2.mem ((c.tc : Thread Cert.DownSample.nD Cert.DownSample.τ).loc Cert.DownSample.main_arg0) = m ((c.tc : Thread Cert.DownSample.nD Cert.DownSample.τ).loc Cert.DownSample.main_arg0)
      ∧ r.2.mem ((c.tc : Thread Cert.DownSample.nD Cert.DownSample.τ).loc Cert.DownSample.main_arg1) = m ((c.tc : Thread Cert.DownSample.nD Cert.DownSample.τ).loc Cert.DownSample.main_arg1)
      ∧ r.2.mem ((c.tc : Thread Cert.DownSample.nD Cert.DownSample.τ).loc Cert.DownSample.main_arg2) = m ((c.tc : Thread Cert.DownSample.nD Cert.DownSample.τ).loc Cert.DownSample.main_arg2)
      ∧ r.2.mem ((c.tc : Thread Cert.DownSample.nD Cert.DownSample.τ).loc Cert.DownSample.main_arg3) = m ((c.tc : Thread Cert.DownSample.nD Cert.DownSample.τ).loc Cert.DownSample.main_arg3)
      ∧ r.2.mem ((c.tc : Thread Cert.DownSample.nD Cert.DownSample.τ).loc Cert.DownSample.main_arg4) = m ((c.tc : Thread Cert.DownSample.nD Cert.DownSample.τ).loc Cert.DownSample.main_arg4))
      ∧ r.2.sem = fun _ => 0)

def quiescent_DownSampleIdeal [hDownSampleIdeal : Cert.DownSampleIdeal.Facts] : Prop :=
  ∀ (m : (ℓ : Loc Cert.DownSampleIdeal.nD Cert.DownSampleIdeal.τ Cert.DownSampleIdeal.sig) → Buf (Elt Ideal) ℓ) (g : Dev Cert.DownSampleIdeal.nD → PrngReg), Pre_DownSampleIdeal m →
    θ_run (Cert.DownSampleIdeal.defs (F := Ideal)) (onTc (τ := Cert.DownSampleIdeal.τ) (Cert.DownSampleIdeal.main (F := Ideal))) ⟨m, fun _ => 0, g⟩ (fun r => (∀ c : Dev Cert.DownSampleIdeal.nD,
      r.2.mem ((c.tc : Thread Cert.DownSampleIdeal.nD Cert.DownSampleIdeal.τ).loc Cert.DownSampleIdeal.main_arg0) = m ((c.tc : Thread Cert.DownSampleIdeal.nD Cert.DownSampleIdeal.τ).loc Cert.DownSampleIdeal.main_arg0)
      ∧ r.2.mem ((c.tc : Thread Cert.DownSampleIdeal.nD Cert.DownSampleIdeal.τ).loc Cert.DownSampleIdeal.main_arg1) = m ((c.tc : Thread Cert.DownSampleIdeal.nD Cert.DownSampleIdeal.τ).loc Cert.DownSampleIdeal.main_arg1)
      ∧ r.2.mem ((c.tc : Thread Cert.DownSampleIdeal.nD Cert.DownSampleIdeal.τ).loc Cert.DownSampleIdeal.main_arg2) = m ((c.tc : Thread Cert.DownSampleIdeal.nD Cert.DownSampleIdeal.τ).loc Cert.DownSampleIdeal.main_arg2)
      ∧ r.2.mem ((c.tc : Thread Cert.DownSampleIdeal.nD Cert.DownSampleIdeal.τ).loc Cert.DownSampleIdeal.main_arg3) = m ((c.tc : Thread Cert.DownSampleIdeal.nD Cert.DownSampleIdeal.τ).loc Cert.DownSampleIdeal.main_arg3)
      ∧ r.2.mem ((c.tc : Thread Cert.DownSampleIdeal.nD Cert.DownSampleIdeal.τ).loc Cert.DownSampleIdeal.main_arg4) = m ((c.tc : Thread Cert.DownSampleIdeal.nD Cert.DownSampleIdeal.τ).loc Cert.DownSampleIdeal.main_arg4))
      ∧ r.2.sem = fun _ => 0)

def quiescent_DownSampleRefIdeal [hDownSampleRefIdeal : Cert.DownSampleRefIdeal.Facts] : Prop :=
  ∀ (m : (ℓ : Loc Cert.DownSampleRefIdeal.nD Cert.DownSampleRefIdeal.τ Cert.DownSampleRefIdeal.sig) → Buf (Elt Ideal) ℓ) (g : Dev Cert.DownSampleRefIdeal.nD → PrngReg), Pre_DownSampleRefIdeal m →
    θ_run (Cert.DownSampleRefIdeal.defs (F := Ideal)) (onTc (τ := Cert.DownSampleRefIdeal.τ) (Cert.DownSampleRefIdeal.main (F := Ideal))) ⟨m, fun _ => 0, g⟩ (fun r => (∀ c : Dev Cert.DownSampleRefIdeal.nD,
      r.2.mem ((c.tc : Thread Cert.DownSampleRefIdeal.nD Cert.DownSampleRefIdeal.τ).loc Cert.DownSampleRefIdeal.main_arg0) = m ((c.tc : Thread Cert.DownSampleRefIdeal.nD Cert.DownSampleRefIdeal.τ).loc Cert.DownSampleRefIdeal.main_arg0)
      ∧ r.2.mem ((c.tc : Thread Cert.DownSampleRefIdeal.nD Cert.DownSampleRefIdeal.τ).loc Cert.DownSampleRefIdeal.main_arg1) = m ((c.tc : Thread Cert.DownSampleRefIdeal.nD Cert.DownSampleRefIdeal.τ).loc Cert.DownSampleRefIdeal.main_arg1)
      ∧ r.2.mem ((c.tc : Thread Cert.DownSampleRefIdeal.nD Cert.DownSampleRefIdeal.τ).loc Cert.DownSampleRefIdeal.main_arg2) = m ((c.tc : Thread Cert.DownSampleRefIdeal.nD Cert.DownSampleRefIdeal.τ).loc Cert.DownSampleRefIdeal.main_arg2)
      ∧ r.2.mem ((c.tc : Thread Cert.DownSampleRefIdeal.nD Cert.DownSampleRefIdeal.τ).loc Cert.DownSampleRefIdeal.main_arg3) = m ((c.tc : Thread Cert.DownSampleRefIdeal.nD Cert.DownSampleRefIdeal.τ).loc Cert.DownSampleRefIdeal.main_arg3)
      ∧ r.2.mem ((c.tc : Thread Cert.DownSampleRefIdeal.nD Cert.DownSampleRefIdeal.τ).loc Cert.DownSampleRefIdeal.main_arg4) = m ((c.tc : Thread Cert.DownSampleRefIdeal.nD Cert.DownSampleRefIdeal.τ).loc Cert.DownSampleRefIdeal.main_arg4))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2))
      ∧ r.2.sem = fun _ => 0)

def quiescent_GatedPrompt [hGatedPrompt : Cert.GatedPrompt.Facts] : Prop :=
  ∀ (m : (ℓ : Loc Cert.GatedPrompt.nD Cert.GatedPrompt.τ Cert.GatedPrompt.sig) → Buf (Elt Bits) ℓ) (g : Dev Cert.GatedPrompt.nD → PrngReg), Pre_GatedPrompt m →
    θ_run (Cert.GatedPrompt.defs (F := Bits)) (onTc (τ := Cert.GatedPrompt.τ) (Cert.GatedPrompt.main (F := Bits))) ⟨m, fun _ => 0, g⟩ (fun r => (∀ c : Dev Cert.GatedPrompt.nD,
      r.2.mem ((c.tc : Thread Cert.GatedPrompt.nD Cert.GatedPrompt.τ).loc Cert.GatedPrompt.main_arg0) = m ((c.tc : Thread Cert.GatedPrompt.nD Cert.GatedPrompt.τ).loc Cert.GatedPrompt.main_arg0)
      ∧ r.2.mem ((c.tc : Thread Cert.GatedPrompt.nD Cert.GatedPrompt.τ).loc Cert.GatedPrompt.main_arg1) = m ((c.tc : Thread Cert.GatedPrompt.nD Cert.GatedPrompt.τ).loc Cert.GatedPrompt.main_arg1)
      ∧ r.2.mem ((c.tc : Thread Cert.GatedPrompt.nD Cert.GatedPrompt.τ).loc Cert.GatedPrompt.main_arg2) = m ((c.tc : Thread Cert.GatedPrompt.nD Cert.GatedPrompt.τ).loc Cert.GatedPrompt.main_arg2))
      ∧ r.2.sem = fun _ => 0)

def quiescent_GatedPromptIdeal [hGatedPromptIdeal : Cert.GatedPromptIdeal.Facts] : Prop :=
  ∀ (m : (ℓ : Loc Cert.GatedPromptIdeal.nD Cert.GatedPromptIdeal.τ Cert.GatedPromptIdeal.sig) → Buf (Elt Ideal) ℓ) (g : Dev Cert.GatedPromptIdeal.nD → PrngReg), Pre_GatedPromptIdeal m →
    θ_run (Cert.GatedPromptIdeal.defs (F := Ideal)) (onTc (τ := Cert.GatedPromptIdeal.τ) (Cert.GatedPromptIdeal.main (F := Ideal))) ⟨m, fun _ => 0, g⟩ (fun r => (∀ c : Dev Cert.GatedPromptIdeal.nD,
      r.2.mem ((c.tc : Thread Cert.GatedPromptIdeal.nD Cert.GatedPromptIdeal.τ).loc Cert.GatedPromptIdeal.main_arg0) = m ((c.tc : Thread Cert.GatedPromptIdeal.nD Cert.GatedPromptIdeal.τ).loc Cert.GatedPromptIdeal.main_arg0)
      ∧ r.2.mem ((c.tc : Thread Cert.GatedPromptIdeal.nD Cert.GatedPromptIdeal.τ).loc Cert.GatedPromptIdeal.main_arg1) = m ((c.tc : Thread Cert.GatedPromptIdeal.nD Cert.GatedPromptIdeal.τ).loc Cert.GatedPromptIdeal.main_arg1)
      ∧ r.2.mem ((c.tc : Thread Cert.GatedPromptIdeal.nD Cert.GatedPromptIdeal.τ).loc Cert.GatedPromptIdeal.main_arg2) = m ((c.tc : Thread Cert.GatedPromptIdeal.nD Cert.GatedPromptIdeal.τ).loc Cert.GatedPromptIdeal.main_arg2))
      ∧ r.2.sem = fun _ => 0)

def quiescent_GatedPromptIdeal_pre_prompt_bounds_finite [hGatedPromptIdeal : Cert.GatedPromptIdeal.Facts] [hPre_prompt_bounds_finite : Cert.Pre_prompt_bounds_finite.Facts] : Prop :=
  ∀ (m : (ℓ : Loc Cert.GatedPromptIdeal.nD Cert.GatedPromptIdeal.τ Cert.GatedPromptIdeal.sig) → Buf (Elt Ideal) ℓ) (g : Dev Cert.GatedPromptIdeal.nD → PrngReg), Pre_GatedPromptIdeal_prompt_bounds_finite m →
    θ_run (Cert.GatedPromptIdeal.defs (F := Ideal)) (onTc (τ := Cert.GatedPromptIdeal.τ) (Cert.GatedPromptIdeal.main (F := Ideal))) ⟨m, fun _ => 0, g⟩ (fun r => (∀ c : Dev Cert.GatedPromptIdeal.nD,
      r.2.mem ((c.tc : Thread Cert.GatedPromptIdeal.nD Cert.GatedPromptIdeal.τ).loc Cert.GatedPromptIdeal.main_arg0) = m ((c.tc : Thread Cert.GatedPromptIdeal.nD Cert.GatedPromptIdeal.τ).loc Cert.GatedPromptIdeal.main_arg0)
      ∧ r.2.mem ((c.tc : Thread Cert.GatedPromptIdeal.nD Cert.GatedPromptIdeal.τ).loc Cert.GatedPromptIdeal.main_arg1) = m ((c.tc : Thread Cert.GatedPromptIdeal.nD Cert.GatedPromptIdeal.τ).loc Cert.GatedPromptIdeal.main_arg1)
      ∧ r.2.mem ((c.tc : Thread Cert.GatedPromptIdeal.nD Cert.GatedPromptIdeal.τ).loc Cert.GatedPromptIdeal.main_arg2) = m ((c.tc : Thread Cert.GatedPromptIdeal.nD Cert.GatedPromptIdeal.τ).loc Cert.GatedPromptIdeal.main_arg2))
      ∧ r.2.sem = fun _ => 0)

def quiescent_GatedPromptRefIdeal [hGatedPromptRefIdeal : Cert.GatedPromptRefIdeal.Facts] : Prop :=
  ∀ (m : (ℓ : Loc Cert.GatedPromptRefIdeal.nD Cert.GatedPromptRefIdeal.τ Cert.GatedPromptRefIdeal.sig) → Buf (Elt Ideal) ℓ) (g : Dev Cert.GatedPromptRefIdeal.nD → PrngReg), Pre_GatedPromptRefIdeal m →
    θ_run (Cert.GatedPromptRefIdeal.defs (F := Ideal)) (onTc (τ := Cert.GatedPromptRefIdeal.τ) (Cert.GatedPromptRefIdeal.main (F := Ideal))) ⟨m, fun _ => 0, g⟩ (fun r => (∀ c : Dev Cert.GatedPromptRefIdeal.nD,
      r.2.mem ((c.tc : Thread Cert.GatedPromptRefIdeal.nD Cert.GatedPromptRefIdeal.τ).loc Cert.GatedPromptRefIdeal.main_arg0) = m ((c.tc : Thread Cert.GatedPromptRefIdeal.nD Cert.GatedPromptRefIdeal.τ).loc Cert.GatedPromptRefIdeal.main_arg0)
      ∧ r.2.mem ((c.tc : Thread Cert.GatedPromptRefIdeal.nD Cert.GatedPromptRefIdeal.τ).loc Cert.GatedPromptRefIdeal.main_arg1) = m ((c.tc : Thread Cert.GatedPromptRefIdeal.nD Cert.GatedPromptRefIdeal.τ).loc Cert.GatedPromptRefIdeal.main_arg1)
      ∧ r.2.mem ((c.tc : Thread Cert.GatedPromptRefIdeal.nD Cert.GatedPromptRefIdeal.τ).loc Cert.GatedPromptRefIdeal.main_arg2) = m ((c.tc : Thread Cert.GatedPromptRefIdeal.nD Cert.GatedPromptRefIdeal.τ).loc Cert.GatedPromptRefIdeal.main_arg2))
      ∧ r.2.sem = fun _ => 0)

def quiescent_GatedPromptRefIdeal_pre_prompt_bounds_finite [hGatedPromptRefIdeal : Cert.GatedPromptRefIdeal.Facts] [hPre_prompt_bounds_finite : Cert.Pre_prompt_bounds_finite.Facts] : Prop :=
  ∀ (m : (ℓ : Loc Cert.GatedPromptRefIdeal.nD Cert.GatedPromptRefIdeal.τ Cert.GatedPromptRefIdeal.sig) → Buf (Elt Ideal) ℓ) (g : Dev Cert.GatedPromptRefIdeal.nD → PrngReg), Pre_GatedPromptRefIdeal_prompt_bounds_finite m →
    θ_run (Cert.GatedPromptRefIdeal.defs (F := Ideal)) (onTc (τ := Cert.GatedPromptRefIdeal.τ) (Cert.GatedPromptRefIdeal.main (F := Ideal))) ⟨m, fun _ => 0, g⟩ (fun r => (∀ c : Dev Cert.GatedPromptRefIdeal.nD,
      r.2.mem ((c.tc : Thread Cert.GatedPromptRefIdeal.nD Cert.GatedPromptRefIdeal.τ).loc Cert.GatedPromptRefIdeal.main_arg0) = m ((c.tc : Thread Cert.GatedPromptRefIdeal.nD Cert.GatedPromptRefIdeal.τ).loc Cert.GatedPromptRefIdeal.main_arg0)
      ∧ r.2.mem ((c.tc : Thread Cert.GatedPromptRefIdeal.nD Cert.GatedPromptRefIdeal.τ).loc Cert.GatedPromptRefIdeal.main_arg1) = m ((c.tc : Thread Cert.GatedPromptRefIdeal.nD Cert.GatedPromptRefIdeal.τ).loc Cert.GatedPromptRefIdeal.main_arg1)
      ∧ r.2.mem ((c.tc : Thread Cert.GatedPromptRefIdeal.nD Cert.GatedPromptRefIdeal.τ).loc Cert.GatedPromptRefIdeal.main_arg2) = m ((c.tc : Thread Cert.GatedPromptRefIdeal.nD Cert.GatedPromptRefIdeal.τ).loc Cert.GatedPromptRefIdeal.main_arg2))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3)
      ∧ r.2.mem ((c.tc : Thread Cert.OutSample.nD Cert.OutSample.τ).loc Cert.OutSample.main_arg4) = m ((c.tc : Thread Cert.OutSample.nD Cert.OutSample.τ).loc Cert.OutSample.main_arg4))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
      ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4))
      ∧ r.2.sem = fun _ => 0)

def quiescent_OutSampleRefIdeal [hOutSampleRefIdeal : Cert.OutSampleRefIdeal.Facts] : Prop :=
  ∀ (m : (ℓ : Loc Cert.OutSampleRefIdeal.nD Cert.OutSampleRefIdeal.τ Cert.OutSampleRefIdeal.sig) → Buf (Elt Ideal) ℓ) (g : Dev Cert.OutSampleRefIdeal.nD → PrngReg), Pre_OutSampleRefIdeal m →
    θ_run (Cert.OutSampleRefIdeal.defs (F := Ideal)) (onTc (τ := Cert.OutSampleRefIdeal.τ) (Cert.OutSampleRefIdeal.main (F := Ideal))) ⟨m, fun _ => 0, g⟩ (fun r => (∀ c : Dev Cert.OutSampleRefIdeal.nD,
      r.2.mem ((c.tc : Thread Cert.OutSampleRefIdeal.nD Cert.OutSampleRefIdeal.τ).loc Cert.OutSampleRefIdeal.main_arg0) = m ((c.tc : Thread Cert.OutSampleRefIdeal.nD Cert.OutSampleRefIdeal.τ).loc Cert.OutSampleRefIdeal.main_arg0)
      ∧ r.2.mem ((c.tc : Thread Cert.OutSampleRefIdeal.nD Cert.OutSampleRefIdeal.τ).loc Cert.OutSampleRefIdeal.main_arg1) = m ((c.tc : Thread Cert.OutSampleRefIdeal.nD Cert.OutSampleRefIdeal.τ).loc Cert.OutSampleRefIdeal.main_arg1)
      ∧ r.2.mem ((c.tc : Thread Cert.OutSampleRefIdeal.nD Cert.OutSampleRefIdeal.τ).loc Cert.OutSampleRefIdeal.main_arg2) = m ((c.tc : Thread Cert.OutSampleRefIdeal.nD Cert.OutSampleRefIdeal.τ).loc Cert.OutSampleRefIdeal.main_arg2)
      ∧ r.2.mem ((c.tc : Thread Cert.OutSampleRefIdeal.nD Cert.OutSampleRefIdeal.τ).loc Cert.OutSampleRefIdeal.main_arg3) = m ((c.tc : Thread Cert.OutSampleRefIdeal.nD Cert.OutSampleRefIdeal.τ).loc Cert.OutSampleRefIdeal.main_arg3)
      ∧ r.2.mem ((c.tc : Thread Cert.OutSampleRefIdeal.nD Cert.OutSampleRefIdeal.τ).loc Cert.OutSampleRefIdeal.main_arg4) = m ((c.tc : Thread Cert.OutSampleRefIdeal.nD Cert.OutSampleRefIdeal.τ).loc Cert.OutSampleRefIdeal.main_arg4))
      ∧ r.2.sem = fun _ => 0)

def quiescent_UpSample [hUpSample : Cert.UpSample.Facts] : Prop :=
  ∀ (m : (ℓ : Loc Cert.UpSample.nD Cert.UpSample.τ Cert.UpSample.sig) → Buf (Elt Bits) ℓ) (g : Dev Cert.UpSample.nD → PrngReg), Pre_UpSample m →
    θ_run (Cert.UpSample.defs (F := Bits)) (onTc (τ := Cert.UpSample.τ) (Cert.UpSample.main (F := Bits))) ⟨m, fun _ => 0, g⟩ (fun r => (∀ c : Dev Cert.UpSample.nD,
      r.2.mem ((c.tc : Thread Cert.UpSample.nD Cert.UpSample.τ).loc Cert.UpSample.main_arg0) = m ((c.tc : Thread Cert.UpSample.nD Cert.UpSample.τ).loc Cert.UpSample.main_arg0)
      ∧ r.2.mem ((c.tc : Thread Cert.UpSample.nD Cert.UpSample.τ).loc Cert.UpSample.main_arg1) = m ((c.tc : Thread Cert.UpSample.nD Cert.UpSample.τ).loc Cert.UpSample.main_arg1)
      ∧ r.2.mem ((c.tc : Thread Cert.UpSample.nD Cert.UpSample.τ).loc Cert.UpSample.main_arg2) = m ((c.tc : Thread Cert.UpSample.nD Cert.UpSample.τ).loc Cert.UpSample.main_arg2))
      ∧ r.2.sem = fun _ => 0)

def quiescent_UpSampleIdeal [hUpSampleIdeal : Cert.UpSampleIdeal.Facts] : Prop :=
  ∀ (m : (ℓ : Loc Cert.UpSampleIdeal.nD Cert.UpSampleIdeal.τ Cert.UpSampleIdeal.sig) → Buf (Elt Ideal) ℓ) (g : Dev Cert.UpSampleIdeal.nD → PrngReg), Pre_UpSampleIdeal m →
    θ_run (Cert.UpSampleIdeal.defs (F := Ideal)) (onTc (τ := Cert.UpSampleIdeal.τ) (Cert.UpSampleIdeal.main (F := Ideal))) ⟨m, fun _ => 0, g⟩ (fun r => (∀ c : Dev Cert.UpSampleIdeal.nD,
      r.2.mem ((c.tc : Thread Cert.UpSampleIdeal.nD Cert.UpSampleIdeal.τ).loc Cert.UpSampleIdeal.main_arg0) = m ((c.tc : Thread Cert.UpSampleIdeal.nD Cert.UpSampleIdeal.τ).loc Cert.UpSampleIdeal.main_arg0)
      ∧ r.2.mem ((c.tc : Thread Cert.UpSampleIdeal.nD Cert.UpSampleIdeal.τ).loc Cert.UpSampleIdeal.main_arg1) = m ((c.tc : Thread Cert.UpSampleIdeal.nD Cert.UpSampleIdeal.τ).loc Cert.UpSampleIdeal.main_arg1)
      ∧ r.2.mem ((c.tc : Thread Cert.UpSampleIdeal.nD Cert.UpSampleIdeal.τ).loc Cert.UpSampleIdeal.main_arg2) = m ((c.tc : Thread Cert.UpSampleIdeal.nD Cert.UpSampleIdeal.τ).loc Cert.UpSampleIdeal.main_arg2))
      ∧ r.2.sem = fun _ => 0)

def quiescent_UpSampleRefIdeal [hUpSampleRefIdeal : Cert.UpSampleRefIdeal.Facts] : Prop :=
  ∀ (m : (ℓ : Loc Cert.UpSampleRefIdeal.nD Cert.UpSampleRefIdeal.τ Cert.UpSampleRefIdeal.sig) → Buf (Elt Ideal) ℓ) (g : Dev Cert.UpSampleRefIdeal.nD → PrngReg), Pre_UpSampleRefIdeal m →
    θ_run (Cert.UpSampleRefIdeal.defs (F := Ideal)) (onTc (τ := Cert.UpSampleRefIdeal.τ) (Cert.UpSampleRefIdeal.main (F := Ideal))) ⟨m, fun _ => 0, g⟩ (fun r => (∀ c : Dev Cert.UpSampleRefIdeal.nD,
      r.2.mem ((c.tc : Thread Cert.UpSampleRefIdeal.nD Cert.UpSampleRefIdeal.τ).loc Cert.UpSampleRefIdeal.main_arg0) = m ((c.tc : Thread Cert.UpSampleRefIdeal.nD Cert.UpSampleRefIdeal.τ).loc Cert.UpSampleRefIdeal.main_arg0)
      ∧ r.2.mem ((c.tc : Thread Cert.UpSampleRefIdeal.nD Cert.UpSampleRefIdeal.τ).loc Cert.UpSampleRefIdeal.main_arg1) = m ((c.tc : Thread Cert.UpSampleRefIdeal.nD Cert.UpSampleRefIdeal.τ).loc Cert.UpSampleRefIdeal.main_arg1)
      ∧ r.2.mem ((c.tc : Thread Cert.UpSampleRefIdeal.nD Cert.UpSampleRefIdeal.τ).loc Cert.UpSampleRefIdeal.main_arg2) = m ((c.tc : Thread Cert.UpSampleRefIdeal.nD Cert.UpSampleRefIdeal.τ).loc Cert.UpSampleRefIdeal.main_arg2))
      ∧ r.2.sem = fun _ => 0)

def preserves_Mla_MlaIdeal : Prop :=
  IdealRules.named_const.Statement Cert.MlaIdeal.κ "mask" .f32 0xF149F2CA#32 ⊥

def algebraic_MlaIdeal_MlaRefIdeal_pre_finite [hMlaIdeal : Cert.MlaIdeal.Facts] [hMlaRefIdeal : Cert.MlaRefIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v6)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v6) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v29) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v6_0)) (v1 : (c : Dev Cert.OutIdeal.nD) → Buf (Elt Ideal) ((c.tc : Thread Cert.OutIdeal.nD Cert.OutIdeal.τ).loc Cert.OutIdeal.main_v6_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6_0) = v0 c
          ∧ r.2.mem ((c.tc : Thread Cert.OutIdeal.nD Cert.OutIdeal.τ).loc Cert.OutIdeal.main_v6_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v28) = v0 c
          ∧ r.2.mem ((c.tc : Thread Cert.OutRefIdeal.nD Cert.OutRefIdeal.τ).loc Cert.OutRefIdeal.main_v29) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v28) = v0 c
          ∧ r.2.mem ((c.tc : Thread Cert.DownRefIdeal.nD Cert.DownRefIdeal.τ).loc Cert.DownRefIdeal.main_v29) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v52)) (v1 : (c : Dev Cert.ProjIdeal.nD) → Buf (Elt Ideal) ((c.tc : Thread Cert.ProjIdeal.nD Cert.ProjIdeal.τ).loc Cert.ProjIdeal.main_v53)) (v2 : (c : Dev Cert.ProjIdeal.nD) → Buf (Elt Ideal) ((c.tc : Thread Cert.ProjIdeal.nD Cert.ProjIdeal.τ).loc Cert.ProjIdeal.main_v88)) (v3 : (c : Dev Cert.ProjIdeal.nD) → Buf (Elt Ideal) ((c.tc : Thread Cert.ProjIdeal.nD Cert.ProjIdeal.τ).loc Cert.ProjIdeal.main_v101)) (v4 : (c : Dev Cert.ProjIdeal.nD) → Buf (Elt Ideal) ((c.tc : Thread Cert.ProjIdeal.nD Cert.ProjIdeal.τ).loc Cert.ProjIdeal.main_v136)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v52) = v0 c
          ∧ r.2.mem ((c.tc : Thread Cert.ProjIdeal.nD Cert.ProjIdeal.τ).loc Cert.ProjIdeal.main_v53) = v1 c
          ∧ r.2.mem ((c.tc : Thread Cert.ProjIdeal.nD Cert.ProjIdeal.τ).loc Cert.ProjIdeal.main_v88) = v2 c
          ∧ r.2.mem ((c.tc : Thread Cert.ProjIdeal.nD Cert.ProjIdeal.τ).loc Cert.ProjIdeal.main_v101) = v3 c
          ∧ r.2.mem ((c.tc : Thread Cert.ProjIdeal.nD Cert.ProjIdeal.τ).loc Cert.ProjIdeal.main_v136) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v48) = v0 c
          ∧ r.2.mem ((c.tc : Thread Cert.ProjRefIdeal.nD Cert.ProjRefIdeal.τ).loc Cert.ProjRefIdeal.main_v49) = v1 c
          ∧ r.2.mem ((c.tc : Thread Cert.ProjRefIdeal.nD Cert.ProjRefIdeal.τ).loc Cert.ProjRefIdeal.main_v84) = v2 c
          ∧ r.2.mem ((c.tc : Thread Cert.ProjRefIdeal.nD Cert.ProjRefIdeal.τ).loc Cert.ProjRefIdeal.main_v97) = v3 c
          ∧ r.2.mem ((c.tc : Thread Cert.ProjRefIdeal.nD Cert.ProjRefIdeal.τ).loc Cert.ProjRefIdeal.main_v132) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Gated_GatedIdeal : Prop :=
  IdealRules.named_const.Statement Cert.GatedIdeal.κ "mask" .f32 0xF149F2CA#32 ⊥

def algebraic_GatedIdeal_GatedRefIdeal_pre_bounds_finite [hGatedIdeal : Cert.GatedIdeal.Facts] [hGatedRefIdeal : Cert.GatedRefIdeal.Facts] [hPre_bounds_finite : Cert.Pre_bounds_finite.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal_bounds_finite m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)) →
    ∃ (v0 : (c : Dev Cert.GatedIdeal.nD) → Buf (Elt Ideal) ((c.tc : Thread Cert.GatedIdeal.nD Cert.GatedIdeal.τ).loc Cert.GatedIdeal.main_v4_0)) (v1 : (c : Dev Cert.GatedIdeal.nD) → Buf (Elt Ideal) ((c.tc : Thread Cert.GatedIdeal.nD Cert.GatedIdeal.τ).loc Cert.GatedIdeal.main_v4_1)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v4_0) = v0 c
          ∧ r.2.mem ((c.tc : Thread Cert.GatedIdeal.nD Cert.GatedIdeal.τ).loc Cert.GatedIdeal.main_v4_1) = v1 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v91) = v0 c
          ∧ r.2.mem ((c.tc : Thread Cert.GatedRefIdeal.nD Cert.GatedRefIdeal.τ).loc Cert.GatedRefIdeal.main_v92) = v1 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3))

def preserves_DownSample_DownSampleIdeal : Prop :=
  True

def algebraic_DownSampleIdeal_DownSampleRefIdeal [hDownSampleIdeal : Cert.DownSampleIdeal.Facts] [hDownSampleRefIdeal : Cert.DownSampleRefIdeal.Facts] : Prop :=
  ∀ (m : (ℓ : Loc Cert.DownSampleIdeal.nD Cert.DownSampleIdeal.τ Cert.DownSampleIdeal.sig) → Buf (Elt Ideal) ℓ) (g : Dev Cert.DownSampleIdeal.nD → PrngReg)
    (m' : (ℓ : Loc Cert.DownSampleRefIdeal.nD Cert.DownSampleRefIdeal.τ Cert.DownSampleRefIdeal.sig) → Buf (Elt Ideal) ℓ) (g' : Dev Cert.DownSampleRefIdeal.nD → PrngReg), Pre_DownSampleIdeal m →
    (∀ c : Dev Cert.DownSampleIdeal.nD,
      m' ((c.tc : Thread Cert.DownSampleRefIdeal.nD Cert.DownSampleRefIdeal.τ).loc Cert.DownSampleRefIdeal.main_arg0) = m ((c.tc : Thread Cert.DownSampleIdeal.nD Cert.DownSampleIdeal.τ).loc Cert.DownSampleIdeal.main_arg0)
      ∧ m' ((c.tc : Thread Cert.DownSampleRefIdeal.nD Cert.DownSampleRefIdeal.τ).loc Cert.DownSampleRefIdeal.main_arg1) = m ((c.tc : Thread Cert.DownSampleIdeal.nD Cert.DownSampleIdeal.τ).loc Cert.DownSampleIdeal.main_arg1)
      ∧ m' ((c.tc : Thread Cert.DownSampleRefIdeal.nD Cert.DownSampleRefIdeal.τ).loc Cert.DownSampleRefIdeal.main_arg2) = m ((c.tc : Thread Cert.DownSampleIdeal.nD Cert.DownSampleIdeal.τ).loc Cert.DownSampleIdeal.main_arg2)
      ∧ m' ((c.tc : Thread Cert.DownSampleRefIdeal.nD Cert.DownSampleRefIdeal.τ).loc Cert.DownSampleRefIdeal.main_arg3) = m ((c.tc : Thread Cert.DownSampleIdeal.nD Cert.DownSampleIdeal.τ).loc Cert.DownSampleIdeal.main_arg3)
      ∧ m' ((c.tc : Thread Cert.DownSampleRefIdeal.nD Cert.DownSampleRefIdeal.τ).loc Cert.DownSampleRefIdeal.main_arg4) = m ((c.tc : Thread Cert.DownSampleIdeal.nD Cert.DownSampleIdeal.τ).loc Cert.DownSampleIdeal.main_arg4)) →
    ∃ (v0 : (c : Dev Cert.DownSampleIdeal.nD) → Buf (Elt Ideal) ((c.tc : Thread Cert.DownSampleIdeal.nD Cert.DownSampleIdeal.τ).loc Cert.DownSampleIdeal.main_v3_0)) (v1 : (c : Dev Cert.DownSampleIdeal.nD) → Buf (Elt Ideal) ((c.tc : Thread Cert.DownSampleIdeal.nD Cert.DownSampleIdeal.τ).loc Cert.DownSampleIdeal.main_v3_1)),
      θ_run (Cert.DownSampleIdeal.defs (F := Ideal)) (onTc (τ := Cert.DownSampleIdeal.τ) (Cert.DownSampleIdeal.main (F := Ideal))) ⟨m, fun _ => 0, g⟩ (fun r => ∀ c : Dev Cert.DownSampleIdeal.nD,
          r.2.mem ((c.tc : Thread Cert.DownSampleIdeal.nD Cert.DownSampleIdeal.τ).loc Cert.DownSampleIdeal.main_v3_0) = v0 c
          ∧ r.2.mem ((c.tc : Thread Cert.DownSampleIdeal.nD Cert.DownSampleIdeal.τ).loc Cert.DownSampleIdeal.main_v3_1) = v1 c
          ∧ r.2.mem ((c.tc : Thread Cert.DownSampleIdeal.nD Cert.DownSampleIdeal.τ).loc Cert.DownSampleIdeal.main_arg0) = m ((c.tc : Thread Cert.DownSampleIdeal.nD Cert.DownSampleIdeal.τ).loc Cert.DownSampleIdeal.main_arg0)
          ∧ r.2.mem ((c.tc : Thread Cert.DownSampleIdeal.nD Cert.DownSampleIdeal.τ).loc Cert.DownSampleIdeal.main_arg1) = m ((c.tc : Thread Cert.DownSampleIdeal.nD Cert.DownSampleIdeal.τ).loc Cert.DownSampleIdeal.main_arg1)
          ∧ r.2.mem ((c.tc : Thread Cert.DownSampleIdeal.nD Cert.DownSampleIdeal.τ).loc Cert.DownSampleIdeal.main_arg2) = m ((c.tc : Thread Cert.DownSampleIdeal.nD Cert.DownSampleIdeal.τ).loc Cert.DownSampleIdeal.main_arg2)
          ∧ r.2.mem ((c.tc : Thread Cert.DownSampleIdeal.nD Cert.DownSampleIdeal.τ).loc Cert.DownSampleIdeal.main_arg3) = m ((c.tc : Thread Cert.DownSampleIdeal.nD Cert.DownSampleIdeal.τ).loc Cert.DownSampleIdeal.main_arg3)
          ∧ r.2.mem ((c.tc : Thread Cert.DownSampleIdeal.nD Cert.DownSampleIdeal.τ).loc Cert.DownSampleIdeal.main_arg4) = m ((c.tc : Thread Cert.DownSampleIdeal.nD Cert.DownSampleIdeal.τ).loc Cert.DownSampleIdeal.main_arg4))
      ∧ θ_run (Cert.DownSampleRefIdeal.defs (F := Ideal)) (onTc (τ := Cert.DownSampleRefIdeal.τ) (Cert.DownSampleRefIdeal.main (F := Ideal))) ⟨m', fun _ => 0, g'⟩ (fun r => ∀ c : Dev Cert.DownSampleRefIdeal.nD,
          r.2.mem ((c.tc : Thread Cert.DownSampleRefIdeal.nD Cert.DownSampleRefIdeal.τ).loc Cert.DownSampleRefIdeal.main_v28) = v0 c
          ∧ r.2.mem ((c.tc : Thread Cert.DownSampleRefIdeal.nD Cert.DownSampleRefIdeal.τ).loc Cert.DownSampleRefIdeal.main_v29) = v1 c
          ∧ r.2.mem ((c.tc : Thread Cert.DownSampleRefIdeal.nD Cert.DownSampleRefIdeal.τ).loc Cert.DownSampleRefIdeal.main_arg0) = m' ((c.tc : Thread Cert.DownSampleRefIdeal.nD Cert.DownSampleRefIdeal.τ).loc Cert.DownSampleRefIdeal.main_arg0)
          ∧ r.2.mem ((c.tc : Thread Cert.DownSampleRefIdeal.nD Cert.DownSampleRefIdeal.τ).loc Cert.DownSampleRefIdeal.main_arg1) = m' ((c.tc : Thread Cert.DownSampleRefIdeal.nD Cert.DownSampleRefIdeal.τ).loc Cert.DownSampleRefIdeal.main_arg1)
          ∧ r.2.mem ((c.tc : Thread Cert.DownSampleRefIdeal.nD Cert.DownSampleRefIdeal.τ).loc Cert.DownSampleRefIdeal.main_arg2) = m' ((c.tc : Thread Cert.DownSampleRefIdeal.nD Cert.DownSampleRefIdeal.τ).loc Cert.DownSampleRefIdeal.main_arg2)
          ∧ r.2.mem ((c.tc : Thread Cert.DownSampleRefIdeal.nD Cert.DownSampleRefIdeal.τ).loc Cert.DownSampleRefIdeal.main_arg3) = m' ((c.tc : Thread Cert.DownSampleRefIdeal.nD Cert.DownSampleRefIdeal.τ).loc Cert.DownSampleRefIdeal.main_arg3)
          ∧ r.2.mem ((c.tc : Thread Cert.DownSampleRefIdeal.nD Cert.DownSampleRefIdeal.τ).loc Cert.DownSampleRefIdeal.main_arg4) = m' ((c.tc : Thread Cert.DownSampleRefIdeal.nD Cert.DownSampleRefIdeal.τ).loc Cert.DownSampleRefIdeal.main_arg4))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)) →
    ∃ (v0 : (c : Dev Cert.ProjSampleIdeal.nD) → Buf (Elt Ideal) ((c.tc : Thread Cert.ProjSampleIdeal.nD Cert.ProjSampleIdeal.τ).loc Cert.ProjSampleIdeal.main_v54)) (v1 : (c : Dev Cert.ProjSampleIdeal.nD) → Buf (Elt Ideal) ((c.tc : Thread Cert.ProjSampleIdeal.nD Cert.ProjSampleIdeal.τ).loc Cert.ProjSampleIdeal.main_v55)) (v2 : (c : Dev Cert.ProjSampleIdeal.nD) → Buf (Elt Ideal) ((c.tc : Thread Cert.ProjSampleIdeal.nD Cert.ProjSampleIdeal.τ).loc Cert.ProjSampleIdeal.main_v90)) (v3 : (c : Dev Cert.ProjSampleIdeal.nD) → Buf (Elt Ideal) ((c.tc : Thread Cert.ProjSampleIdeal.nD Cert.ProjSampleIdeal.τ).loc Cert.ProjSampleIdeal.main_v103)) (v4 : (c : Dev Cert.ProjSampleIdeal.nD) → Buf (Elt Ideal) ((c.tc : Thread Cert.ProjSampleIdeal.nD Cert.ProjSampleIdeal.τ).loc Cert.ProjSampleIdeal.main_v138)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v54) = v0 c
          ∧ r.2.mem ((c.tc : Thread Cert.ProjSampleIdeal.nD Cert.ProjSampleIdeal.τ).loc Cert.ProjSampleIdeal.main_v55) = v1 c
          ∧ r.2.mem ((c.tc : Thread Cert.ProjSampleIdeal.nD Cert.ProjSampleIdeal.τ).loc Cert.ProjSampleIdeal.main_v90) = v2 c
          ∧ r.2.mem ((c.tc : Thread Cert.ProjSampleIdeal.nD Cert.ProjSampleIdeal.τ).loc Cert.ProjSampleIdeal.main_v103) = v3 c
          ∧ r.2.mem ((c.tc : Thread Cert.ProjSampleIdeal.nD Cert.ProjSampleIdeal.τ).loc Cert.ProjSampleIdeal.main_v138) = v4 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v50) = v0 c
          ∧ r.2.mem ((c.tc : Thread Cert.ProjSampleRefIdeal.nD Cert.ProjSampleRefIdeal.τ).loc Cert.ProjSampleRefIdeal.main_v51) = v1 c
          ∧ r.2.mem ((c.tc : Thread Cert.ProjSampleRefIdeal.nD Cert.ProjSampleRefIdeal.τ).loc Cert.ProjSampleRefIdeal.main_v86) = v2 c
          ∧ r.2.mem ((c.tc : Thread Cert.ProjSampleRefIdeal.nD Cert.ProjSampleRefIdeal.τ).loc Cert.ProjSampleRefIdeal.main_v99) = v3 c
          ∧ r.2.mem ((c.tc : Thread Cert.ProjSampleRefIdeal.nD Cert.ProjSampleRefIdeal.τ).loc Cert.ProjSampleRefIdeal.main_v134) = v4 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2))

def preserves_GatedPrompt_GatedPromptIdeal : Prop :=
  IdealRules.named_const.Statement Cert.GatedPromptIdeal.κ "mask" .f32 0xF149F2CA#32 ⊥

def algebraic_GatedPromptIdeal_GatedPromptRefIdeal_pre_prompt_bounds_finite [hGatedPromptIdeal : Cert.GatedPromptIdeal.Facts] [hGatedPromptRefIdeal : Cert.GatedPromptRefIdeal.Facts] [hPre_prompt_bounds_finite : Cert.Pre_prompt_bounds_finite.Facts] : Prop :=
  ∀ (m : (ℓ : Loc Cert.GatedPromptIdeal.nD Cert.GatedPromptIdeal.τ Cert.GatedPromptIdeal.sig) → Buf (Elt Ideal) ℓ) (g : Dev Cert.GatedPromptIdeal.nD → PrngReg)
    (m' : (ℓ : Loc Cert.GatedPromptRefIdeal.nD Cert.GatedPromptRefIdeal.τ Cert.GatedPromptRefIdeal.sig) → Buf (Elt Ideal) ℓ) (g' : Dev Cert.GatedPromptRefIdeal.nD → PrngReg), Pre_GatedPromptIdeal_prompt_bounds_finite m →
    (∀ c : Dev Cert.GatedPromptIdeal.nD,
      m' ((c.tc : Thread Cert.GatedPromptRefIdeal.nD Cert.GatedPromptRefIdeal.τ).loc Cert.GatedPromptRefIdeal.main_arg0) = m ((c.tc : Thread Cert.GatedPromptIdeal.nD Cert.GatedPromptIdeal.τ).loc Cert.GatedPromptIdeal.main_arg0)
      ∧ m' ((c.tc : Thread Cert.GatedPromptRefIdeal.nD Cert.GatedPromptRefIdeal.τ).loc Cert.GatedPromptRefIdeal.main_arg1) = m ((c.tc : Thread Cert.GatedPromptIdeal.nD Cert.GatedPromptIdeal.τ).loc Cert.GatedPromptIdeal.main_arg1)
      ∧ m' ((c.tc : Thread Cert.GatedPromptRefIdeal.nD Cert.GatedPromptRefIdeal.τ).loc Cert.GatedPromptRefIdeal.main_arg2) = m ((c.tc : Thread Cert.GatedPromptIdeal.nD Cert.GatedPromptIdeal.τ).loc Cert.GatedPromptIdeal.main_arg2)) →
    ∃ (v0 : (c : Dev Cert.GatedPromptIdeal.nD) → Buf (Elt Ideal) ((c.tc : Thread Cert.GatedPromptIdeal.nD Cert.GatedPromptIdeal.τ).loc Cert.GatedPromptIdeal.main_v5_1)),
      θ_run (Cert.GatedPromptIdeal.defs (F := Ideal)) (onTc (τ := Cert.GatedPromptIdeal.τ) (Cert.GatedPromptIdeal.main (F := Ideal))) ⟨m, fun _ => 0, g⟩ (fun r => ∀ c : Dev Cert.GatedPromptIdeal.nD,
          r.2.mem ((c.tc : Thread Cert.GatedPromptIdeal.nD Cert.GatedPromptIdeal.τ).loc Cert.GatedPromptIdeal.main_v5_1) = v0 c
          ∧ r.2.mem ((c.tc : Thread Cert.GatedPromptIdeal.nD Cert.GatedPromptIdeal.τ).loc Cert.GatedPromptIdeal.main_arg0) = m ((c.tc : Thread Cert.GatedPromptIdeal.nD Cert.GatedPromptIdeal.τ).loc Cert.GatedPromptIdeal.main_arg0)
          ∧ r.2.mem ((c.tc : Thread Cert.GatedPromptIdeal.nD Cert.GatedPromptIdeal.τ).loc Cert.GatedPromptIdeal.main_arg1) = m ((c.tc : Thread Cert.GatedPromptIdeal.nD Cert.GatedPromptIdeal.τ).loc Cert.GatedPromptIdeal.main_arg1)
          ∧ r.2.mem ((c.tc : Thread Cert.GatedPromptIdeal.nD Cert.GatedPromptIdeal.τ).loc Cert.GatedPromptIdeal.main_arg2) = m ((c.tc : Thread Cert.GatedPromptIdeal.nD Cert.GatedPromptIdeal.τ).loc Cert.GatedPromptIdeal.main_arg2))
      ∧ θ_run (Cert.GatedPromptRefIdeal.defs (F := Ideal)) (onTc (τ := Cert.GatedPromptRefIdeal.τ) (Cert.GatedPromptRefIdeal.main (F := Ideal))) ⟨m', fun _ => 0, g'⟩ (fun r => ∀ c : Dev Cert.GatedPromptRefIdeal.nD,
          r.2.mem ((c.tc : Thread Cert.GatedPromptRefIdeal.nD Cert.GatedPromptRefIdeal.τ).loc Cert.GatedPromptRefIdeal.main_v49) = v0 c
          ∧ r.2.mem ((c.tc : Thread Cert.GatedPromptRefIdeal.nD Cert.GatedPromptRefIdeal.τ).loc Cert.GatedPromptRefIdeal.main_arg0) = m' ((c.tc : Thread Cert.GatedPromptRefIdeal.nD Cert.GatedPromptRefIdeal.τ).loc Cert.GatedPromptRefIdeal.main_arg0)
          ∧ r.2.mem ((c.tc : Thread Cert.GatedPromptRefIdeal.nD Cert.GatedPromptRefIdeal.τ).loc Cert.GatedPromptRefIdeal.main_arg1) = m' ((c.tc : Thread Cert.GatedPromptRefIdeal.nD Cert.GatedPromptRefIdeal.τ).loc Cert.GatedPromptRefIdeal.main_arg1)
          ∧ r.2.mem ((c.tc : Thread Cert.GatedPromptRefIdeal.nD Cert.GatedPromptRefIdeal.τ).loc Cert.GatedPromptRefIdeal.main_arg2) = m' ((c.tc : Thread Cert.GatedPromptRefIdeal.nD Cert.GatedPromptRefIdeal.τ).loc Cert.GatedPromptRefIdeal.main_arg2))

def preserves_OutSample_OutSampleIdeal : Prop :=
  True

def algebraic_OutSampleIdeal_OutSampleRefIdeal [hOutSampleIdeal : Cert.OutSampleIdeal.Facts] [hOutSampleRefIdeal : Cert.OutSampleRefIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleRefIdeal.nD Cert.OutSampleRefIdeal.τ Cert.OutSampleRefIdeal.sig) → Buf (Elt Ideal) ℓ) (g' : Dev Cert.OutSampleRefIdeal.nD → PrngReg), Pre_OutSampleIdeal m →
    (∀ c : Dev Cert.OutSampleIdeal.nD,
      m' ((c.tc : Thread Cert.OutSampleRefIdeal.nD Cert.OutSampleRefIdeal.τ).loc Cert.OutSampleRefIdeal.main_arg0) = m ((c.tc : Thread Cert.OutSampleIdeal.nD Cert.OutSampleIdeal.τ).loc Cert.OutSampleIdeal.main_arg0)
      ∧ m' ((c.tc : Thread Cert.OutSampleRefIdeal.nD Cert.OutSampleRefIdeal.τ).loc Cert.OutSampleRefIdeal.main_arg1) = m ((c.tc : Thread Cert.OutSampleIdeal.nD Cert.OutSampleIdeal.τ).loc Cert.OutSampleIdeal.main_arg1)
      ∧ m' ((c.tc : Thread Cert.OutSampleRefIdeal.nD Cert.OutSampleRefIdeal.τ).loc Cert.OutSampleRefIdeal.main_arg2) = m ((c.tc : Thread Cert.OutSampleIdeal.nD Cert.OutSampleIdeal.τ).loc Cert.OutSampleIdeal.main_arg2)
      ∧ m' ((c.tc : Thread Cert.OutSampleRefIdeal.nD Cert.OutSampleRefIdeal.τ).loc Cert.OutSampleRefIdeal.main_arg3) = m ((c.tc : Thread Cert.OutSampleIdeal.nD Cert.OutSampleIdeal.τ).loc Cert.OutSampleIdeal.main_arg3)
      ∧ m' ((c.tc : Thread Cert.OutSampleRefIdeal.nD Cert.OutSampleRefIdeal.τ).loc Cert.OutSampleRefIdeal.main_arg4) = m ((c.tc : Thread Cert.OutSampleIdeal.nD Cert.OutSampleIdeal.τ).loc Cert.OutSampleIdeal.main_arg4)) →
    ∃ (v0 : (c : Dev Cert.OutSampleIdeal.nD) → Buf (Elt Ideal) ((c.tc : Thread Cert.OutSampleIdeal.nD Cert.OutSampleIdeal.τ).loc Cert.OutSampleIdeal.main_v6_0)) (v1 : (c : Dev Cert.OutSampleIdeal.nD) → Buf (Elt Ideal) ((c.tc : Thread Cert.OutSampleIdeal.nD Cert.OutSampleIdeal.τ).loc Cert.OutSampleIdeal.main_v6_1)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v6_0) = v0 c
          ∧ r.2.mem ((c.tc : Thread Cert.OutSampleIdeal.nD Cert.OutSampleIdeal.τ).loc Cert.OutSampleIdeal.main_v6_1) = v1 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
          ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4))
      ∧ θ_run (Cert.OutSampleRefIdeal.defs (F := Ideal)) (onTc (τ := Cert.OutSampleRefIdeal.τ) (Cert.OutSampleRefIdeal.main (F := Ideal))) ⟨m', fun _ => 0, g'⟩ (fun r => ∀ c : Dev Cert.OutSampleRefIdeal.nD,
          r.2.mem ((c.tc : Thread Cert.OutSampleRefIdeal.nD Cert.OutSampleRefIdeal.τ).loc Cert.OutSampleRefIdeal.main_v28) = v0 c
          ∧ r.2.mem ((c.tc : Thread Cert.OutSampleRefIdeal.nD Cert.OutSampleRefIdeal.τ).loc Cert.OutSampleRefIdeal.main_v29) = v1 c
          ∧ r.2.mem ((c.tc : Thread Cert.OutSampleRefIdeal.nD Cert.OutSampleRefIdeal.τ).loc Cert.OutSampleRefIdeal.main_arg0) = m' ((c.tc : Thread Cert.OutSampleRefIdeal.nD Cert.OutSampleRefIdeal.τ).loc Cert.OutSampleRefIdeal.main_arg0)
          ∧ r.2.mem ((c.tc : Thread Cert.OutSampleRefIdeal.nD Cert.OutSampleRefIdeal.τ).loc Cert.OutSampleRefIdeal.main_arg1) = m' ((c.tc : Thread Cert.OutSampleRefIdeal.nD Cert.OutSampleRefIdeal.τ).loc Cert.OutSampleRefIdeal.main_arg1)
          ∧ r.2.mem ((c.tc : Thread Cert.OutSampleRefIdeal.nD Cert.OutSampleRefIdeal.τ).loc Cert.OutSampleRefIdeal.main_arg2) = m' ((c.tc : Thread Cert.OutSampleRefIdeal.nD Cert.OutSampleRefIdeal.τ).loc Cert.OutSampleRefIdeal.main_arg2)
          ∧ r.2.mem ((c.tc : Thread Cert.OutSampleRefIdeal.nD Cert.OutSampleRefIdeal.τ).loc Cert.OutSampleRefIdeal.main_arg3) = m' ((c.tc : Thread Cert.OutSampleRefIdeal.nD Cert.OutSampleRefIdeal.τ).loc Cert.OutSampleRefIdeal.main_arg3)
          ∧ r.2.mem ((c.tc : Thread Cert.OutSampleRefIdeal.nD Cert.OutSampleRefIdeal.τ).loc Cert.OutSampleRefIdeal.main_arg4) = m' ((c.tc : Thread Cert.OutSampleRefIdeal.nD Cert.OutSampleRefIdeal.τ).loc Cert.OutSampleRefIdeal.main_arg4))

def preserves_UpSample_UpSampleIdeal : Prop :=
  True

def algebraic_UpSampleIdeal_UpSampleRefIdeal [hUpSampleIdeal : Cert.UpSampleIdeal.Facts] [hUpSampleRefIdeal : Cert.UpSampleRefIdeal.Facts] : Prop :=
  ∀ (m : (ℓ : Loc Cert.UpSampleIdeal.nD Cert.UpSampleIdeal.τ Cert.UpSampleIdeal.sig) → Buf (Elt Ideal) ℓ) (g : Dev Cert.UpSampleIdeal.nD → PrngReg)
    (m' : (ℓ : Loc Cert.UpSampleRefIdeal.nD Cert.UpSampleRefIdeal.τ Cert.UpSampleRefIdeal.sig) → Buf (Elt Ideal) ℓ) (g' : Dev Cert.UpSampleRefIdeal.nD → PrngReg), Pre_UpSampleIdeal m →
    (∀ c : Dev Cert.UpSampleIdeal.nD,
      m' ((c.tc : Thread Cert.UpSampleRefIdeal.nD Cert.UpSampleRefIdeal.τ).loc Cert.UpSampleRefIdeal.main_arg0) = m ((c.tc : Thread Cert.UpSampleIdeal.nD Cert.UpSampleIdeal.τ).loc Cert.UpSampleIdeal.main_arg0)
      ∧ m' ((c.tc : Thread Cert.UpSampleRefIdeal.nD Cert.UpSampleRefIdeal.τ).loc Cert.UpSampleRefIdeal.main_arg1) = m ((c.tc : Thread Cert.UpSampleIdeal.nD Cert.UpSampleIdeal.τ).loc Cert.UpSampleIdeal.main_arg1)
      ∧ m' ((c.tc : Thread Cert.UpSampleRefIdeal.nD Cert.UpSampleRefIdeal.τ).loc Cert.UpSampleRefIdeal.main_arg2) = m ((c.tc : Thread Cert.UpSampleIdeal.nD Cert.UpSampleIdeal.τ).loc Cert.UpSampleIdeal.main_arg2)) →
    ∃ (v0 : (c : Dev Cert.UpSampleIdeal.nD) → Buf (Elt Ideal) ((c.tc : Thread Cert.UpSampleIdeal.nD Cert.UpSampleIdeal.τ).loc Cert.UpSampleIdeal.main_v2)),
      θ_run (Cert.UpSampleIdeal.defs (F := Ideal)) (onTc (τ := Cert.UpSampleIdeal.τ) (Cert.UpSampleIdeal.main (F := Ideal))) ⟨m, fun _ => 0, g⟩ (fun r => ∀ c : Dev Cert.UpSampleIdeal.nD,
          r.2.mem ((c.tc : Thread Cert.UpSampleIdeal.nD Cert.UpSampleIdeal.τ).loc Cert.UpSampleIdeal.main_v2) = v0 c
          ∧ r.2.mem ((c.tc : Thread Cert.UpSampleIdeal.nD Cert.UpSampleIdeal.τ).loc Cert.UpSampleIdeal.main_arg0) = m ((c.tc : Thread Cert.UpSampleIdeal.nD Cert.UpSampleIdeal.τ).loc Cert.UpSampleIdeal.main_arg0)
          ∧ r.2.mem ((c.tc : Thread Cert.UpSampleIdeal.nD Cert.UpSampleIdeal.τ).loc Cert.UpSampleIdeal.main_arg1) = m ((c.tc : Thread Cert.UpSampleIdeal.nD Cert.UpSampleIdeal.τ).loc Cert.UpSampleIdeal.main_arg1)
          ∧ r.2.mem ((c.tc : Thread Cert.UpSampleIdeal.nD Cert.UpSampleIdeal.τ).loc Cert.UpSampleIdeal.main_arg2) = m ((c.tc : Thread Cert.UpSampleIdeal.nD Cert.UpSampleIdeal.τ).loc Cert.UpSampleIdeal.main_arg2))
      ∧ θ_run (Cert.UpSampleRefIdeal.defs (F := Ideal)) (onTc (τ := Cert.UpSampleRefIdeal.τ) (Cert.UpSampleRefIdeal.main (F := Ideal))) ⟨m', fun _ => 0, g'⟩ (fun r => ∀ c : Dev Cert.UpSampleRefIdeal.nD,
          r.2.mem ((c.tc : Thread Cert.UpSampleRefIdeal.nD Cert.UpSampleRefIdeal.τ).loc Cert.UpSampleRefIdeal.main_v5) = v0 c
          ∧ r.2.mem ((c.tc : Thread Cert.UpSampleRefIdeal.nD Cert.UpSampleRefIdeal.τ).loc Cert.UpSampleRefIdeal.main_arg0) = m' ((c.tc : Thread Cert.UpSampleRefIdeal.nD Cert.UpSampleRefIdeal.τ).loc Cert.UpSampleRefIdeal.main_arg0)
          ∧ r.2.mem ((c.tc : Thread Cert.UpSampleRefIdeal.nD Cert.UpSampleRefIdeal.τ).loc Cert.UpSampleRefIdeal.main_arg1) = m' ((c.tc : Thread Cert.UpSampleRefIdeal.nD Cert.UpSampleRefIdeal.τ).loc Cert.UpSampleRefIdeal.main_arg1)
          ∧ r.2.mem ((c.tc : Thread Cert.UpSampleRefIdeal.nD Cert.UpSampleRefIdeal.τ).loc Cert.UpSampleRefIdeal.main_arg2) = m' ((c.tc : Thread Cert.UpSampleRefIdeal.nD Cert.UpSampleRefIdeal.τ).loc Cert.UpSampleRefIdeal.main_arg2))

def Claim : Prop :=
  ∃ (hMla : Cert.Mla.Facts) (hMlaIdeal : Cert.MlaIdeal.Facts) (hMlaRefIdeal : Cert.MlaRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts) (hGated : Cert.Gated.Facts) (hGatedIdeal : Cert.GatedIdeal.Facts) (hGatedRefIdeal : Cert.GatedRefIdeal.Facts) (hDownSample : Cert.DownSample.Facts) (hDownSampleIdeal : Cert.DownSampleIdeal.Facts) (hDownSampleRefIdeal : Cert.DownSampleRefIdeal.Facts) (hProjSample : Cert.ProjSample.Facts) (hProjSampleIdeal : Cert.ProjSampleIdeal.Facts) (hProjSampleRefIdeal : Cert.ProjSampleRefIdeal.Facts) (hGatedPrompt : Cert.GatedPrompt.Facts) (hGatedPromptIdeal : Cert.GatedPromptIdeal.Facts) (hGatedPromptRefIdeal : Cert.GatedPromptRefIdeal.Facts) (hOutSample : Cert.OutSample.Facts) (hOutSampleIdeal : Cert.OutSampleIdeal.Facts) (hOutSampleRefIdeal : Cert.OutSampleRefIdeal.Facts) (hUpSample : Cert.UpSample.Facts) (hUpSampleIdeal : Cert.UpSampleIdeal.Facts) (hUpSampleRefIdeal : Cert.UpSampleRefIdeal.Facts) (hPre_finite : Cert.Pre_finite.Facts) (hPre_bounds_finite : Cert.Pre_bounds_finite.Facts) (hPre_prompt_bounds_finite : Cert.Pre_prompt_bounds_finite.Facts),
    quiescent_Mla (hMla := hMla)
    ∧ quiescent_MlaIdeal (hMlaIdeal := hMlaIdeal)
    ∧ quiescent_MlaIdeal_pre_finite (hMlaIdeal := hMlaIdeal) (hPre_finite := hPre_finite)
    ∧ quiescent_MlaRefIdeal (hMlaRefIdeal := hMlaRefIdeal)
    ∧ quiescent_MlaRefIdeal_pre_finite (hMlaRefIdeal := hMlaRefIdeal) (hPre_finite := hPre_finite)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ quiescent_Gated (hGated := hGated)
    ∧ quiescent_GatedIdeal (hGatedIdeal := hGatedIdeal)
    ∧ quiescent_GatedIdeal_pre_bounds_finite (hGatedIdeal := hGatedIdeal) (hPre_bounds_finite := hPre_bounds_finite)
    ∧ quiescent_GatedRefIdeal (hGatedRefIdeal := hGatedRefIdeal)
    ∧ quiescent_GatedRefIdeal_pre_bounds_finite (hGatedRefIdeal := hGatedRefIdeal) (hPre_bounds_finite := hPre_bounds_finite)
    ∧ quiescent_DownSample (hDownSample := hDownSample)
    ∧ quiescent_DownSampleIdeal (hDownSampleIdeal := hDownSampleIdeal)
    ∧ quiescent_DownSampleRefIdeal (hDownSampleRefIdeal := hDownSampleRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_GatedPrompt (hGatedPrompt := hGatedPrompt)
    ∧ quiescent_GatedPromptIdeal (hGatedPromptIdeal := hGatedPromptIdeal)
    ∧ quiescent_GatedPromptIdeal_pre_prompt_bounds_finite (hGatedPromptIdeal := hGatedPromptIdeal) (hPre_prompt_bounds_finite := hPre_prompt_bounds_finite)
    ∧ quiescent_GatedPromptRefIdeal (hGatedPromptRefIdeal := hGatedPromptRefIdeal)
    ∧ quiescent_GatedPromptRefIdeal_pre_prompt_bounds_finite (hGatedPromptRefIdeal := hGatedPromptRefIdeal) (hPre_prompt_bounds_finite := hPre_prompt_bounds_finite)
    ∧ quiescent_OutSample (hOutSample := hOutSample)
    ∧ quiescent_OutSampleIdeal (hOutSampleIdeal := hOutSampleIdeal)
    ∧ quiescent_OutSampleRefIdeal (hOutSampleRefIdeal := hOutSampleRefIdeal)
    ∧ quiescent_UpSample (hUpSample := hUpSample)
    ∧ quiescent_UpSampleIdeal (hUpSampleIdeal := hUpSampleIdeal)
    ∧ quiescent_UpSampleRefIdeal (hUpSampleRefIdeal := hUpSampleRefIdeal)
    ∧ preserves_Mla_MlaIdeal
    ∧ algebraic_MlaIdeal_MlaRefIdeal_pre_finite (hMlaIdeal := hMlaIdeal) (hMlaRefIdeal := hMlaRefIdeal) (hPre_finite := hPre_finite)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
    ∧ preserves_Gated_GatedIdeal
    ∧ algebraic_GatedIdeal_GatedRefIdeal_pre_bounds_finite (hGatedIdeal := hGatedIdeal) (hGatedRefIdeal := hGatedRefIdeal) (hPre_bounds_finite := hPre_bounds_finite)
    ∧ preserves_DownSample_DownSampleIdeal
    ∧ algebraic_DownSampleIdeal_DownSampleRefIdeal (hDownSampleIdeal := hDownSampleIdeal) (hDownSampleRefIdeal := hDownSampleRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_GatedPrompt_GatedPromptIdeal
    ∧ algebraic_GatedPromptIdeal_GatedPromptRefIdeal_pre_prompt_bounds_finite (hGatedPromptIdeal := hGatedPromptIdeal) (hGatedPromptRefIdeal := hGatedPromptRefIdeal) (hPre_prompt_bounds_finite := hPre_prompt_bounds_finite)
    ∧ preserves_OutSample_OutSampleIdeal
    ∧ algebraic_OutSampleIdeal_OutSampleRefIdeal (hOutSampleIdeal := hOutSampleIdeal) (hOutSampleRefIdeal := hOutSampleRefIdeal)
    ∧ preserves_UpSample_UpSampleIdeal
    ∧ algebraic_UpSampleIdeal_UpSampleRefIdeal (hUpSampleIdeal := hUpSampleIdeal) (hUpSampleRefIdeal := hUpSampleRefIdeal)
-- ==== Pre_bounds_finite.lean ====
abbrev S128x8x3560 : Shape := ⟨3, ![128, 8, 3560]⟩
abbrev S512 : Shape := ⟨1, ![512]⟩
abbrev S4x128 : Shape := ⟨2, ![4, 128]⟩
abbrev S128x4x128x128 : Shape := ⟨4, ![128, 4, 128, 128]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S128x8x3560 .f32) (main_arg1 : FVec F S512 .f32) (main_arg2 : FVec F S4x128 .f32) (main_arg3 : FVec F S128x4x128x128 .f32) : IVec S_ 1 :=
  let main_v0 : FVec F S512 .f32 := Host.absf main_arg1
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  main_v3
-- ==== Pre_finite.lean ====
abbrev S8x2048x4x128 : Shape := ⟨4, ![8, 2048, 4, 128]⟩
abbrev S8x2048x4x32 : Shape := ⟨4, ![8, 2048, 4, 32]⟩
abbrev S8x2048x128 : Shape := ⟨3, ![8, 2048, 128]⟩
abbrev S8x2048x32 : Shape := ⟨3, ![8, 2048, 32]⟩
abbrev S128x4x64 : Shape := ⟨3, ![128, 4, 64]⟩
abbrev S_ : Shape := ⟨0, ![]⟩

class Facts : Prop where
  bcast_S_S8x2048x4x128 : S_.BroadcastsInDim S8x2048x4x128 (![] : Fin 0 → Fin S8x2048x4x128.rank)
  reducesTo_S8x2048x4x128_S_d0_1_2_3 : S8x2048x4x128.ReducesTo [0, 1, 2, 3] S_
  h_S_ : 0 < S_.numel
  bcast_S_S8x2048x4x32 : S_.BroadcastsInDim S8x2048x4x32 (![] : Fin 0 → Fin S8x2048x4x32.rank)
  reducesTo_S8x2048x4x32_S_d0_1_2_3 : S8x2048x4x32.ReducesTo [0, 1, 2, 3] S_
  bcast_S_S8x2048x128 : S_.BroadcastsInDim S8x2048x128 (![] : Fin 0 → Fin S8x2048x128.rank)
  reducesTo_S8x2048x128_S_d0_1_2 : S8x2048x128.ReducesTo [0, 1, 2] S_
  bcast_S_S8x2048x32 : S_.BroadcastsInDim S8x2048x32 (![] : Fin 0 → Fin S8x2048x32.rank)
  reducesTo_S8x2048x32_S_d0_1_2 : S8x2048x32.ReducesTo [0, 1, 2] S_

variable [Facts]

def fn_part1 {F : FTy → Type} [FloatOps F] (main_v13 : IVec S_ 1) (main_v16 : IVec S8x2048x32 1) : IVec S_ 1 :=
  let main_c_5 : IVec S_ 1 := constantI S_ 1 1#1
  let main_v17 : IVec S_ 1 := (fun x v => Host.reduce IntOp.andi x v reducesTo_S8x2048x32_S_d0_1_2 h_S_) main_v16 main_c_5
  let main_v18 : IVec S_ 1 := andi main_v13 main_v17
  main_v18

def fn {F : FTy → Type} [FloatOps F] (main_arg0 : FVec F S8x2048x4x128 .f32) (main_arg1 : FVec F S8x2048x4x32 .f32) (main_arg2 : FVec F S8x2048x128 .f32) (main_arg3 : FVec F S8x2048x32 .f32) (main_arg4 : FVec F S128x4x64 .f32) : IVec S_ 1 :=
  let main_v0 : FVec F S8x2048x4x128 .f32 := Host.absf main_arg0
  let main_cst : FVec F S_ .f32 := constant S_ .f32 0x7F800000#32
  let main_v1 : FVec F S8x2048x4x128 .f32 := broadcastInDim S8x2048x4x128 ![] bcast_S_S8x2048x4x128 main_cst
  let main_v2 : IVec S8x2048x4x128 1 := cmpf .olt main_v0 main_v1
  let main_c : IVec S_ 1 := constantI S_ 1 1#1
  let main_v3 : IVec S_ 1 := (fun x v => Host.reduce IntOp.andi x v reducesTo_S8x2048x4x128_S_d0_1_2_3 h_S_) main_v2 main_c
  let main_v4 : FVec F S8x2048x4x32 .f32 := Host.absf main_arg1
  let main_cst_0 : FVec F S_ .f32 := constant S_ .f32 0x7F800000#32
  let main_v5 : FVec F S8x2048x4x32 .f32 := broadcastInDim S8x2048x4x32 ![] bcast_S_S8x2048x4x32 main_cst_0
  let main_v6 : IVec S8x2048x4x32 1 := cmpf .olt main_v4 main_v5
  let main_c_1 : IVec S_ 1 := constantI S_ 1 1#1
  let main_v7 : IVec S_ 1 := (fun x v => Host.reduce IntOp.andi x v reducesTo_S8x2048x4x32_S_d0_1_2_3 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  let main_v14 : FVec F S8x2048x32 .f32 := Host.absf main_arg3
  let main_cst_4 : FVec F S_ .f32 := constant S_ .f32 0x7F800000#32
  let main_v15 : FVec F S8x2048x32 .f32 := broadcastInDim S8x2048x32 ![] bcast_S_S8x2048x32 main_cst_4
  let main_v16 : IVec S8x2048x32 1 := cmpf .olt main_v14 main_v15
  fn_part1 (F := F) main_v13 main_v16
-- ==== Pre_prompt_bounds_finite.lean ====
abbrev S8x2048x3560 : Shape := ⟨3, ![8, 2048, 3560]⟩
abbrev S512 : Shape := ⟨1, ![512]⟩
abbrev S4x128 : Shape := ⟨2, ![4, 128]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S8x2048x3560 .f32) (main_arg1 : FVec F S512 .f32) (main_arg2 : FVec F S4x128 .f32) : IVec S_ 1 :=
  let main_v0 : FVec F S512 .f32 := Host.absf main_arg1
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  main_v3
-- ==== Mla.lean ====
abbrev S8x2048x4x128 : Shape := ⟨4, ![8, 2048, 4, 128]⟩
abbrev S8x2048x4x32 : Shape := ⟨4, ![8, 2048, 4, 32]⟩
abbrev S8x2048x128 : Shape := ⟨3, ![8, 2048, 128]⟩
abbrev S8x2048x32 : Shape := ⟨3, ![8, 2048, 32]⟩
abbrev S128x4x64 : Shape := ⟨3, ![128, 4, 64]⟩
abbrev S8x2048x4x160 : Shape := ⟨4, ![8, 2048, 4, 160]⟩
abbrev S8x4x2048x160 : Shape := ⟨4, ![8, 4, 2048, 160]⟩
abbrev S8x2048x160 : Shape := ⟨3, ![8, 2048, 160]⟩
abbrev S4x128x64 : Shape := ⟨3, ![4, 128, 64]⟩
abbrev S8x4x2048x64 : Shape := ⟨4, ![8, 4, 2048, 64]⟩
abbrev S1x4x128x160 : Shape := ⟨4, ![1, 4, 128, 160]⟩
abbrev S1x2048x160 : Shape := ⟨3, ![1, 2048, 160]⟩
abbrev S1x4x128x64 : Shape := ⟨4, ![1, 4, 128, 64]⟩
abbrev S512x1 : Shape := ⟨2, ![512, 1]⟩
abbrev S512x128 : Shape := ⟨2, ![512, 128]⟩
abbrev S4x128x160 : Shape := ⟨3, ![4, 128, 160]⟩
abbrev S512x160 : Shape := ⟨2, ![512, 160]⟩
abbrev S512x512 : Shape := ⟨2, ![512, 512]⟩
abbrev S1x512x160 : Shape := ⟨3, ![1, 512, 160]⟩
abbrev S512 : Shape := ⟨1, ![512]⟩
abbrev S128x128 : Shape := ⟨2, ![128, 128]⟩
abbrev S1x128x64 : Shape := ⟨3, ![1, 128, 64]⟩
abbrev S128x64 : Shape := ⟨2, ![128, 64]⟩
abbrev S1x1x128x64 : Shape := ⟨4, ![1, 1, 128, 64]⟩

abbrev nBuf : Space → Nat
  | .hbm => 12
  | .vmem => 10
  | .smem => 0
  | _ => 0

abbrev bufTy : (tb : Table) → Fin (tcTables nBuf tb) → BufTy
  | .hbm, ⟨0, _⟩ => ⟨S8x2048x4x128, .f32⟩
  | .hbm, ⟨1, _⟩ => ⟨S8x2048x4x32, .f32⟩
  | .hbm, ⟨2, _⟩ => ⟨S8x2048x128, .f32⟩
  | .hbm, ⟨3, _⟩ => ⟨S8x2048x32, .f32⟩
  | .hbm, ⟨4, _⟩ => ⟨S128x4x64, .f32⟩
  | .hbm, ⟨5, _⟩ => ⟨S8x2048x4x160, .f32⟩
  | .hbm, ⟨6, _⟩ => ⟨S8x4x2048x160, .f32⟩
  | .hbm, ⟨7, _⟩ => ⟨S8x4x2048x160, .bf16⟩
  | .hbm, ⟨8, _⟩ => ⟨S8x2048x160, .f32⟩
  | .hbm, ⟨9, _⟩ => ⟨S8x2048x160, .bf16⟩
  | .hbm, ⟨10, _⟩ => ⟨S4x128x64, .f32⟩
  | .hbm, ⟨11, _⟩ => ⟨S8x4x2048x64, .f32⟩
  | .local _ .vmem, ⟨0, _⟩ => ⟨S1x4x128x160, .bf16⟩
  | .local _ .vmem, ⟨1, _⟩ => ⟨S1x4x128x160, .bf16⟩
  | .local _ .vmem, ⟨2, _⟩ => ⟨S1x2048x160, .bf16⟩
  | .local _ .vmem, ⟨3, _⟩ => ⟨S1x2048x160, .bf16⟩
  | .local _ .vmem, ⟨4, _⟩ => ⟨S4x128x64, .f32⟩
  | .local _ .vmem, ⟨5, _⟩ => ⟨S1x4x128x64, .f32⟩
  | .local _ .vmem, ⟨6, _⟩ => ⟨S1x4x128x64, .f32⟩
  | .local _ .vmem, ⟨7, _⟩ => ⟨S512x1, .f32⟩
  | .local _ .vmem, ⟨8, _⟩ => ⟨S512x1, .f32⟩
  | .local _ .vmem, ⟨9, _⟩ => ⟨S512x128, .f32⟩
  | _, _ => ⟨S8x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_18 : BitVec 32 := 0#32
  let arg1 : BitVec 32 := BitVec.ofNat 32 (i 1).val
  let c128_i32_11 : BitVec 32 := 128#32
  let v22 : BitVec 32 := Scalar.muli arg1 c128_i32_11
  let c0_i32 : BitVec 32 := 0#32
  let v24 : BitVec 1 := Scalar.cmpi .sgt v22 c0_i32
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c512_i32 : BitVec 32 := 512#32
  let c0_i32_13 : BitVec 32 := 0#32
  let v29 : BitVec 1 := Scalar.cmpi .sgt c512_i32 c0_i32_13
  let v30 : BitVec 32 := Scalar.extui v29
  let c0_i32_14 : BitVec 32 := 0#32
  let v31 : BitVec 1 := Scalar.cmpi .slt c512_i32 c0_i32_14
  let v32 : BitVec 32 := Scalar.extui v31
  let v33 : BitVec 32 := Scalar.subi v30 v32
  let v34 : BitVec 1 := Scalar.cmpi .ne v28 v33
  let v35 : BitVec 32 := Scalar.remsi v22 c512_i32
  let c0_i32_15 : BitVec 32 := 0#32
  let v36 : BitVec 1 := Scalar.cmpi .ne v35 c0_i32_15
  let v37 : BitVec 1 := Scalar.andi v34 v36
  let v23 : BitVec 32 := Scalar.divsi v22 c512_i32
  let c1_i32 : BitVec 32 := 1#32
  let v38 : BitVec 32 := Scalar.subi v23 c1_i32
  let v39 : BitVec 32 := Scalar.select v37 v38 v23
  let c1_i32_16 : BitVec 32 := 1#32
  let v40 : BitVec 32 := Scalar.addi v39 c1_i32_16
  let v41 : BitVec 32 := Scalar.subi v40 c0_i32_18
  let c1_i32_19 : BitVec 32 := 1#32
  let v43 : BitVec 32 := Scalar.divsi v41 c1_i32_19
  let v44 : BitVec 32 := Scalar.muli v43 c1_i32_19
  let v45 : BitVec 32 := Scalar.addi c0_i32_18 v44
  let c1_i32_20 : BitVec 32 := 1#32
  ⟨c0_i32_18, v45, c1_i32_20⟩
def k0_mult1 (i : grid0.Coords) (k0_t1 : Fin (k0_t1_loop i).trips) : BitVec 32 :=
  let c0_i32_18 : BitVec 32 := 0#32
  let c1_i32_20 : BitVec 32 := 1#32
  let arg9 : BitVec 32 := Scf.iv c0_i32_18 c1_i32_20 k0_t1
  let c512_i32_55 : BitVec 32 := 512#32
  let v83 : BitVec 32 := Scalar.muli arg9 c512_i32_55
  v83
def k0_off1 (i : grid0.Coords) (k0_t1 : Fin (k0_t1_loop i).trips) : Fin 3 → Nat :=
  let c0_56 : Index := 0#32
  let c0_i32_18 : BitVec 32 := 0#32
  let c1_i32_20 : BitVec 32 := 1#32
  let arg9 : BitVec 32 := Scf.iv c0_i32_18 c1_i32_20 k0_t1
  let c512_i32_55 : BitVec 32 := 512#32
  let v83 : BitVec 32 := Scalar.muli arg9 c512_i32_55
  let v84 : BitVec 32 := v83
  let v85 : Index := Scalar.indexCast v84
  let c0_57 : Index := 0#32
  ![0, v85.toNat, 0]
@[reducible] def k0_t2_loop (i : grid0.Coords) : Scf.Loop 32 :=
  let c0_i32_18 : BitVec 32 := 0#32
  let arg1 : BitVec 32 := BitVec.ofNat 32 (i 1).val
  let c128_i32_11 : BitVec 32 := 128#32
  let v22 : BitVec 32 := Scalar.muli arg1 c128_i32_11
  let c0_i32 : BitVec 32 := 0#32
  let v24 : BitVec 1 := Scalar.cmpi .sgt v22 c0_i32
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c512_i32 : BitVec 32 := 512#32
  let c0_i32_13 : BitVec 32 := 0#32
  let v29 : BitVec 1 := Scalar.cmpi .sgt c512_i32 c0_i32_13
  let v30 : BitVec 32 := Scalar.extui v29
  let c0_i32_14 : BitVec 32 := 0#32
  let v31 : BitVec 1 := Scalar.cmpi .slt c512_i32 c0_i32_14
  let v32 : BitVec 32 := Scalar.extui v31
  let v33 : BitVec 32 := Scalar.subi v30 v32
  let v34 : BitVec 1 := Scalar.cmpi .ne v28 v33
  let v35 : BitVec 32 := Scalar.remsi v22 c512_i32
  let c0_i32_15 : BitVec 32 := 0#32
  let v36 : BitVec 1 := Scalar.cmpi .ne v35 c0_i32_15
  let v37 : BitVec 1 := Scalar.andi v34 v36
  let v23 : BitVec 32 := Scalar.divsi v22 c512_i32
  let c1_i32 : BitVec 32 := 1#32
  let v38 : BitVec 32 := Scalar.subi v23 c1_i32
  let v39 : BitVec 32 := Scalar.select v37 v38 v23
  let c1_i32_16 : BitVec 32 := 1#32
  let v40 : BitVec 32 := Scalar.addi v39 c1_i32_16
  let v41 : BitVec 32 := Scalar.subi v40 c0_i32_18
  let c1_i32_19 : BitVec 32 := 1#32
  let v43 : BitVec 32 := Scalar.divsi v41 c1_i32_19
  let v44 : BitVec 32 := Scalar.muli v43 c1_i32_19
  let v45 : BitVec 32 := Scalar.addi c0_i32_18 v44
  let v42 : BitVec 32 := Scalar.addi c0_i32_18 v41
  let c1_i32_21 : BitVec 32 := 1#32
  ⟨v45, v42, c1_i32_21⟩
def k0_mult2 (i : grid0.Coords) (k0_t2 : Fin (k0_t2_loop i).trips) : BitVec 32 :=
  let c0_i32_18 : BitVec 32 := 0#32
  let arg1 : BitVec 32 := BitVec.ofNat 32 (i 1).val
  let c128_i32_11 : BitVec 32 := 128#32
  let v22 : BitVec 32 := Scalar.muli arg1 c128_i32_11
  let c0_i32 : BitVec 32 := 0#32
  let v24 : BitVec 1 := Scalar.cmpi .sgt v22 c0_i32
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c512_i32 : BitVec 32 := 512#32
  let c0_i32_13 : BitVec 32 := 0#32
  let v29 : BitVec 1 := Scalar.cmpi .sgt c512_i32 c0_i32_13
  let v30 : BitVec 32 := Scalar.extui v29
  let c0_i32_14 : BitVec 32 := 0#32
  let v31 : BitVec 1 := Scalar.cmpi .slt c512_i32 c0_i32_14
  let v32 : BitVec 32 := Scalar.extui v31
  let v33 : BitVec 32 := Scalar.subi v30 v32
  let v34 : BitVec 1 := Scalar.cmpi .ne v28 v33
  let v35 : BitVec 32 := Scalar.remsi v22 c512_i32
  let c0_i32_15 : BitVec 32 := 0#32
  let v36 : BitVec 1 := Scalar.cmpi .ne v35 c0_i32_15
  let v37 : BitVec 1 := Scalar.andi v34 v36
  let v23 : BitVec 32 := Scalar.divsi v22 c512_i32
  let c1_i32 : BitVec 32 := 1#32
  let v38 : BitVec 32 := Scalar.subi v23 c1_i32
  let v39 : BitVec 32 := Scalar.select v37 v38 v23
  let c1_i32_16 : BitVec 32 := 1#32
  let v40 : BitVec 32 := Scalar.addi v39 c1_i32_16
  let v41 : BitVec 32 := Scalar.subi v40 c0_i32_18
  let c1_i32_19 : BitVec 32 := 1#32
  let v43 : BitVec 32 := Scalar.divsi v41 c1_i32_19
  let v44 : BitVec 32 := Scalar.muli v43 c1_i32_19
  let v45 : BitVec 32 := Scalar.addi c0_i32_18 v44
  let c1_i32_21 : BitVec 32 := 1#32
  let arg9 : BitVec 32 := Scf.iv v45 c1_i32_21 k0_t2
  let c512_i32_55 : BitVec 32 := 512#32
  let v83 : BitVec 32 := Scalar.muli arg9 c512_i32_55
  v83
def k0_off2 (i : grid0.Coords) (k0_t2 : Fin (k0_t2_loop i).trips) : Fin 3 → Nat :=
  let c0_56 : Index := 0#32
  let c0_i32_18 : BitVec 32 := 0#32
  let arg1 : BitVec 32 := BitVec.ofNat 32 (i 1).val
  let c128_i32_11 : BitVec 32 := 128#32
  let v22 : BitVec 32 := Scalar.muli arg1 c128_i32_11
  let c0_i32 : BitVec 32 := 0#32
  let v24 : BitVec 1 := Scalar.cmpi .sgt v22 c0_i32
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c512_i32 : BitVec 32 := 512#32
  let c0_i32_13 : BitVec 32 := 0#32
  let v29 : BitVec 1 := Scalar.cmpi .sgt c512_i32 c0_i32_13
  let v30 : BitVec 32 := Scalar.extui v29
  let c0_i32_14 : BitVec 32 := 0#32
  let v31 : BitVec 1 := Scalar.cmpi .slt c512_i32 c0_i32_14
  let v32 : BitVec 32 := Scalar.extui v31
  let v33 : BitVec 32 := Scalar.subi v30 v32
  let v34 : BitVec 1 := Scalar.cmpi .ne v28 v33
  let v35 : BitVec 32 := Scalar.remsi v22 c512_i32
  let c0_i32_15 : BitVec 32 := 0#32
  let v36 : BitVec 1 := Scalar.cmpi .ne v35 c0_i32_15
  let v37 : BitVec 1 := Scalar.andi v34 v36
  let v23 : BitVec 32 := Scalar.divsi v22 c512_i32
  let c1_i32 : BitVec 32 := 1#32
  let v38 : BitVec 32 := Scalar.subi v23 c1_i32
  let v39 : BitVec 32 := Scalar.select v37 v38 v23
  let c1_i32_16 : BitVec 32 := 1#32
  let v40 : BitVec 32 := Scalar.addi v39 c1_i32_16
  let v41 : BitVec 32 := Scalar.subi v40 c0_i32_18
  let c1_i32_19 : BitVec 32 := 1#32
  let v43 : BitVec 32 := Scalar.divsi v41 c1_i32_19
  let v44 : BitVec 32 := Scalar.muli v43 c1_i32_19
  let v45 : BitVec 32 := Scalar.addi c0_i32_18 v44
  let c1_i32_21 : BitVec 32 := 1#32
  let arg9 : BitVec 32 := Scf.iv v45 c1_i32_21 k0_t2
  let c512_i32_55 : BitVec 32 := 512#32
  let v83 : BitVec 32 := Scalar.muli arg9 c512_i32_55
  let v84 : BitVec 32 := v83
  let v85 : Index := Scalar.indexCast v84
  let c0_57 : Index := 0#32
  ![0, v85.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4x128x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x160 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaIdeal.lean ====
variable {F : FTy → Type} [FloatOps F] [Named F]
def κ : String → Option EReal := fun
  | "mask" => some ⊥
  | _ => none
-- ==== MlaRefIdeal.lean ====
abbrev S8x2048x4x128 : Shape := ⟨4, ![8, 2048, 4, 128]⟩
abbrev S8x2048x4x32 : Shape := ⟨4, ![8, 2048, 4, 32]⟩
abbrev S8x2048x128 : Shape := ⟨3, ![8, 2048, 128]⟩
abbrev S8x2048x32 : Shape := ⟨3, ![8, 2048, 32]⟩
abbrev S128x4x64 : Shape := ⟨3, ![128, 4, 64]⟩
abbrev S2048 : Shape := ⟨1, ![2048]⟩
abbrev S8x2048x2048x4 : Shape := ⟨4, ![8, 2048, 2048, 4]⟩
abbrev S8x4x2048x2048 : Shape := ⟨4, ![8, 4, 2048, 2048]⟩
abbrev S_ : Shape := ⟨0, ![]⟩
abbrev S1x1x1x2048 : Shape := ⟨4, ![1, 1, 1, 2048]⟩
abbrev S1x1x2048x1 : Shape := ⟨4, ![1, 1, 2048, 1]⟩
abbrev S1x1x2048x2048 : Shape := ⟨4, ![1, 1, 2048, 2048]⟩
abbrev S8x4x2048 : Shape := ⟨3, ![8, 4, 2048]⟩
abbrev S8x4x2048x1 : Shape := ⟨4, ![8, 4, 2048, 1]⟩
abbrev S8x128x4x2048 : Shape := ⟨4, ![8, 128, 4, 2048]⟩
abbrev S4x64x8x2048 : Shape := ⟨4, ![4, 64, 8, 2048]⟩
abbrev S8x2048x4x64 : Shape := ⟨4, ![8, 2048, 4, 64]⟩
abbrev S8x4x2048x64 : Shape := ⟨4, ![8, 4, 2048, 64]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x4x128, .f32⟩
  | .hbm, ⟨1, _⟩ => ⟨S8x2048x4x32, .f32⟩
  | .hbm, ⟨2, _⟩ => ⟨S8x2048x128, .f32⟩
  | .hbm, ⟨3, _⟩ => ⟨S8x2048x32, .f32⟩
  | .hbm, ⟨4, _⟩ => ⟨S128x4x64, .f32⟩
  | .hbm, ⟨5, _⟩ => ⟨S2048, .i32⟩
  | .hbm, ⟨6, _⟩ => ⟨S8x2048x2048x4, .f32⟩
  | .hbm, ⟨7, _⟩ => ⟨S8x4x2048x2048, .f32⟩
  | .hbm, ⟨8, _⟩ => ⟨S8x2048x2048x4, .f32⟩
  | .hbm, ⟨9, _⟩ => ⟨S8x4x2048x2048, .f32⟩
  | .hbm, ⟨10, _⟩ => ⟨S8x4x2048x2048, .f32⟩
  | .hbm, ⟨11, _⟩ => ⟨S_, .f32⟩
  | .hbm, ⟨12, _⟩ => ⟨S8x4x2048x2048, .f32⟩
  | .hbm, ⟨13, _⟩ => ⟨S8x4x2048x2048, .f32⟩
  | .hbm, ⟨14, _⟩ => ⟨S1x1x1x2048, .i32⟩
  | .hbm, ⟨15, _⟩ => ⟨S1x1x2048x1, .i32⟩
  | .hbm, ⟨16, _⟩ => ⟨S1x1x2048x2048, .i32⟩
  | .hbm, ⟨17, _⟩ => ⟨S1x1x2048x2048, .i32⟩
  | .hbm, ⟨18, _⟩ => ⟨S1x1x2048x2048, .i1⟩
  | .hbm, ⟨19, _⟩ => ⟨S_, .f32⟩
  | .hbm, ⟨20, _⟩ => ⟨S_, .f32⟩
  | .hbm, ⟨21, _⟩ => ⟨S8x4x2048x2048, .i1⟩
  | .hbm, ⟨22, _⟩ => ⟨S8x4x2048x2048, .f32⟩
  | .hbm, ⟨23, _⟩ => ⟨S8x4x2048x2048, .f32⟩
  | .hbm, ⟨24, _⟩ => ⟨S_, .f32⟩
  | .hbm, ⟨25, _⟩ => ⟨S8x4x2048, .f32⟩
  | .hbm, ⟨26, _⟩ => ⟨S_, .f32⟩
  | .hbm, ⟨27, _⟩ => ⟨S8x4x2048, .f32⟩
  | .hbm, ⟨28, _⟩ => ⟨S8x4x2048, .f32⟩
  | .hbm, ⟨29, _⟩ => ⟨S8x4x2048x1, .f32⟩
  | .hbm, ⟨30, _⟩ => ⟨S8x4x2048x2048, .f32⟩
  | .hbm, ⟨31, _⟩ => ⟨S8x4x2048x2048, .f32⟩
  | .hbm, ⟨32, _⟩ => ⟨S8x4x2048x2048, .f32⟩
  | .hbm, ⟨33, _⟩ => ⟨S_, .f32⟩
  | .hbm, ⟨34, _⟩ => ⟨S8x4x2048, .f32⟩
  | .hbm, ⟨35, _⟩ => ⟨S8x4x2048x1, .f32⟩
  | .hbm, ⟨36, _⟩ => ⟨S8x4x2048x2048, .f32⟩
  | .hbm, ⟨37, _⟩ => ⟨S8x4x2048x2048, .f32⟩
  | .hbm, ⟨38, _⟩ => ⟨S8x128x4x2048, .f32⟩
  | .hbm, ⟨39, _⟩ => ⟨S8x2048x4x128, .f32⟩
  | .hbm, ⟨40, _⟩ => ⟨S4x64x8x2048, .f32⟩
  | .hbm, ⟨41, _⟩ => ⟨S8x2048x4x64, .f32⟩
  | .hbm, ⟨42, _⟩ => ⟨S8x4x2048x64, .f32⟩
  | _, _ => ⟨S8x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Out.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S16384x1024, .bf16⟩
  | .hbm, ⟨7, _⟩ => ⟨S1024x1024, .bf16⟩
  | .hbm, ⟨8, _⟩ => ⟨S16384x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutIdeal.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S16384x1024, .bf16⟩
  | .hbm, ⟨7, _⟩ => ⟨S1024x1024, .bf16⟩
  | .hbm, ⟨8, _⟩ => ⟨S16384x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S1x1x1024, .f32⟩
  | .hbm, ⟨37, _⟩ => ⟨S8x2048x1024, .f32⟩
  | .hbm, ⟨38, _⟩ => ⟨S8x2048x1024, .f32⟩
  | .hbm, ⟨39, _⟩ => ⟨S16384x1024, .f32⟩
  | .hbm, ⟨40, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Up.lean ====
abbrev S16384x1024 : Shape := ⟨2, ![16384, 1024]⟩
abbrev S1024x2816 : Shape := ⟨2, ![1024, 2816]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .f32⟩
  | .hbm, ⟨2, _⟩ => ⟨S1024x2816, .f32⟩
  | .hbm, ⟨3, _⟩ => ⟨S1024x2816, .bf16⟩
  | .hbm, ⟨4, _⟩ => ⟨S1024x2816, .bf16⟩
  | .hbm, ⟨5, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpIdeal.lean ====
abbrev S16384x1024 : Shape := ⟨2, ![16384, 1024]⟩
abbrev S1024x2816 : Shape := ⟨2, ![1024, 2816]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .f32⟩
  | .hbm, ⟨2, _⟩ => ⟨S1024x2816, .f32⟩
  | .hbm, ⟨3, _⟩ => ⟨S1024x2816, .bf16⟩
  | .hbm, ⟨4, _⟩ => ⟨S1024x2816, .bf16⟩
  | .hbm, ⟨5, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16384x1024 : Shape := ⟨2, ![16384, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .f32⟩
  | .hbm, ⟨2, _⟩ => ⟨S1024x2816, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownIdeal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x2816, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proj.lean ====
abbrev S8x2048x1024 : Shape := ⟨3, ![8, 2048, 1024]⟩
abbrev S1024x3560 : Shape := ⟨2, ![1024, 3560]⟩
abbrev S128 : Shape := ⟨1, ![128]⟩
abbrev S16384x1024 : Shape := ⟨2, ![16384, 1024]⟩
abbrev S16384x3560 : Shape := ⟨2, ![16384, 3560]⟩
abbrev S1024x1024 : Shape := ⟨2, ![1024, 1024]⟩
abbrev S1024x512 : Shape := ⟨2, ![1024, 512]⟩
abbrev S8x2048x3560 : Shape := ⟨3, ![8, 2048, 3560]⟩
abbrev S2048 : Shape := ⟨1, ![2048]⟩
abbrev S8x2048x512 : Shape := ⟨3, ![8, 2048, 512]⟩
abbrev S8x2048x256 : Shape := ⟨3, ![8, 2048, 256]⟩
abbrev S8x2048x128 : Shape := ⟨3, ![8, 2048, 128]⟩
abbrev S8x2048x64 : Shape := ⟨3, ![8, 2048, 64]⟩
abbrev S8x2048x8 : Shape := ⟨3, ![8, 2048, 8]⟩
abbrev S8x2048x32 : Shape := ⟨3, ![8, 2048, 32]⟩
abbrev S8x2048x2x64 : Shape := ⟨4, ![8, 2048, 2, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x2x32 : Shape := ⟨4, ![8, 2048, 2, 32]⟩
abbrev S1x2048x1x32 : Shape := ⟨4, ![1, 2048, 1, 32]⟩
abbrev S8x2048x1x64 : Shape := ⟨4, ![8, 2048, 1, 64]⟩
abbrev S8x2048x1x32 : Shape := ⟨4, ![8, 2048, 1, 32]⟩
abbrev S8x2048 : Shape := ⟨2, ![8, 2048]⟩
abbrev S8x2048x1 : Shape := ⟨3, ![8, 2048, 1]⟩
abbrev S1x1x128 : Shape := ⟨3, ![1, 1, 128]⟩
abbrev S16 : Shape := ⟨1, ![16]⟩
abbrev S1x16 : Shape := ⟨2, ![1, 16]⟩
abbrev S2048x16 : Shape := ⟨2, ![2048, 16]⟩
abbrev S2048x1x16 : Shape := ⟨3, ![2048, 1, 16]⟩
abbrev S8x2048x1x16 : Shape := ⟨4, ![8, 2048, 1, 16]⟩
abbrev S1x2048x1x16 : Shape := ⟨4, ![1, 2048, 1, 16]⟩

abbrev nBuf : Space → Nat
  | .hbm => 149
  | .vmem => 6
  | .smem => 0
  | _ => 0

abbrev hbmTy0_0 (i : Nat) : BufTy := match i % 128 with
  | 0 => ⟨S8x2048x1024, .f32⟩
  | 1 => ⟨S1024x3560, .f32⟩
  | 2 => ⟨S128, .f32⟩
  | 3 => ⟨S8x2048x1024, .bf16⟩
  | 4 => ⟨S1024x3560, .bf16⟩
  | 5 => ⟨S16384x1024, .bf16⟩
  | 6 => ⟨S16384x3560, .f32⟩
  | 7 => ⟨S8x2048x3560, .f32⟩
  | 8 => ⟨S2048, .i32⟩
  | 9 => ⟨S8x2048x512, .f32⟩
  | 10 => ⟨S8x2048x512, .f32⟩
  | 11 => ⟨S8x2048x512, .f32⟩
  | 12 => ⟨S8x2048x512, .f32⟩
  | 13 => ⟨S8x2048x256, .f32⟩
  | 14 => ⟨S8x2048x128, .f32⟩
  | 15 => ⟨S8x2048x128, .f32⟩
  | 16 => ⟨S8x2048x512, .f32⟩
  | 17 => ⟨S8x2048x64, .f32⟩
  | 18 => ⟨S8x2048x8, .f32⟩
  | 19 => ⟨S8x2048x256, .f32⟩
  | 20 => ⟨S8x2048x128, .f32⟩
  | 21 => ⟨S8x2048x32, .f32⟩
  | 22 => ⟨S8x2048x2x64, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S2048, .f32⟩
  | 32 => ⟨S2048x1, .f32⟩
  | 33 => ⟨S1x32, .f32⟩
  | 34 => ⟨S2048x32, .f32⟩
  | 35 => ⟨S2048x32, .f32⟩
  | 36 => ⟨S2048x32, .f32⟩
  | 37 => ⟨S2048x32, .f32⟩
  | 38 => ⟨S2048x1x32, .f32⟩
  | 39 => ⟨S2048x32, .f32⟩
  | 40 => ⟨S2048x1x32, .f32⟩
  | 41 => ⟨S8x2048x2x32, .f32⟩
  | 42 => ⟨S8x2048x2x32, .f32⟩
  | 43 => ⟨S1x2048x1x32, .f32⟩
  | 44 => ⟨S8x2048x2x32, .f32⟩
  | 45 => ⟨S8x2048x2x32, .f32⟩
  | 46 => ⟨S1x2048x1x32, .f32⟩
  | 47 => ⟨S8x2048x2x32, .f32⟩
  | 48 => ⟨S8x2048x2x32, .f32⟩
  | 49 => ⟨S8x2048x2x32, .f32⟩
  | 50 => ⟨S1x2048x1x32, .f32⟩
  | 51 => ⟨S8x2048x2x32, .f32⟩
  | 52 => ⟨S8x2048x2x32, .f32⟩
  | 53 => ⟨S1x2048x1x32, .f32⟩
  | 54 => ⟨S8x2048x2x32, .f32⟩
  | 55 => ⟨S8x2048x2x32, .f32⟩
  | 56 => ⟨S8x2048x2x32, .f32⟩
  | 57 => ⟨S8x2048x2x64, .f32⟩
  | 58 => ⟨S8x2048x2x64, .f32⟩
  | 59 => ⟨S8x2048x1x64, .f32⟩
  | 60 => ⟨S32, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S2048, .f32⟩
  | 69 => ⟨S2048x1, .f32⟩
  | 70 => ⟨S1x32, .f32⟩
  | 71 => ⟨S2048x32, .f32⟩
  | 72 => ⟨S2048x32, .f32⟩
  | 73 => ⟨S2048x32, .f32⟩
  | 74 => ⟨S2048x32, .f32⟩
  | 75 => ⟨S2048x1x32, .f32⟩
  | 76 => ⟨S2048x32, .f32⟩
  | 77 => ⟨S2048x1x32, .f32⟩
  | 78 => ⟨S8x2048x1x32, .f32⟩
  | 79 => ⟨S8x2048x1x32, .f32⟩
  | 80 => ⟨S1x2048x1x32, .f32⟩
  | 81 => ⟨S8x2048x1x32, .f32⟩
  | 82 => ⟨S8x2048x1x32, .f32⟩
  | 83 => ⟨S1x2048x1x32, .f32⟩
  | 84 => ⟨S8x2048x1x32, .f32⟩
  | 85 => ⟨S8x2048x1x32, .f32⟩
  | 86 => ⟨S8x2048x1x32, .f32⟩
  | 87 => ⟨S1x2048x1x32, .f32⟩
  | 88 => ⟨S8x2048x1x32, .f32⟩
  | 89 => ⟨S8x2048x1x32, .f32⟩
  | 90 => ⟨S1x2048x1x32, .f32⟩
  | 91 => ⟨S8x2048x1x32, .f32⟩
  | 92 => ⟨S8x2048x1x32, .f32⟩
  | 93 => ⟨S8x2048x1x32, .f32⟩
  | 94 => ⟨S8x2048x1x64, .f32⟩
  | 95 => ⟨S8x2048x64, .f32⟩
  | 96 => ⟨S8x2048x128, .f32⟩
  | 97 => ⟨S_, .f32⟩
  | 98 => ⟨S8x2048, .f32⟩
  | 99 => ⟨S8x2048x1, .f32⟩
  | 100 => ⟨S_, .f32⟩
  | 101 => ⟨S8x2048x1, .f32⟩
  | 102 => ⟨S8x2048x1, .f32⟩
  | 103 => ⟨S_, .f32⟩
  | 104 => ⟨S8x2048x1, .f32⟩
  | 105 => ⟨S8x2048x1, .f32⟩
  | 106 => ⟨S8x2048x1, .f32⟩
  | 107 => ⟨S8x2048x128, .f32⟩
  | 108 => ⟨S8x2048x128, .f32⟩
  | 109 => ⟨S1x1x128, .f32⟩
  | 110 => ⟨S8x2048x128, .f32⟩
  | 111 => ⟨S8x2048x128, .f32⟩
  | 112 => ⟨S8x2048x1x32, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S2048, .f32⟩
  | 122 => ⟨S2048x1, .f32⟩
  | 123 => ⟨S1x16, .f32⟩
  | 124 => ⟨S2048x16, .f32⟩
  | 125 => ⟨S2048x16, .f32⟩
  | 126 => ⟨S2048x16, .f32⟩
  | 127 => ⟨S2048x16, .f32⟩
  | _ => ⟨S8x2048x1024, .f32⟩

abbrev hbmTy0_1 (i : Nat) : BufTy := match i % 128 with
  | 0 => ⟨S2048x1x16, .f32⟩
  | 1 => ⟨S2048x16, .f32⟩
  | 2 => ⟨S2048x1x16, .f32⟩
  | 3 => ⟨S8x2048x1x16, .f32⟩
  | 4 => ⟨S8x2048x1x16, .f32⟩
  | 5 => ⟨S1x2048x1x16, .f32⟩
  | 6 => ⟨S8x2048x1x16, .f32⟩
  | 7 => ⟨S8x2048x1x16, .f32⟩
  | 8 => ⟨S1x2048x1x16, .f32⟩
  | 9 => ⟨S8x2048x1x16, .f32⟩
  | 10 => ⟨S8x2048x1x16, .f32⟩
  | 11 => ⟨S8x2048x1x16, .f32⟩
  | 12 => ⟨S1x2048x1x16, .f32⟩
  | 13 => ⟨S8x2048x1x16, .f32⟩
  | 14 => ⟨S8x2048x1x16, .f32⟩
  | 15 => ⟨S1x2048x1x16, .f32⟩
  | 16 => ⟨S8x2048x1x16, .f32⟩
  | 17 => ⟨S8x2048x1x16, .f32⟩
  | 18 => ⟨S8x2048x1x16, .f32⟩
  | 19 => ⟨S8x2048x1x32, .f32⟩
  | 20 => ⟨S8x2048x32, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_cst_1 : Ref sig .tc := ⟨.hbm, 62, rfl⟩
abbrev main_v57 : Ref sig .tc := ⟨.hbm, 63, rfl⟩
abbrev main_v58 : Ref sig .tc := ⟨.hbm, 64, rfl⟩
abbrev main_cst_2 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_cst_3 : Ref sig .tc := ⟨.hbm, 97, rfl⟩
abbrev main_v90 : Ref sig .tc := ⟨.hbm, 98, rfl⟩
abbrev main_v91 : Ref sig .tc := ⟨.hbm, 99, rfl⟩
abbrev main_cst_4 : Ref sig .tc := ⟨.hbm, 100, rfl⟩
abbrev main_v92 : Ref sig .tc := ⟨.hbm, 101, rfl⟩
abbrev main_v93 : Ref sig .tc := ⟨.hbm, 102, rfl⟩
abbrev main_cst_5 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_cst_6 : Ref sig .tc := ⟨.hbm, 115, rfl⟩
abbrev main_v105 : Ref sig .tc := ⟨.hbm, 116, rfl⟩
abbrev main_v106 : Ref sig .tc := ⟨.hbm, 117, rfl⟩
abbrev main_cst_7 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8x2048x1024 : Shape := ⟨3, ![8, 2048, 1024]⟩
abbrev S1024x3560 : Shape := ⟨2, ![1024, 3560]⟩
abbrev S128 : Shape := ⟨1, ![128]⟩
abbrev S2048 : Shape := ⟨1, ![2048]⟩
abbrev S8x2048x3560 : Shape := ⟨3, ![8, 2048, 3560]⟩
abbrev S8x2048x512 : Shape := ⟨3, ![8, 2048, 512]⟩
abbrev S8x2048x256 : Shape := ⟨3, ![8, 2048, 256]⟩
abbrev S8x2048x128 : Shape := ⟨3, ![8, 2048, 128]⟩
abbrev S8x2048x64 : Shape := ⟨3, ![8, 2048, 64]⟩
abbrev S8x2048x8 : Shape := ⟨3, ![8, 2048, 8]⟩
abbrev S8x2048x32 : Shape := ⟨3, ![8, 2048, 32]⟩
abbrev S8x2048x2x64 : Shape := ⟨4, ![8, 2048, 2, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x2x32 : Shape := ⟨4, ![8, 2048, 2, 32]⟩
abbrev S1x2048x1x32 : Shape := ⟨4, ![1, 2048, 1, 32]⟩
abbrev S8x2048x1x64 : Shape := ⟨4, ![8, 2048, 1, 64]⟩
abbrev S8x2048x1x32 : Shape := ⟨4, ![8, 2048, 1, 32]⟩
abbrev S8x2048 : Shape := ⟨2, ![8, 2048]⟩
abbrev S8x2048x1 : Shape := ⟨3, ![8, 2048, 1]⟩
abbrev S1x1x128 : Shape := ⟨3, ![1, 1, 128]⟩
abbrev S16 : Shape := ⟨1, ![16]⟩
abbrev S1x16 : Shape := ⟨2, ![1, 16]⟩
abbrev S2048x16 : Shape := ⟨2, ![2048, 16]⟩
abbrev S2048x1x16 : Shape := ⟨3, ![2048, 1, 16]⟩
abbrev S8x2048x1x16 : Shape := ⟨4, ![8, 2048, 1, 16]⟩
abbrev S1x2048x1x16 : Shape := ⟨4, ![1, 2048, 1, 16]⟩

abbrev nBuf : Space → Nat
  | .hbm => 145
  | .vmem => 0
  | .smem => 0
  | _ => 0

abbrev hbmTy0_0 (i : Nat) : BufTy := match i % 128 with
  | 0 => ⟨S8x2048x1024, .f32⟩
  | 1 => ⟨S1024x3560, .f32⟩
  | 2 => ⟨S128, .f32⟩
  | 3 => ⟨S2048, .i32⟩
  | 4 => ⟨S8x2048x3560, .f32⟩
  | 5 => ⟨S8x2048x512, .f32⟩
  | 6 => ⟨S8x2048x512, .f32⟩
  | 7 => ⟨S8x2048x512, .f32⟩
  | 8 => ⟨S8x2048x512, .f32⟩
  | 9 => ⟨S8x2048x256, .f32⟩
  | 10 => ⟨S8x2048x128, .f32⟩
  | 11 => ⟨S8x2048x128, .f32⟩
  | 12 => ⟨S8x2048x512, .f32⟩
  | 13 => ⟨S8x2048x64, .f32⟩
  | 14 => ⟨S8x2048x8, .f32⟩
  | 15 => ⟨S8x2048x256, .f32⟩
  | 16 => ⟨S8x2048x128, .f32⟩
  | 17 => ⟨S8x2048x32, .f32⟩
  | 18 => ⟨S8x2048x2x64, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S2048, .f32⟩
  | 28 => ⟨S2048x1, .f32⟩
  | 29 => ⟨S1x32, .f32⟩
  | 30 => ⟨S2048x32, .f32⟩
  | 31 => ⟨S2048x32, .f32⟩
  | 32 => ⟨S2048x32, .f32⟩
  | 33 => ⟨S2048x32, .f32⟩
  | 34 => ⟨S2048x1x32, .f32⟩
  | 35 => ⟨S2048x32, .f32⟩
  | 36 => ⟨S2048x1x32, .f32⟩
  | 37 => ⟨S8x2048x2x32, .f32⟩
  | 38 => ⟨S8x2048x2x32, .f32⟩
  | 39 => ⟨S1x2048x1x32, .f32⟩
  | 40 => ⟨S8x2048x2x32, .f32⟩
  | 41 => ⟨S8x2048x2x32, .f32⟩
  | 42 => ⟨S1x2048x1x32, .f32⟩
  | 43 => ⟨S8x2048x2x32, .f32⟩
  | 44 => ⟨S8x2048x2x32, .f32⟩
  | 45 => ⟨S8x2048x2x32, .f32⟩
  | 46 => ⟨S1x2048x1x32, .f32⟩
  | 47 => ⟨S8x2048x2x32, .f32⟩
  | 48 => ⟨S8x2048x2x32, .f32⟩
  | 49 => ⟨S1x2048x1x32, .f32⟩
  | 50 => ⟨S8x2048x2x32, .f32⟩
  | 51 => ⟨S8x2048x2x32, .f32⟩
  | 52 => ⟨S8x2048x2x32, .f32⟩
  | 53 => ⟨S8x2048x2x64, .f32⟩
  | 54 => ⟨S8x2048x2x64, .f32⟩
  | 55 => ⟨S8x2048x1x64, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S2048, .f32⟩
  | 65 => ⟨S2048x1, .f32⟩
  | 66 => ⟨S1x32, .f32⟩
  | 67 => ⟨S2048x32, .f32⟩
  | 68 => ⟨S2048x32, .f32⟩
  | 69 => ⟨S2048x32, .f32⟩
  | 70 => ⟨S2048x32, .f32⟩
  | 71 => ⟨S2048x1x32, .f32⟩
  | 72 => ⟨S2048x32, .f32⟩
  | 73 => ⟨S2048x1x32, .f32⟩
  | 74 => ⟨S8x2048x1x32, .f32⟩
  | 75 => ⟨S8x2048x1x32, .f32⟩
  | 76 => ⟨S1x2048x1x32, .f32⟩
  | 77 => ⟨S8x2048x1x32, .f32⟩
  | 78 => ⟨S8x2048x1x32, .f32⟩
  | 79 => ⟨S1x2048x1x32, .f32⟩
  | 80 => ⟨S8x2048x1x32, .f32⟩
  | 81 => ⟨S8x2048x1x32, .f32⟩
  | 82 => ⟨S8x2048x1x32, .f32⟩
  | 83 => ⟨S1x2048x1x32, .f32⟩
  | 84 => ⟨S8x2048x1x32, .f32⟩
  | 85 => ⟨S8x2048x1x32, .f32⟩
  | 86 => ⟨S1x2048x1x32, .f32⟩
  | 87 => ⟨S8x2048x1x32, .f32⟩
  | 88 => ⟨S8x2048x1x32, .f32⟩
  | 89 => ⟨S8x2048x1x32, .f32⟩
  | 90 => ⟨S8x2048x1x64, .f32⟩
  | 91 => ⟨S8x2048x64, .f32⟩
  | 92 => ⟨S8x2048x128, .f32⟩
  | 93 => ⟨S_, .f32⟩
  | 94 => ⟨S8x2048, .f32⟩
  | 95 => ⟨S8x2048x1, .f32⟩
  | 96 => ⟨S_, .f32⟩
  | 97 => ⟨S8x2048x1, .f32⟩
  | 98 => ⟨S8x2048x1, .f32⟩
  | 99 => ⟨S_, .f32⟩
  | 100 => ⟨S8x2048x1, .f32⟩
  | 101 => ⟨S8x2048x1, .f32⟩
  | 102 => ⟨S8x2048x1, .f32⟩
  | 103 => ⟨S8x2048x128, .f32⟩
  | 104 => ⟨S8x2048x128, .f32⟩
  | 105 => ⟨S1x1x128, .f32⟩
  | 106 => ⟨S8x2048x128, .f32⟩
  | 107 => ⟨S8x2048x128, .f32⟩
  | 108 => ⟨S8x2048x1x32, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S2048, .f32⟩
  | 118 => ⟨S2048x1, .f32⟩
  | 119 => ⟨S1x16, .f32⟩
  | 120 => ⟨S2048x16, .f32⟩
  | 121 => ⟨S2048x16, .f32⟩
  | 122 => ⟨S2048x16, .f32⟩
  | 123 => ⟨S2048x16, .f32⟩
  | 124 => ⟨S2048x1x16, .f32⟩
  | 125 => ⟨S2048x16, .f32⟩
  | 126 => ⟨S2048x1x16, .f32⟩
  | 127 => ⟨S8x2048x1x16, .f32⟩
  | _ => ⟨S8x2048x1024, .f32⟩

abbrev hbmTy0_1 (i : Nat) : BufTy := match i % 128 with
  | 0 => ⟨S8x2048x1x16, .f32⟩
  | 1 => ⟨S1x2048x1x16, .f32⟩
  | 2 => ⟨S8x2048x1x16, .f32⟩
  | 3 => ⟨S8x2048x1x16, .f32⟩
  | 4 => ⟨S1x2048x1x16, .f32⟩
  | 5 => ⟨S8x2048x1x16, .f32⟩
  | 6 => ⟨S8x2048x1x16, .f32⟩
  | 7 => ⟨S8x2048x1x16, .f32⟩
  | 8 => ⟨S1x2048x1x16, .f32⟩
  | 9 => ⟨S8x2048x1x16, .f32⟩
  | 10 => ⟨S8x2048x1x16, .f32⟩
  | 11 => ⟨S1x2048x1x16, .f32⟩
  | 12 => ⟨S8x2048x1x16, .f32⟩
  | 13 => ⟨S8x2048x1x16, .f32⟩
  | 14 => ⟨S8x2048x1x16, .f32⟩
  | 15 => ⟨S8x2048x1x32, .f32⟩
  | 16 => ⟨S8x2048x32, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_cst_1 : Ref sig .tc := ⟨.hbm, 58, rfl⟩
abbrev main_v53 : Ref sig .tc := ⟨.hbm, 59, rfl⟩
abbrev main_v54 : Ref sig .tc := ⟨.hbm, 60, rfl⟩
abbrev main_cst_2 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_cst_3 : Ref sig .tc := ⟨.hbm, 93, rfl⟩
abbrev main_v86 : Ref sig .tc := ⟨.hbm, 94, rfl⟩
abbrev main_v87 : Ref sig .tc := ⟨.hbm, 95, rfl⟩
abbrev main_cst_4 : Ref sig .tc := ⟨.hbm, 96, rfl⟩
abbrev main_v88 : Ref sig .tc := ⟨.hbm, 97, rfl⟩
abbrev main_v89 : Ref sig .tc := ⟨.hbm, 98, rfl⟩
abbrev main_cst_5 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_cst_6 : Ref sig .tc := ⟨.hbm, 111, rfl⟩
abbrev main_v101 : Ref sig .tc := ⟨.hbm, 112, rfl⟩
abbrev main_v102 : Ref sig .tc := ⟨.hbm, 113, rfl⟩
abbrev main_cst_7 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩

abbrev nD : Nat := 1
abbrev τ : Topo := Topo.v7x

variable {F : FTy → Type} [FloatOps F]
-- ==== Gated.lean ====
abbrev S128x8x3560 : Shape := ⟨3, ![128, 8, 3560]⟩
abbrev S512 : Shape := ⟨1, ![512]⟩
abbrev S4x128 : Shape := ⟨2, ![4, 128]⟩
abbrev S128x4x128x128 : Shape := ⟨4, ![128, 4, 128, 128]⟩
abbrev S4x1x128 : Shape := ⟨3, ![4, 1, 128]⟩
abbrev S128x8x512 : Shape := ⟨3, ![128, 8, 512]⟩
abbrev S1x8x512 : Shape := ⟨3, ![1, 8, 512]⟩
abbrev S1x4x128x128 : Shape := ⟨4, ![1, 4, 128, 128]⟩
abbrev S4x128x128 : Shape := ⟨3, ![4, 128, 128]⟩
abbrev S8x8 : Shape := ⟨2, ![8, 8]⟩
abbrev S8x128 : Shape := ⟨2, ![8, 128]⟩
abbrev S1x8x128 : Shape := ⟨3, ![1, 8, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S8 : Shape := ⟨1, ![8]⟩
abbrev S8x1 : Shape := ⟨2, ![8, 1]⟩
abbrev S128 : Shape := ⟨1, ![128]⟩
abbrev S1x1x128x128 : Shape := ⟨4, ![1, 1, 128, 128]⟩

abbrev nBuf : Space → Nat
  | .hbm => 10
  | .vmem => 17
  | .smem => 0
  | _ => 0

abbrev bufTy : (tb : Table) → Fin (tcTables nBuf tb) → BufTy
  | .hbm, ⟨0, _⟩ => ⟨S128x8x3560, .f32⟩
  | .hbm, ⟨1, _⟩ => ⟨S512, .f32⟩
  | .hbm, ⟨2, _⟩ => ⟨S4x128, .f32⟩
  | .hbm, ⟨3, _⟩ => ⟨S128x4x128x128, .f32⟩
  | .hbm, ⟨4, _⟩ => ⟨S4x128, .f32⟩
  | .hbm, ⟨5, _⟩ => ⟨S4x1x128, .f32⟩
  | .hbm, ⟨6, _⟩ => ⟨S4x1x128, .f32⟩
  | .hbm, ⟨7, _⟩ => ⟨S128x4x128x128, .f32⟩
  | .hbm, ⟨8, _⟩ => ⟨S128x8x512, .f32⟩
  | .hbm, ⟨9, _⟩ => ⟨S128x4x128x128, .f32⟩
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S4x1x128, .f32⟩
  | .local _ .vmem, ⟨9, _⟩ => ⟨S4x1x128, .f32⟩
  | .local _ .vmem, ⟨10, _⟩ => ⟨S1x4x128x128, .f32⟩
  | .local _ .vmem, ⟨11, _⟩ => ⟨S1x4x128x128, .f32⟩
  | .local _ .vmem, ⟨12, _⟩ => ⟨S1x8x512, .f32⟩
  | .local _ .vmem, ⟨13, _⟩ => ⟨S1x8x512, .f32⟩
  | .local _ .vmem, ⟨14, _⟩ => ⟨S1x4x128x128, .f32⟩
  | .local _ .vmem, ⟨15, _⟩ => ⟨S1x4x128x128, .f32⟩
  | .local _ .vmem, ⟨16, _⟩ => ⟨S4x128x128, .f32⟩
  | _, _ => ⟨S128x8x3560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![128, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GatedIdeal.lean ====
variable {F : FTy → Type} [FloatOps F] [Named F]
def κ : String → Option EReal := fun
  | "mask" => some ⊥
  | _ => none
-- ==== GatedRefIdeal.lean ====
abbrev S128x8x3560 : Shape := ⟨3, ![128, 8, 3560]⟩
abbrev S512 : Shape := ⟨1, ![512]⟩
abbrev S4x128 : Shape := ⟨2, ![4, 128]⟩
abbrev S128x4x128x128 : Shape := ⟨4, ![128, 4, 128, 128]⟩
abbrev S128x8x512 : Shape := ⟨3, ![128, 8, 512]⟩
abbrev S128x8x256 : Shape := ⟨3, ![128, 8, 256]⟩
abbrev S128x8x128 : Shape := ⟨3, ![128, 8, 128]⟩
abbrev S128x8x64 : Shape := ⟨3, ![128, 8, 64]⟩
abbrev S128x8x8 : Shape := ⟨3, ![128, 8, 8]⟩
abbrev S128x8x32 : Shape := ⟨3, ![128, 8, 32]⟩
abbrev S128x8x4x128 : Shape := ⟨4, ![128, 8, 4, 128]⟩
abbrev S_ : Shape := ⟨0, ![]⟩
abbrev S1x1x4x128 : Shape := ⟨4, ![1, 1, 4, 128]⟩
abbrev S8x8 : Shape := ⟨2, ![8, 8]⟩
abbrev S128x4x8x128 : Shape := ⟨4, ![128, 4, 8, 128]⟩
abbrev S128x4x8x1x128 : Shape := ⟨5, ![128, 4, 8, 1, 128]⟩
abbrev S128x4x1x8x128 : Shape := ⟨5, ![128, 4, 1, 8, 128]⟩
abbrev S128x4x8x8x128 : Shape := ⟨5, ![128, 4, 8, 8, 128]⟩
abbrev S8x8x1 : Shape := ⟨3, ![8, 8, 1]⟩
abbrev S128x4x8x8 : Shape := ⟨4, ![128, 4, 8, 8]⟩
abbrev S128x4x1x128 : Shape := ⟨4, ![128, 4, 1, 128]⟩
abbrev S128x4x128 : Shape := ⟨3, ![128, 4, 128]⟩
abbrev S128x4x128x1 : Shape := ⟨4, ![128, 4, 128, 1]⟩
abbrev S128x8x4 : Shape := ⟨3, ![128, 8, 4]⟩
abbrev S128x8x4x1 : Shape := ⟨4, ![128, 8, 4, 1]⟩

abbrev nBuf : Space → Nat
  | .hbm => 129
  | .vmem => 0
  | .smem => 0
  | _ => 0

abbrev hbmTy0_0 (i : Nat) : BufTy := match i % 128 with
  | 0 => ⟨S128x8x3560, .f32⟩
  | 1 => ⟨S512, .f32⟩
  | 2 => ⟨S4x128, .f32⟩
  | 3 => ⟨S128x4x128x128, .f32⟩
  | 4 => ⟨S128x8x512, .f32⟩
  | 5 => ⟨S128x8x512, .f32⟩
  | 6 => ⟨S128x8x512, .f32⟩
  | 7 => ⟨S128x8x512, .f32⟩
  | 8 => ⟨S128x8x256, .f32⟩
  | 9 => ⟨S128x8x128, .f32⟩
  | 10 => ⟨S128x8x128, .f32⟩
  | 11 => ⟨S128x8x512, .f32⟩
  | 12 => ⟨S128x8x64, .f32⟩
  | 13 => ⟨S128x8x8, .f32⟩
  | 14 => ⟨S128x8x256, .f32⟩
  | 15 => ⟨S128x8x128, .f32⟩
  | 16 => ⟨S128x8x32, .f32⟩
  | 17 => ⟨S128x8x4x128, .f32⟩
  | 18 => ⟨S4x128, .f32⟩
  | 19 => ⟨S_, .f32⟩
  | 20 => ⟨S4x128, .f32⟩
  | 21 => ⟨S4x128, .f32⟩
  | 22 => ⟨S128x8x4x128, .f32⟩
  | 23 => ⟨S128x8x4x128, .f32⟩
  | 24 => ⟨S_, .f32⟩
  | 25 => ⟨S128x8x4x128, .f32⟩
  | 26 => ⟨S128x8x4x128, .f32⟩
  | 27 => ⟨S_, .f32⟩
  | 28 => ⟨S128x8x4x128, .f32⟩
  | 29 => ⟨S128x8x4x128, .f32⟩
  | 30 => ⟨S1x1x4x128, .f32⟩
  | 31 => ⟨S128x8x4x128, .f32⟩
  | 32 => ⟨S128x8x4x128, .f32⟩
  | 33 => ⟨S1x1x4x128, .f32⟩
  | 34 => ⟨S128x8x4x128, .f32⟩
  | 35 => ⟨S128x8x4x128, .f32⟩
  | 36 => ⟨S_, .f32⟩
  | 37 => ⟨S128x8x4x128, .f32⟩
  | 38 => ⟨S128x8x4x128, .f32⟩
  | 39 => ⟨S128x8x4x128, .f32⟩
  | 40 => ⟨S_, .f32⟩
  | 41 => ⟨S128x8x4x128, .f32⟩
  | 42 => ⟨S128x8x4x128, .f32⟩
  | 43 => ⟨S128x8x4x128, .f32⟩
  | 44 => ⟨S128x8x4x128, .f32⟩
  | 45 => ⟨S_, .i1⟩
  | 46 => ⟨S8x8, .i1⟩
  | 47 => ⟨S8x8, .i32⟩
  | 48 => ⟨S_, .i32⟩
  | 49 => ⟨S8x8, .i32⟩
  | 50 => ⟨S8x8, .i32⟩
  | 51 => ⟨S8x8, .i32⟩
  | 52 => ⟨S8x8, .i1⟩
  | 53 => ⟨S_, .i1⟩
  | 54 => ⟨S8x8, .i1⟩
  | 55 => ⟨S8x8, .i1⟩
  | 56 => ⟨S128x4x8x128, .f32⟩
  | 57 => ⟨S128x4x8x128, .f32⟩
  | 58 => ⟨S128x4x8x128, .f32⟩
  | 59 => ⟨S128x4x8x128, .f32⟩
  | 60 => ⟨S_, .f32⟩
  | 61 => ⟨S_, .f32⟩
  | 62 => ⟨S128x4x8x128, .f32⟩
  | 63 => ⟨S128x4x8x1x128, .f32⟩
  | 64 => ⟨S128x4x1x8x128, .f32⟩
  | 65 => ⟨S128x4x8x8x128, .f32⟩
  | 66 => ⟨S128x4x8x8x128, .f32⟩
  | 67 => ⟨S128x4x8x8x128, .f32⟩
  | 68 => ⟨S8x8x1, .i1⟩
  | 69 => ⟨S_, .f32⟩
  | 70 => ⟨S_, .f32⟩
  | 71 => ⟨S128x4x8x8x128, .i1⟩
  | 72 => ⟨S128x4x8x8x128, .f32⟩
  | 73 => ⟨S128x4x8x8x128, .f32⟩
  | 74 => ⟨S128x4x8x8x128, .f32⟩
  | 75 => ⟨S128x4x8x1x128, .f32⟩
  | 76 => ⟨S128x4x8x8x128, .f32⟩
  | 77 => ⟨S128x4x8x8x128, .f32⟩
  | 78 => ⟨S128x4x1x8x128, .f32⟩
  | 79 => ⟨S128x4x8x8x128, .f32⟩
  | 80 => ⟨S128x4x8x8x128, .f32⟩
  | 81 => ⟨S_, .f32⟩
  | 82 => ⟨S128x4x8x8, .f32⟩
  | 83 => ⟨S128x4x8x128, .f32⟩
  | 84 => ⟨S128x4x8x128, .f32⟩
  | 85 => ⟨S128x4x8x128, .f32⟩
  | 86 => ⟨S128x4x8x128, .f32⟩
  | 87 => ⟨S128x4x8x128, .f32⟩
  | 88 => ⟨S128x4x1x128, .f32⟩
  | 89 => ⟨S128x4x1x128, .f32⟩
  | 90 => ⟨S128x4x128, .f32⟩
  | 91 => ⟨S128x4x128x1, .f32⟩
  | 92 => ⟨S128x4x128x128, .f32⟩
  | 93 => ⟨S128x4x128x128, .f32⟩
  | 94 => ⟨S128x4x8x128, .f32⟩
  | 95 => ⟨S128x4x8x128, .f32⟩
  | 96 => ⟨S128x4x8x128, .f32⟩
  | 97 => ⟨S128x4x8x128, .f32⟩
  | 98 => ⟨S128x4x128x128, .f32⟩
  | 99 => ⟨S128x4x128x128, .f32⟩
  | 100 => ⟨S128x8x4x128, .f32⟩
  | 101 => ⟨S128x8x4x128, .f32⟩
  | 102 => ⟨S_, .f32⟩
  | 103 => ⟨S128x8x4, .f32⟩
  | 104 => ⟨S128x8x4x1, .f32⟩
  | 105 => ⟨S_, .f32⟩
  | 106 => ⟨S128x8x4x1, .f32⟩
  | 107 => ⟨S128x8x4x1, .f32⟩
  | 108 => ⟨S_, .f32⟩
  | 109 => ⟨S128x8x4x1, .f32⟩
  | 110 => ⟨S128x8x4x1, .f32⟩
  | 111 => ⟨S128x8x4x1, .f32⟩
  | 112 => ⟨S128x8x4x128, .f32⟩
  | 113 => ⟨S128x8x4x128, .f32⟩
  | 114 => ⟨S1x1x4x128, .f32⟩
  | 115 => ⟨S128x8x4x128, .f32⟩
  | 116 => ⟨S128x8x4x128, .f32⟩
  | 117 => ⟨S128x8x512, .f32⟩
  | 118 => ⟨S128x8x512, .f32⟩
  | 119 => ⟨S128x8x512, .f32⟩
  | 120 => ⟨S_, .f32⟩
  | 121 => ⟨S128x8x512, .f32⟩
  | 122 => ⟨S128x8x512, .f32⟩
  | 123 => ⟨S_, .f32⟩
  | 124 => ⟨S128x8x512, .f32⟩
  | 125 => ⟨S128x8x512, .f32⟩
  | 126 => ⟨S128x8x512, .f32⟩
  | 127 => ⟨S128x8x512, .f32⟩
  | _ => ⟨S128x8x3560, .f32⟩

abbrev hbmTy0_1 (i : Nat) : BufTy := match i % 128 with
  | 0 => ⟨S128x4x128x128, .f32⟩
  | _ => ⟨S128x8x3560, .f32⟩

abbrev hbmTy (i : Nat) : BufTy := match i / 128 with
  | 0 => hbmTy0_0 i
  | 1 => hbmTy0_1 i
  | _ => ⟨S128x8x3560, .f32⟩

abbrev bufTy : (tb : Table) → Fin (tcTables nBuf tb) → BufTy
  | .hbm, ⟨i, _⟩ => hbmTy i
  | _, _ => ⟨S128x8x3560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_v36 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_0 : Ref sig .tc := ⟨.hbm, 53, rfl⟩
abbrev main_call0_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call1_call0_cst : Ref sig .tc := ⟨.hbm, 60, rfl⟩
abbrev main_call1_call0_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_5 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_6 : Ref sig .tc := ⟨.hbm, 102, rfl⟩
abbrev main_v77 : Ref sig .tc := ⟨.hbm, 103, rfl⟩
abbrev main_v78 : Ref sig .tc := ⟨.hbm, 104, rfl⟩
abbrev main_cst_7 : Ref sig .tc := ⟨.hbm, 105, rfl⟩
abbrev main_v79 : Ref sig .tc := ⟨.hbm, 106, rfl⟩
abbrev main_v80 : Ref sig .tc := ⟨.hbm, 107, rfl⟩
abbrev main_cst_8 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call3_v0 : Ref sig .tc := ⟨.hbm, 118, rfl⟩
abbrev main_call3_v1 : Ref sig .tc := ⟨.hbm, 119, rfl⟩
abbrev main_call3_cst : Ref sig .tc := ⟨.hbm, 120, rfl⟩
abbrev main_call3_v2 : Ref sig .tc := ⟨.hbm, 121, rfl⟩
abbrev main_call3_v3 : Ref sig .tc := ⟨.hbm, 122, rfl⟩
abbrev main_call3_cst_0 : Ref sig .tc := ⟨.hbm, 123, rfl⟩
abbrev main_call3_v4 : Ref sig .tc := ⟨.hbm, 124, rfl⟩
abbrev main_call3_v5 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]
-- ==== DownSample.lean ====
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S1024x2816, .bf16⟩
  | .hbm, ⟨1, _⟩ => ⟨S2816x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S1024x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S1024x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownSampleRefIdeal.lean ====
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1024x2816, .bf16⟩
  | .hbm, ⟨1, _⟩ => ⟨S2816x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x2816, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024, .f32⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S1024x1024, .f32⟩
  | .hbm, ⟨33, _⟩ => ⟨S1024x1024, .f32⟩
  | .hbm, ⟨34, _⟩ => ⟨S1x1024, .f32⟩
  | .hbm, ⟨35, _⟩ => ⟨S1024x1024, .f32⟩
  | .hbm, ⟨36, _⟩ => ⟨S1024x1024, .f32⟩
  | .hbm, ⟨37, _⟩ => ⟨S1x1024, .f32⟩
  | .hbm, ⟨38, _⟩ => ⟨S1024x1024, .f32⟩
  | .hbm, ⟨39, _⟩ => ⟨S1024x1024, .f32⟩
  | .hbm, ⟨40, _⟩ => ⟨S1024x1024, .bf16⟩
  | _, _ => ⟨S1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== ProjSample.lean ====
abbrev S128x8x1024 : Shape := ⟨3, ![128, 8, 1024]⟩
abbrev S1024x3560 : Shape := ⟨2, ![1024, 3560]⟩
abbrev S128 : Shape := ⟨1, ![128]⟩
abbrev S1024x1024 : Shape := ⟨2, ![1024, 1024]⟩
abbrev S1024x512 : Shape := ⟨2, ![1024, 512]⟩
abbrev S128x8x3560 : Shape := ⟨3, ![128, 8, 3560]⟩
abbrev S8 : Shape := ⟨1, ![8]⟩
abbrev S_ : Shape := ⟨0, ![]⟩
abbrev S128x8x512 : Shape := ⟨3, ![128, 8, 512]⟩
abbrev S128x8x256 : Shape := ⟨3, ![128, 8, 256]⟩
abbrev S128x8x128 : Shape := ⟨3, ![128, 8, 128]⟩
abbrev S128x8x64 : Shape := ⟨3, ![128, 8, 64]⟩
abbrev S128x8x8 : Shape := ⟨3, ![128, 8, 8]⟩
abbrev S128x8x32 : Shape := ⟨3, ![128, 8, 32]⟩
abbrev S128x8x2x64 : Shape := ⟨4, ![128, 8, 2, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S128x8x2x32 : Shape := ⟨4, ![128, 8, 2, 32]⟩
abbrev S1x8x1x32 : Shape := ⟨4, ![1, 8, 1, 32]⟩
abbrev S128x8x1x64 : Shape := ⟨4, ![128, 8, 1, 64]⟩
abbrev S128x8x1x32 : Shape := ⟨4, ![128, 8, 1, 32]⟩
abbrev S128x8 : Shape := ⟨2, ![128, 8]⟩
abbrev S128x8x1 : Shape := ⟨3, ![128, 8, 1]⟩
abbrev S1x1x128 : Shape := ⟨3, ![1, 1, 128]⟩
abbrev S16 : Shape := ⟨1, ![16]⟩
abbrev S1x16 : Shape := ⟨2, ![1, 16]⟩
abbrev S8x16 : Shape := ⟨2, ![8, 16]⟩
abbrev S8x1x16 : Shape := ⟨3, ![8, 1, 16]⟩
abbrev S128x8x1x16 : Shape := ⟨4, ![128, 8, 1, 16]⟩
abbrev S1x8x1x16 : Shape := ⟨4, ![1, 8, 1, 16]⟩

abbrev nBuf : Space → Nat
  | .hbm => 152
  | .vmem => 5
  | .smem => 0
  | _ => 0

abbrev hbmTy0_0 (i : Nat) : BufTy := match i % 128 with
  | 0 => ⟨S128x8x1024, .f32⟩
  | 1 => ⟨S1024x3560, .f32⟩
  | 2 => ⟨S128, .f32⟩
  | 3 => ⟨S128x8x1024, .bf16⟩
  | 4 => ⟨S1024x3560, .bf16⟩
  | 5 => ⟨S1024x1024, .bf16⟩
  | 6 => ⟨S1024x3560, .f32⟩
  | 7 => ⟨S128x8x3560, .f32⟩
  | 8 => ⟨S8, .i32⟩
  | 9 => ⟨S_, .i32⟩
  | 10 => ⟨S8, .i32⟩
  | 11 => ⟨S8, .i32⟩
  | 12 => ⟨S128x8x512, .f32⟩
  | 13 => ⟨S128x8x512, .f32⟩
  | 14 => ⟨S128x8x512, .f32⟩
  | 15 => ⟨S128x8x512, .f32⟩
  | 16 => ⟨S128x8x256, .f32⟩
  | 17 => ⟨S128x8x128, .f32⟩
  | 18 => ⟨S128x8x128, .f32⟩
  | 19 => ⟨S128x8x512, .f32⟩
  | 20 => ⟨S128x8x64, .f32⟩
  | 21 => ⟨S128x8x8, .f32⟩
  | 22 => ⟨S128x8x256, .f32⟩
  | 23 => ⟨S128x8x128, .f32⟩
  | 24 => ⟨S128x8x32, .f32⟩
  | 25 => ⟨S128x8x2x64, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S8, .f32⟩
  | 35 => ⟨S8x1, .f32⟩
  | 36 => ⟨S1x32, .f32⟩
  | 37 => ⟨S8x32, .f32⟩
  | 38 => ⟨S8x32, .f32⟩
  | 39 => ⟨S8x32, .f32⟩
  | 40 => ⟨S8x32, .f32⟩
  | 41 => ⟨S8x1x32, .f32⟩
  | 42 => ⟨S8x32, .f32⟩
  | 43 => ⟨S8x1x32, .f32⟩
  | 44 => ⟨S128x8x2x32, .f32⟩
  | 45 => ⟨S128x8x2x32, .f32⟩
  | 46 => ⟨S1x8x1x32, .f32⟩
  | 47 => ⟨S128x8x2x32, .f32⟩
  | 48 => ⟨S128x8x2x32, .f32⟩
  | 49 => ⟨S1x8x1x32, .f32⟩
  | 50 => ⟨S128x8x2x32, .f32⟩
  | 51 => ⟨S128x8x2x32, .f32⟩
  | 52 => ⟨S128x8x2x32, .f32⟩
  | 53 => ⟨S1x8x1x32, .f32⟩
  | 54 => ⟨S128x8x2x32, .f32⟩
  | 55 => ⟨S128x8x2x32, .f32⟩
  | 56 => ⟨S1x8x1x32, .f32⟩
  | 57 => ⟨S128x8x2x32, .f32⟩
  | 58 => ⟨S128x8x2x32, .f32⟩
  | 59 => ⟨S128x8x2x32, .f32⟩
  | 60 => ⟨S128x8x2x64, .f32⟩
  | 61 => ⟨S128x8x2x64, .f32⟩
  | 62 => ⟨S128x8x1x64, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S8, .f32⟩
  | 72 => ⟨S8x1, .f32⟩
  | 73 => ⟨S1x32, .f32⟩
  | 74 => ⟨S8x32, .f32⟩
  | 75 => ⟨S8x32, .f32⟩
  | 76 => ⟨S8x32, .f32⟩
  | 77 => ⟨S8x32, .f32⟩
  | 78 => ⟨S8x1x32, .f32⟩
  | 79 => ⟨S8x32, .f32⟩
  | 80 => ⟨S8x1x32, .f32⟩
  | 81 => ⟨S128x8x1x32, .f32⟩
  | 82 => ⟨S128x8x1x32, .f32⟩
  | 83 => ⟨S1x8x1x32, .f32⟩
  | 84 => ⟨S128x8x1x32, .f32⟩
  | 85 => ⟨S128x8x1x32, .f32⟩
  | 86 => ⟨S1x8x1x32, .f32⟩
  | 87 => ⟨S128x8x1x32, .f32⟩
  | 88 => ⟨S128x8x1x32, .f32⟩
  | 89 => ⟨S128x8x1x32, .f32⟩
  | 90 => ⟨S1x8x1x32, .f32⟩
  | 91 => ⟨S128x8x1x32, .f32⟩
  | 92 => ⟨S128x8x1x32, .f32⟩
  | 93 => ⟨S1x8x1x32, .f32⟩
  | 94 => ⟨S128x8x1x32, .f32⟩
  | 95 => ⟨S128x8x1x32, .f32⟩
  | 96 => ⟨S128x8x1x32, .f32⟩
  | 97 => ⟨S128x8x1x64, .f32⟩
  | 98 => ⟨S128x8x64, .f32⟩
  | 99 => ⟨S128x8x128, .f32⟩
  | 100 => ⟨S_, .f32⟩
  | 101 => ⟨S128x8, .f32⟩
  | 102 => ⟨S128x8x1, .f32⟩
  | 103 => ⟨S_, .f32⟩
  | 104 => ⟨S128x8x1, .f32⟩
  | 105 => ⟨S128x8x1, .f32⟩
  | 106 => ⟨S_, .f32⟩
  | 107 => ⟨S128x8x1, .f32⟩
  | 108 => ⟨S128x8x1, .f32⟩
  | 109 => ⟨S128x8x1, .f32⟩
  | 110 => ⟨S128x8x128, .f32⟩
  | 111 => ⟨S128x8x128, .f32⟩
  | 112 => ⟨S1x1x128, .f32⟩
  | 113 => ⟨S128x8x128, .f32⟩
  | 114 => ⟨S128x8x128, .f32⟩
  | 115 => ⟨S128x8x1x32, .f32⟩
  | 116 => ⟨S16, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S8, .f32⟩
  | 125 => ⟨S8x1, .f32⟩
  | 126 => ⟨S1x16, .f32⟩
  | 127 => ⟨S8x16, .f32⟩
  | _ => ⟨S128x8x1024, .f32⟩

abbrev hbmTy0_1 (i : Nat) : BufTy := match i % 128 with
  | 0 => ⟨S8x16, .f32⟩
  | 1 => ⟨S8x16, .f32⟩
  | 2 => ⟨S8x16, .f32⟩
  | 3 => ⟨S8x1x16, .f32⟩
  | 4 => ⟨S8x16, .f32⟩
  | 5 => ⟨S8x1x16, .f32⟩
  | 6 => ⟨S128x8x1x16, .f32⟩
  | 7 => ⟨S128x8x1x16, .f32⟩
  | 8 => ⟨S1x8x1x16, .f32⟩
  | 9 => ⟨S128x8x1x16, .f32⟩
  | 10 => ⟨S128x8x1x16, .f32⟩
  | 11 => ⟨S1x8x1x16, .f32⟩
  | 12 => ⟨S128x8x1x16, .f32⟩
  | 13 => ⟨S128x8x1x16, .f32⟩
  | 14 => ⟨S128x8x1x16, .f32⟩
  | 15 => ⟨S1x8x1x16, .f32⟩
  | 16 => ⟨S128x8x1x16, .f32⟩
  | 17 => ⟨S128x8x1x16, .f32⟩
  | 18 => ⟨S1x8x1x16, .f32⟩
  | 19 => ⟨S128x8x1x16, .f32⟩
  | 20 => ⟨S128x8x1x16, .f32⟩
  | 21 => ⟨S128x8x1x16, .f32⟩
  | 22 => ⟨S128x8x1x32, .f32⟩
  | 23 => ⟨S128x8x32, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_cst_1 : Ref sig .tc := ⟨.hbm, 65, rfl⟩
abbrev main_v59 : Ref sig .tc := ⟨.hbm, 66, rfl⟩
abbrev main_v60 : Ref sig .tc := ⟨.hbm, 67, rfl⟩
abbrev main_cst_2 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_cst_3 : Ref sig .tc := ⟨.hbm, 100, rfl⟩
abbrev main_v92 : Ref sig .tc := ⟨.hbm, 101, rfl⟩
abbrev main_v93 : Ref sig .tc := ⟨.hbm, 102, rfl⟩
abbrev main_cst_4 : Ref sig .tc := ⟨.hbm, 103, rfl⟩
abbrev main_v94 : Ref sig .tc := ⟨.hbm, 104, rfl⟩
abbrev main_v95 : Ref sig .tc := ⟨.hbm, 105, rfl⟩
abbrev main_cst_5 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_cst_6 : Ref sig .tc := ⟨.hbm, 118, rfl⟩
abbrev main_v107 : Ref sig .tc := ⟨.hbm, 119, rfl⟩
abbrev main_v108 : Ref sig .tc := ⟨.hbm, 120, rfl⟩
abbrev main_cst_7 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjSampleRefIdeal.lean ====
abbrev S128x8x1024 : Shape := ⟨3, ![128, 8, 1024]⟩
abbrev S1024x3560 : Shape := ⟨2, ![1024, 3560]⟩
abbrev S128 : Shape := ⟨1, ![128]⟩
abbrev S8 : Shape := ⟨1, ![8]⟩
abbrev S_ : Shape := ⟨0, ![]⟩
abbrev S128x8x3560 : Shape := ⟨3, ![128, 8, 3560]⟩
abbrev S128x8x512 : Shape := ⟨3, ![128, 8, 512]⟩
abbrev S128x8x256 : Shape := ⟨3, ![128, 8, 256]⟩
abbrev S128x8x128 : Shape := ⟨3, ![128, 8, 128]⟩
abbrev S128x8x64 : Shape := ⟨3, ![128, 8, 64]⟩
abbrev S128x8x8 : Shape := ⟨3, ![128, 8, 8]⟩
abbrev S128x8x32 : Shape := ⟨3, ![128, 8, 32]⟩
abbrev S128x8x2x64 : Shape := ⟨4, ![128, 8, 2, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S128x8x2x32 : Shape := ⟨4, ![128, 8, 2, 32]⟩
abbrev S1x8x1x32 : Shape := ⟨4, ![1, 8, 1, 32]⟩
abbrev S128x8x1x64 : Shape := ⟨4, ![128, 8, 1, 64]⟩
abbrev S128x8x1x32 : Shape := ⟨4, ![128, 8, 1, 32]⟩
abbrev S128x8 : Shape := ⟨2, ![128, 8]⟩
abbrev S128x8x1 : Shape := ⟨3, ![128, 8, 1]⟩
abbrev S1x1x128 : Shape := ⟨3, ![1, 1, 128]⟩
abbrev S16 : Shape := ⟨1, ![16]⟩
abbrev S1x16 : Shape := ⟨2, ![1, 16]⟩
abbrev S8x16 : Shape := ⟨2, ![8, 16]⟩
abbrev S8x1x16 : Shape := ⟨3, ![8, 1, 16]⟩
abbrev S128x8x1x16 : Shape := ⟨4, ![128, 8, 1, 16]⟩
abbrev S1x8x1x16 : Shape := ⟨4, ![1, 8, 1, 16]⟩

abbrev nBuf : Space → Nat
  | .hbm => 148
  | .vmem => 0
  | .smem => 0
  | _ => 0

abbrev hbmTy0_0 (i : Nat) : BufTy := match i % 128 with
  | 0 => ⟨S128x8x1024, .f32⟩
  | 1 => ⟨S1024x3560, .f32⟩
  | 2 => ⟨S128, .f32⟩
  | 3 => ⟨S8, .i32⟩
  | 4 => ⟨S_, .i32⟩
  | 5 => ⟨S8, .i32⟩
  | 6 => ⟨S8, .i32⟩
  | 7 => ⟨S128x8x3560, .f32⟩
  | 8 => ⟨S128x8x512, .f32⟩
  | 9 => ⟨S128x8x512, .f32⟩
  | 10 => ⟨S128x8x512, .f32⟩
  | 11 => ⟨S128x8x512, .f32⟩
  | 12 => ⟨S128x8x256, .f32⟩
  | 13 => ⟨S128x8x128, .f32⟩
  | 14 => ⟨S128x8x128, .f32⟩
  | 15 => ⟨S128x8x512, .f32⟩
  | 16 => ⟨S128x8x64, .f32⟩
  | 17 => ⟨S128x8x8, .f32⟩
  | 18 => ⟨S128x8x256, .f32⟩
  | 19 => ⟨S128x8x128, .f32⟩
  | 20 => ⟨S128x8x32, .f32⟩
  | 21 => ⟨S128x8x2x64, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S8, .f32⟩
  | 31 => ⟨S8x1, .f32⟩
  | 32 => ⟨S1x32, .f32⟩
  | 33 => ⟨S8x32, .f32⟩
  | 34 => ⟨S8x32, .f32⟩
  | 35 => ⟨S8x32, .f32⟩
  | 36 => ⟨S8x32, .f32⟩
  | 37 => ⟨S8x1x32, .f32⟩
  | 38 => ⟨S8x32, .f32⟩
  | 39 => ⟨S8x1x32, .f32⟩
  | 40 => ⟨S128x8x2x32, .f32⟩
  | 41 => ⟨S128x8x2x32, .f32⟩
  | 42 => ⟨S1x8x1x32, .f32⟩
  | 43 => ⟨S128x8x2x32, .f32⟩
  | 44 => ⟨S128x8x2x32, .f32⟩
  | 45 => ⟨S1x8x1x32, .f32⟩
  | 46 => ⟨S128x8x2x32, .f32⟩
  | 47 => ⟨S128x8x2x32, .f32⟩
  | 48 => ⟨S128x8x2x32, .f32⟩
  | 49 => ⟨S1x8x1x32, .f32⟩
  | 50 => ⟨S128x8x2x32, .f32⟩
  | 51 => ⟨S128x8x2x32, .f32⟩
  | 52 => ⟨S1x8x1x32, .f32⟩
  | 53 => ⟨S128x8x2x32, .f32⟩
  | 54 => ⟨S128x8x2x32, .f32⟩
  | 55 => ⟨S128x8x2x32, .f32⟩
  | 56 => ⟨S128x8x2x64, .f32⟩
  | 57 => ⟨S128x8x2x64, .f32⟩
  | 58 => ⟨S128x8x1x64, .f32⟩
  | 59 => ⟨S32, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S8, .f32⟩
  | 68 => ⟨S8x1, .f32⟩
  | 69 => ⟨S1x32, .f32⟩
  | 70 => ⟨S8x32, .f32⟩
  | 71 => ⟨S8x32, .f32⟩
  | 72 => ⟨S8x32, .f32⟩
  | 73 => ⟨S8x32, .f32⟩
  | 74 => ⟨S8x1x32, .f32⟩
  | 75 => ⟨S8x32, .f32⟩
  | 76 => ⟨S8x1x32, .f32⟩
  | 77 => ⟨S128x8x1x32, .f32⟩
  | 78 => ⟨S128x8x1x32, .f32⟩
  | 79 => ⟨S1x8x1x32, .f32⟩
  | 80 => ⟨S128x8x1x32, .f32⟩
  | 81 => ⟨S128x8x1x32, .f32⟩
  | 82 => ⟨S1x8x1x32, .f32⟩
  | 83 => ⟨S128x8x1x32, .f32⟩
  | 84 => ⟨S128x8x1x32, .f32⟩
  | 85 => ⟨S128x8x1x32, .f32⟩
  | 86 => ⟨S1x8x1x32, .f32⟩
  | 87 => ⟨S128x8x1x32, .f32⟩
  | 88 => ⟨S128x8x1x32, .f32⟩
  | 89 => ⟨S1x8x1x32, .f32⟩
  | 90 => ⟨S128x8x1x32, .f32⟩
  | 91 => ⟨S128x8x1x32, .f32⟩
  | 92 => ⟨S128x8x1x32, .f32⟩
  | 93 => ⟨S128x8x1x64, .f32⟩
  | 94 => ⟨S128x8x64, .f32⟩
  | 95 => ⟨S128x8x128, .f32⟩
  | 96 => ⟨S_, .f32⟩
  | 97 => ⟨S128x8, .f32⟩
  | 98 => ⟨S128x8x1, .f32⟩
  | 99 => ⟨S_, .f32⟩
  | 100 => ⟨S128x8x1, .f32⟩
  | 101 => ⟨S128x8x1, .f32⟩
  | 102 => ⟨S_, .f32⟩
  | 103 => ⟨S128x8x1, .f32⟩
  | 104 => ⟨S128x8x1, .f32⟩
  | 105 => ⟨S128x8x1, .f32⟩
  | 106 => ⟨S128x8x128, .f32⟩
  | 107 => ⟨S128x8x128, .f32⟩
  | 108 => ⟨S1x1x128, .f32⟩
  | 109 => ⟨S128x8x128, .f32⟩
  | 110 => ⟨S128x8x128, .f32⟩
  | 111 => ⟨S128x8x1x32, .f32⟩
  | 112 => ⟨S16, .f32⟩
  | 113 => ⟨S16, .f32⟩
  | 114 => ⟨S_, .f32⟩
  | 115 => ⟨S16, .f32⟩
  | 116 => ⟨S16, .f32⟩
  | 117 => ⟨S_, .f32⟩
  | 118 => ⟨S16, .f32⟩
  | 119 => ⟨S16, .f32⟩
  | 120 => ⟨S8, .f32⟩
  | 121 => ⟨S8x1, .f32⟩
  | 122 => ⟨S1x16, .f32⟩
  | 123 => ⟨S8x16, .f32⟩
  | 124 => ⟨S8x16, .f32⟩
  | 125 => ⟨S8x16, .f32⟩
  | 126 => ⟨S8x16, .f32⟩
  | 127 => ⟨S8x1x16, .f32⟩
  | _ => ⟨S128x8x1024, .f32⟩

abbrev hbmTy0_1 (i : Nat) : BufTy := match i % 128 with
  | 0 => ⟨S8x16, .f32⟩
  | 1 => ⟨S8x1x16, .f32⟩
  | 2 => ⟨S128x8x1x16, .f32⟩
  | 3 => ⟨S128x8x1x16, .f32⟩
  | 4 => ⟨S1x8x1x16, .f32⟩
  | 5 => ⟨S128x8x1x16, .f32⟩
  | 6 => ⟨S128x8x1x16, .f32⟩
  | 7 => ⟨S1x8x1x16, .f32⟩
  | 8 => ⟨S128x8x1x16, .f32⟩
  | 9 => ⟨S128x8x1x16, .f32⟩
  | 10 => ⟨S128x8x1x16, .f32⟩
  | 11 => ⟨S1x8x1x16, .f32⟩
  | 12 => ⟨S128x8x1x16, .f32⟩
  | 13 => ⟨S128x8x1x16, .f32⟩
  | 14 => ⟨S1x8x1x16, .f32⟩
  | 15 => ⟨S128x8x1x16, .f32⟩
  | 16 => ⟨S128x8x1x16, .f32⟩
  | 17 => ⟨S128x8x1x16, .f32⟩
  | 18 => ⟨S128x8x1x32, .f32⟩
  | 19 => ⟨S128x8x32, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_cst_1 : Ref sig .tc := ⟨.hbm, 61, rfl⟩
abbrev main_v55 : Ref sig .tc := ⟨.hbm, 62, rfl⟩
abbrev main_v56 : Ref sig .tc := ⟨.hbm, 63, rfl⟩
abbrev main_cst_2 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_cst_3 : Ref sig .tc := ⟨.hbm, 96, rfl⟩
abbrev main_v88 : Ref sig .tc := ⟨.hbm, 97, rfl⟩
abbrev main_v89 : Ref sig .tc := ⟨.hbm, 98, rfl⟩
abbrev main_cst_4 : Ref sig .tc := ⟨.hbm, 99, rfl⟩
abbrev main_v90 : Ref sig .tc := ⟨.hbm, 100, rfl⟩
abbrev main_v91 : Ref sig .tc := ⟨.hbm, 101, rfl⟩
abbrev main_cst_5 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_cst_6 : Ref sig .tc := ⟨.hbm, 114, rfl⟩
abbrev main_v103 : Ref sig .tc := ⟨.hbm, 115, rfl⟩
abbrev main_v104 : Ref sig .tc := ⟨.hbm, 116, rfl⟩
abbrev main_cst_7 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩

abbrev nD : Nat := 1
abbrev τ : Topo := Topo.v7x

variable {F : FTy → Type} [FloatOps F]
-- ==== GatedPrompt.lean ====
abbrev S8x2048x3560 : Shape := ⟨3, ![8, 2048, 3560]⟩
abbrev S512 : Shape := ⟨1, ![512]⟩
abbrev S4x128 : Shape := ⟨2, ![4, 128]⟩
abbrev S_ : Shape := ⟨0, ![]⟩
abbrev S8x4x128x128 : Shape := ⟨4, ![8, 4, 128, 128]⟩
abbrev S4x1x128 : Shape := ⟨3, ![4, 1, 128]⟩
abbrev S8x2048x512 : Shape := ⟨3, ![8, 2048, 512]⟩
abbrev S1x64x512 : Shape := ⟨3, ![1, 64, 512]⟩
abbrev S1x4x128x128 : Shape := ⟨4, ![1, 4, 128, 128]⟩
abbrev S4x128x128 : Shape := ⟨3, ![4, 128, 128]⟩
abbrev S64x64 : Shape := ⟨2, ![64, 64]⟩
abbrev S8x128 : Shape := ⟨2, ![8, 128]⟩
abbrev S1x64x128 : Shape := ⟨3, ![1, 64, 128]⟩
abbrev S64x128 : Shape := ⟨2, ![64, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S8 : Shape := ⟨1, ![8]⟩
abbrev S8x1 : Shape := ⟨2, ![8, 1]⟩
abbrev S128 : Shape := ⟨1, ![128]⟩
abbrev S8x8 : Shape := ⟨2, ![8, 8]⟩
abbrev S16x128 : Shape := ⟨2, ![16, 128]⟩
abbrev S8x16 : Shape := ⟨2, ![8, 16]⟩
abbrev S24x128 : Shape := ⟨2, ![24, 128]⟩
abbrev S8x24 : Shape := ⟨2, ![8, 24]⟩
abbrev S32x128 : Shape := ⟨2, ![32, 128]⟩
abbrev S8x32 : Shape := ⟨2, ![8, 32]⟩
abbrev S40x128 : Shape := ⟨2, ![40, 128]⟩
abbrev S8x40 : Shape := ⟨2, ![8, 40]⟩
abbrev S48x128 : Shape := ⟨2, ![48, 128]⟩
abbrev S8x48 : Shape := ⟨2, ![8, 48]⟩
abbrev S56x128 : Shape := ⟨2, ![56, 128]⟩
abbrev S8x56 : Shape := ⟨2, ![8, 56]⟩
abbrev S1x1x128x128 : Shape := ⟨4, ![1, 1, 128, 128]⟩
abbrev S64 : Shape := ⟨1, ![64]⟩
abbrev S64x1 : Shape := ⟨2, ![64, 1]⟩

abbrev nBuf : Space → Nat
  | .hbm => 11
  | .vmem => 17
  | .smem => 0
  | _ => 0

abbrev bufTy : (tb : Table) → Fin (tcTables nBuf tb) → BufTy
  | .hbm, ⟨0, _⟩ => ⟨S8x2048x3560, .f32⟩
  | .hbm, ⟨1, _⟩ => ⟨S512, .f32⟩
  | .hbm, ⟨2, _⟩ => ⟨S4x128, .f32⟩
  | .hbm, ⟨3, _⟩ => ⟨S_, .f32⟩
  | .hbm, ⟨4, _⟩ => ⟨S8x4x128x128, .f32⟩
  | .hbm, ⟨5, _⟩ => ⟨S4x128, .f32⟩
  | .hbm, ⟨6, _⟩ => ⟨S4x1x128, .f32⟩
  | .hbm, ⟨7, _⟩ => ⟨S4x1x128, .f32⟩
  | .hbm, ⟨8, _⟩ => ⟨S8x4x128x128, .f32⟩
  | .hbm, ⟨9, _⟩ => ⟨S8x2048x512, .f32⟩
  | .hbm, ⟨10, _⟩ => ⟨S8x4x128x128, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S4x1x128, .f32⟩
  | .local _ .vmem, ⟨9, _⟩ => ⟨S4x1x128, .f32⟩
  | .local _ .vmem, ⟨10, _⟩ => ⟨S1x4x128x128, .f32⟩
  | .local _ .vmem, ⟨11, _⟩ => ⟨S1x4x128x128, .f32⟩
  | .local _ .vmem, ⟨12, _⟩ => ⟨S1x64x512, .f32⟩
  | .local _ .vmem, ⟨13, _⟩ => ⟨S1x64x512, .f32⟩
  | .local _ .vmem, ⟨14, _⟩ => ⟨S1x4x128x128, .f32⟩
  | .local _ .vmem, ⟨15, _⟩ => ⟨S1x4x128x128, .f32⟩
  | .local _ .vmem, ⟨16, _⟩ => ⟨S4x128x128, .f32⟩
  | _, _ => ⟨S8x2048x3560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GatedPromptIdeal.lean ====
variable {F : FTy → Type} [FloatOps F] [Named F]
def κ : String → Option EReal := fun
  | "mask" => some ⊥
  | _ => none
-- ==== GatedPromptRefIdeal.lean ====
abbrev S8x2048x3560 : Shape := ⟨3, ![8, 2048, 3560]⟩
abbrev S512 : Shape := ⟨1, ![512]⟩
abbrev S4x128 : Shape := ⟨2, ![4, 128]⟩
abbrev S8x2048x512 : Shape := ⟨3, ![8, 2048, 512]⟩
abbrev S8x2048x256 : Shape := ⟨3, ![8, 2048, 256]⟩
abbrev S8x2048x128 : Shape := ⟨3, ![8, 2048, 128]⟩
abbrev S8x2048x64 : Shape := ⟨3, ![8, 2048, 64]⟩
abbrev S8x2048x8 : Shape := ⟨3, ![8, 2048, 8]⟩
abbrev S8x2048x32 : Shape := ⟨3, ![8, 2048, 32]⟩
abbrev S8x2048x4x128 : Shape := ⟨4, ![8, 2048, 4, 128]⟩
abbrev S_ : Shape := ⟨0, ![]⟩
abbrev S1x1x4x128 : Shape := ⟨4, ![1, 1, 4, 128]⟩
abbrev S8x4x2048x128 : Shape := ⟨4, ![8, 4, 2048, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x4x128x2048 : Shape := ⟨4, ![8, 4, 128, 2048]⟩
abbrev S8x4x128x128 : Shape := ⟨4, ![8, 4, 128, 128]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x3560, .f32⟩
  | .hbm, ⟨1, _⟩ => ⟨S512, .f32⟩
  | .hbm, ⟨2, _⟩ => ⟨S4x128, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S8x2048x256, .f32⟩
  | .hbm, ⟨8, _⟩ => ⟨S8x2048x128, .f32⟩
  | .hbm, ⟨9, _⟩ => ⟨S8x2048x128, .f32⟩
  | .hbm, ⟨10, _⟩ => ⟨S8x2048x512, .f32⟩
  | .hbm, ⟨11, _⟩ => ⟨S8x2048x64, .f32⟩
  | .hbm, ⟨12, _⟩ => ⟨S8x2048x8, .f32⟩
  | .hbm, ⟨13, _⟩ => ⟨S8x2048x256, .f32⟩
  | .hbm, ⟨14, _⟩ => ⟨S8x2048x128, .f32⟩
  | .hbm, ⟨15, _⟩ => ⟨S8x2048x32, .f32⟩
  | .hbm, ⟨16, _⟩ => ⟨S8x2048x4x128, .f32⟩
  | .hbm, ⟨17, _⟩ => ⟨S4x128, .f32⟩
  | .hbm, ⟨18, _⟩ => ⟨S_, .f32⟩
  | .hbm, ⟨19, _⟩ => ⟨S4x128, .f32⟩
  | .hbm, ⟨20, _⟩ => ⟨S4x128, .f32⟩
  | .hbm, ⟨21, _⟩ => ⟨S8x2048x4x128, .f32⟩
  | .hbm, ⟨22, _⟩ => ⟨S8x2048x4x128, .f32⟩
  | .hbm, ⟨23, _⟩ => ⟨S_, .f32⟩
  | .hbm, ⟨24, _⟩ => ⟨S8x2048x4x128, .f32⟩
  | .hbm, ⟨25, _⟩ => ⟨S8x2048x4x128, .f32⟩
  | .hbm, ⟨26, _⟩ => ⟨S_, .f32⟩
  | .hbm, ⟨27, _⟩ => ⟨S8x2048x4x128, .f32⟩
  | .hbm, ⟨28, _⟩ => ⟨S8x2048x4x128, .f32⟩
  | .hbm, ⟨29, _⟩ => ⟨S1x1x4x128, .f32⟩
  | .hbm, ⟨30, _⟩ => ⟨S8x2048x4x128, .f32⟩
  | .hbm, ⟨31, _⟩ => ⟨S8x2048x4x128, .f32⟩
  | .hbm, ⟨32, _⟩ => ⟨S1x1x4x128, .f32⟩
  | .hbm, ⟨33, _⟩ => ⟨S8x2048x4x128, .f32⟩
  | .hbm, ⟨34, _⟩ => ⟨S8x2048x4x128, .f32⟩
  | .hbm, ⟨35, _⟩ => ⟨S_, .f32⟩
  | .hbm, ⟨36, _⟩ => ⟨S8x2048x4x128, .f32⟩
  | .hbm, ⟨37, _⟩ => ⟨S8x2048x4x128, .f32⟩
  | .hbm, ⟨38, _⟩ => ⟨S8x2048x4x128, .f32⟩
  | .hbm, ⟨39, _⟩ => ⟨S8x4x2048x128, .f32⟩
  | .hbm, ⟨40, _⟩ => ⟨S_, .f32⟩
  | .hbm, ⟨41, _⟩ => ⟨S8x2048x4x128, .f32⟩
  | .hbm, ⟨42, _⟩ => ⟨S8x2048x4x128, .f32⟩
  | .hbm, ⟨43, _⟩ => ⟨S8x4x2048x128, .f32⟩
  | .hbm, ⟨44, _⟩ => ⟨S8x2048x4x128, .f32⟩
  | .hbm, ⟨45, _⟩ => ⟨S8x4x2048x128, .f32⟩
  | .hbm, ⟨46, _⟩ => ⟨S2048, .i32⟩
  | .hbm, ⟨47, _⟩ => ⟨S2048x1, .i32⟩
  | .hbm, ⟨48, _⟩ => ⟨S1x2048, .i32⟩
  | .hbm, ⟨49, _⟩ => ⟨S2048x2048, .i32⟩
  | .hbm, ⟨50, _⟩ => ⟨S2048x2048, .i32⟩
  | .hbm, ⟨51, _⟩ => ⟨S2048x2048, .i1⟩
  | .hbm, ⟨52, _⟩ => ⟨S_, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S8x4x128x2048, .f32⟩
  | .hbm, ⟨58, _⟩ => ⟨S8x4x2048x128, .f32⟩
  | .hbm, ⟨59, _⟩ => ⟨S8x4x2048x128, .f32⟩
  | .hbm, ⟨60, _⟩ => ⟨S8x4x2048x128, .f32⟩
  | .hbm, ⟨61, _⟩ => ⟨S8x4x128x128, .f32⟩
  | _, _ => ⟨S8x2048x3560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== OutSample.lean ====
abbrev S128x8x1024 : Shape := ⟨3, ![128, 8, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S128x8x1024, .f32⟩
  | .hbm, ⟨1, _⟩ => ⟨S1024x1024, .f32⟩
  | .hbm, ⟨2, _⟩ => ⟨S128x8x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutSampleRefIdeal.lean ====
abbrev S128x8x1024 : Shape := ⟨3, ![128, 8, 1024]⟩
abbrev S1024x1024 : Shape := ⟨2, ![1024, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024x1024, .f32⟩
  | .hbm, ⟨2, _⟩ => ⟨S128x8x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S128x8x1024, .f32⟩
  | .hbm, ⟨7, _⟩ => ⟨S128x8x1024, .f32⟩
  | .hbm, ⟨8, _⟩ => ⟨S128x8x1024, .f32⟩
  | .hbm, ⟨9, _⟩ => ⟨S128x8x1024, .f32⟩
  | .hbm, ⟨10, _⟩ => ⟨S_, .f32⟩
  | .hbm, ⟨11, _⟩ => ⟨S128x8, .f32⟩
  | .hbm, ⟨12, _⟩ => ⟨S128x8x1, .f32⟩
  | .hbm, ⟨13, _⟩ => ⟨S_, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S128x8x1024, .f32⟩
  | .hbm, ⟨19, _⟩ => ⟨S_, .f32⟩
  | .hbm, ⟨20, _⟩ => ⟨S128x8, .f32⟩
  | .hbm, ⟨21, _⟩ => ⟨S128x8x1, .f32⟩
  | .hbm, ⟨22, _⟩ => ⟨S_, .f32⟩
  | .hbm, ⟨23, _⟩ => ⟨S128x8x1, .f32⟩
  | .hbm, ⟨24, _⟩ => ⟨S128x8x1, .f32⟩
  | .hbm, ⟨25, _⟩ => ⟨S128x8x1024, .f32⟩
  | .hbm, ⟨26, _⟩ => ⟨S128x8x1024, .f32⟩
  | .hbm, ⟨27, _⟩ => ⟨S_, .f32⟩
  | .hbm, ⟨28, _⟩ => ⟨S128x8x1, .f32⟩
  | .hbm, ⟨29, _⟩ => ⟨S128x8x1, .f32⟩
  | .hbm, ⟨30, _⟩ => ⟨S128x8x1, .f32⟩
  | .hbm, ⟨31, _⟩ => ⟨S128x8x1024, .f32⟩
  | .hbm, ⟨32, _⟩ => ⟨S128x8x1024, .f32⟩
  | .hbm, ⟨33, _⟩ => ⟨S1x1x1024, .f32⟩
  | .hbm, ⟨34, _⟩ => ⟨S128x8x1024, .f32⟩
  | .hbm, ⟨35, _⟩ => ⟨S128x8x1024, .f32⟩
  | .hbm, ⟨36, _⟩ => ⟨S1x1x1024, .f32⟩
  | .hbm, ⟨37, _⟩ => ⟨S128x8x1024, .f32⟩
  | .hbm, ⟨38, _⟩ => ⟨S128x8x1024, .f32⟩
  | .hbm, ⟨39, _⟩ => ⟨S1024x1024, .f32⟩
  | .hbm, ⟨40, _⟩ => ⟨S1024x1024, .bf16⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== UpSample.lean ====
abbrev S1024x1024 : Shape := ⟨2, ![1024, 1024]⟩
abbrev S1024x2816 : Shape := ⟨2, ![1024, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 8
  | .smem => 0
  | _ => 0

abbrev bufTy : (tb : Table) → Fin (tcTables nBuf tb) → BufTy
  | .hbm, ⟨0, _⟩ => ⟨S1024x1024, .bf16⟩
  | .hbm, ⟨1, _⟩ => ⟨S1024x2816, .f32⟩
  | .hbm, ⟨2, _⟩ => ⟨S1024x2816, .f32⟩
  | .hbm, ⟨3, _⟩ => ⟨S1024x2816, .bf16⟩
  | .hbm, ⟨4, _⟩ => ⟨S1024x2816, .bf16⟩
  | .hbm, ⟨5, _⟩ => ⟨S1024x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpSampleRefIdeal.lean ====
abbrev S1024x1024 : Shape := ⟨2, ![1024, 1024]⟩
abbrev S1024x2816 : Shape := ⟨2, ![1024, 2816]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2816, .f32⟩
  | .hbm, ⟨2, _⟩ => ⟨S1024x2816, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S1024x2816, .f32⟩
  | .hbm, ⟨7, _⟩ => ⟨S_, .f32⟩
  | .hbm, ⟨8, _⟩ => ⟨S1024x2816, .f32⟩
  | .hbm, ⟨9, _⟩ => ⟨S1024x2816, .f32⟩
  | .hbm, ⟨10, _⟩ => ⟨S_, .f32⟩
  | .hbm, ⟨11, _⟩ => ⟨S1024x2816, .f32⟩
  | .hbm, ⟨12, _⟩ => ⟨S1024x2816, .f32⟩
  | .hbm, ⟨13, _⟩ => ⟨S1024x2816, .f32⟩
  | .hbm, ⟨14, _⟩ => ⟨S1024x2816, .f32⟩
  | .hbm, ⟨15, _⟩ => ⟨S1024x2816, .f32⟩
  | .hbm, ⟨16, _⟩ => ⟨S1024x2816, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.MlaLoop.lean ====
module

public import proofs.«01_k».proof.Defs
public import proofs.«01_k».proof.Proof.Gen.MlaIdeal.Value
public import Idealize.ShloMosaic.Lib.Pipeline.ValueKit
public import Idealize.ShloMosaic.Lib.Claim
public import Idealize.ShloMosaic.Lib.Pointwise

/-! The loop over the key chunks of the prompt attention: what its trips leave in the three carried buffers
    (running maximum, running sum, running weighted sum), as a sequence of values, and what the body stores of
    them in the four heads' blocks. -/

@[expose] public section

noncomputable section

open Idealize.ShloMosaic Idealize.ShloMosaic.TcCoe Idealize.SL.Sem
open scoped BigOperators

namespace Cert.MlaIdeal.Attn

open Cert.MlaIdeal Cert.MlaIdeal.Gen Cert.MlaIdeal.Value

/-- The running maximum, the running sum and the running weighted sum of a block of 512 query rows. -/
abbrev Carry := FVec Ideal S512x1 .f32 × FVec Ideal S512x1 .f32 × FVec Ideal S512x128 .f32

/-- The key rows of chunk `k`. -/
def chunk (i : grid0.Coords) (X : Vec Ideal S1x2048x160 .bf16) (k : Fin (k0_t1_loop i).trips) :
    Vec Ideal S1x512x160 .bf16 :=
  View.ld X (Rect.unit (k0_off1 i k) S1x512x160.size (k0_off1_inb i k))

/-- The lane numbers of a score tile. -/
abbrev lanes : IVec S512x512 32 := iota .tc S512x512 32 [1] iota_S512x512_d1_w32

/-- One trip's values from the carried ones. -/
def step (i : grid0.Coords) (q : FVec Ideal S512x160 .bf16) (p l : IVec S512x512 32) (X : Vec Ideal S1x2048x160 .bf16)
    (k : Fin (k0_t1_loop i).trips) (s : Carry) : Carry :=
  (k0_pay24 (k0_pay6 i q p l 0#32 1#32 k (chunk i X k) s.1),
   k0_pay9 i q p l 0#32 1#32 k (chunk i X k) s.1 s.2.1,
   k0_pay23 (k0_pay10 i q p l 0#32 1#32 k (chunk i X k) s.1 s.2.2))

/-- The carried values after `n` trips, from `s`. -/
def iter (i : grid0.Coords) (q : FVec Ideal S512x160 .bf16) (p l : IVec S512x512 32) (X : Vec Ideal S1x2048x160 .bf16)
    (s : Carry) : ℕ → Carry
  | 0 => s
  | n + 1 => if h : n < (k0_t1_loop i).trips then step i q p l X ⟨n, h⟩ (iter i q p l X s n) else iter i q p l X s n

/-- A buffer read after a store of its whole shape holds what was stored. -/
theorem read_whole {κ : Kind} {sp : Space} {S : Shape} {e : EltTy} (v : View sig κ sp S e) (f : v.ty.Contents (Elt Ideal))
    {off : Fin S.rank → Nat} (inb : ∀ a, off a + S.size a ≤ S.size a) (w : S.Idx → Elt Ideal e)
    (L : List (View.Piece (Elt Ideal) S e)) (h : ∀ a, off a = 0) :
    v.read (Elt Ideal) (v.writes (Elt Ideal) f ((⟨Rect.unit off S.size inb, w⟩ : View.Piece (Elt Ideal) S e) :: L)) = w := by
  obtain rfl := View.eq_zero_of_forall h
  rw [View.read_writes_eq_canon _ _ _ (fun y => ⟨_, List.mem_cons_self, by
    show y ∈ (Rect.whole S).set; rw [Rect.set_whole]; exact Finset.mem_univ y⟩), View.canon_cons_unit_lit _ _ _ h]

/-- The first loop's trips cover the chunks up to the query block's last one; the second loop never runs. -/
theorem trips_one (i : grid0.Coords) : (k0_t1_loop i).trips = (i 1).val / 4 + 1 := by
  have h : ∀ j : Fin 16, (k0_t1_loop (fun a => match a with | ⟨0, _⟩ => (0 : Fin 8) | ⟨1, _⟩ => j)).trips = j.val / 4 + 1 := by
    decide +kernel
  exact h (i 1)

theorem trips_two (i : grid0.Coords) : (k0_t2_loop i).trips = 0 := by
  have h : ∀ j : Fin 16, (k0_t2_loop (fun a => match a with | ⟨0, _⟩ => (0 : Fin 8) | ⟨1, _⟩ => j)).trips = 0 := by
    decide +kernel
  exact h (i 1)

section

variable (𝒱 : Variants) (c : Dev nD) (bd : Option 𝒱.V) (i : grid0.Coords) (arg2 : Memref sig .tc .vmem S1x4x128x160 .bf16) (harg2 : arg2.IsWhole) (arg3 : Memref sig .tc .vmem S1x2048x160 .bf16) (harg3 : arg3.IsWhole) (arg4 : Memref sig .tc .vmem S4x128x64 .f32) (harg4 : arg4.IsWhole) (arg5 : Memref sig .tc .vmem S1x4x128x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x128 .f32) (harg8 : arg8.IsWhole) (v2 : FVec Ideal S512x160 .bf16) (v20 : IVec S512x512 32) (v21 : IVec S512x512 32) (v22 : BitVec 32) (c512_i32 : BitVec 32) (v23 : BitVec 32) (v28 : BitVec 32) (v33 : BitVec 32) (X_arg3 : BufTy.Contents (Elt Ideal) arg3.view.ty)

/-- What one trip stores: the next carried values, each over its whole buffer. -/
theorem trip_pieces (k : Fin (k0_t1_loop i).trips) (f_arg6 : BufTy.Contents (Elt Ideal) arg6.view.ty) (f_arg7 : BufTy.Contents (Elt Ideal) arg7.view.ty) (f_arg8 : BufTy.Contents (Elt Ideal) arg8.view.ty) :
    tripL_k0_t1 (F := Ideal) 𝒱 c bd i arg2 harg2 arg3 harg3 arg4 harg4 arg5 harg5 arg6 harg6 arg7 harg7 arg8 harg8 v2 v20 v21 v22 c512_i32 v23 v28 v33 X_arg3 k f_arg6 f_arg7 f_arg8
      = let s := step i v2 v20 v21 (arg3.view.read (Elt Ideal) X_arg3) k
          (arg6.view.read (Elt Ideal) f_arg6, arg7.view.read (Elt Ideal) f_arg7, arg8.view.read (Elt Ideal) f_arg8)
        ([⟨Rect.unit (s := S512x1) ![0, 0] S512x1.size inb_S512x1_S512x1_0_0, s.1⟩],
         [⟨Rect.unit (s := S512x1) ![0, 0] S512x1.size inb_S512x1_S512x1_0_0, s.2.1⟩],
         [⟨Rect.unit (s := S512x128) ![0, 0] S512x128.size inb_S512x128_S512x128_0_0, s.2.2⟩]) := by
  unfold tripL_k0_t1 trip_k0_t1
  dsimp only
  sl_unfold_words
  have h6 := View.ld_unit_lit (S := S512x1) inb_S512x1_S512x1_0_0 (arg6.view.read (Elt Ideal) f_arg6) (by decide)
  have h7 := View.ld_unit_lit (S := S512x1) inb_S512x1_S512x1_0_0 (arg7.view.read (Elt Ideal) f_arg7) (by decide)
  have h8 := View.ld_unit_lit (S := S512x128) inb_S512x128_S512x128_0_0 (arg8.view.read (Elt Ideal) f_arg8) (by decide)
  conv_rhs => rw [← h6, ← h7, ← h8]
  rfl

section
variable (G_arg6 : BufTy.Contents (Elt Ideal) arg6.view.ty) (G_arg7 : BufTy.Contents (Elt Ideal) arg7.view.ty) (G_arg8 : BufTy.Contents (Elt Ideal) arg8.view.ty)

/-- After `n` trips the three buffers hold the `n`-th carried values. -/
theorem loop_reads (n : ℕ) (hn : n ≤ (k0_t1_loop i).trips) :
    (arg6.view.read (Elt Ideal) (arg6.view.writes (Elt Ideal) G_arg6 (pb_k0_t1 (F := Ideal) 𝒱 c bd i arg2 harg2 arg3 harg3 arg4 harg4 arg5 harg5 arg6 harg6 arg7 harg7 arg8 harg8 v2 v20 v21 v22 c512_i32 v23 v28 v33 X_arg3 G_arg6 G_arg7 G_arg8 n).1),
     arg7.view.read (Elt Ideal) (arg7.view.writes (Elt Ideal) G_arg7 (pb_k0_t1 (F := Ideal) 𝒱 c bd i arg2 harg2 arg3 harg3 arg4 harg4 arg5 harg5 arg6 harg6 arg7 harg7 arg8 harg8 v2 v20 v21 v22 c512_i32 v23 v28 v33 X_arg3 G_arg6 G_arg7 G_arg8 n).2.1),
     arg8.view.read (Elt Ideal) (arg8.view.writes (Elt Ideal) G_arg8 (pb_k0_t1 (F := Ideal) 𝒱 c bd i arg2 harg2 arg3 harg3 arg4 harg4 arg5 harg5 arg6 harg6 arg7 harg7 arg8 harg8 v2 v20 v21 v22 c512_i32 v23 v28 v33 X_arg3 G_arg6 G_arg7 G_arg8 n).2.2))
      = iter i v2 v20 v21 (arg3.view.read (Elt Ideal) X_arg3)
          (arg6.view.read (Elt Ideal) G_arg6, arg7.view.read (Elt Ideal) G_arg7, arg8.view.read (Elt Ideal) G_arg8) n := by
  induction n with
  | zero => rfl
  | succ n ih =>
    have hlt : n < (k0_t1_loop i).trips := hn
    have e := pb_k0_t1_succ (F := Ideal) 𝒱 c bd i arg2 harg2 arg3 harg3 arg4 harg4 arg5 harg5 arg6 harg6 arg7 harg7 arg8 harg8 v2 v20 v21 v22 c512_i32 v23 v28 v33 X_arg3 G_arg6 G_arg7 G_arg8 ⟨n, hlt⟩
    rw [trip_pieces] at e
    have e' : pb_k0_t1 (F := Ideal) 𝒱 c bd i arg2 harg2 arg3 harg3 arg4 harg4 arg5 harg5 arg6 harg6 arg7 harg7 arg8 harg8 v2 v20 v21 v22 c512_i32 v23 v28 v33 X_arg3 G_arg6 G_arg7 G_arg8 (n + 1) = _ := e
    rw [e', ih (by omega)]
    dsimp only [List.cons_append, List.nil_append]
    rw [read_whole _ _ _ _ _ (by decide), read_whole _ _ _ _ _ (by decide), read_whole _ _ _ _ _ (by decide)]
    rw [iter, dif_pos hlt]
end

/-- The second loop leaves nothing. -/
theorem second_none (v45 : BitVec 32) (G_arg6 : BufTy.Contents (Elt Ideal) arg6.view.ty) (G_arg7 : BufTy.Contents (Elt Ideal) arg7.view.ty) (G_arg8 : BufTy.Contents (Elt Ideal) arg8.view.ty) :
    pb_k0_t2 (F := Ideal) 𝒱 c bd i arg2 harg2 arg3 harg3 arg4 harg4 arg5 harg5 arg6 harg6 arg7 harg7 arg8 harg8 v2 v20 v21 v22 c512_i32 v23 v28 v33 v45 X_arg3 G_arg6 G_arg7 G_arg8 (Scf.trips (k0_t2_loop i).lb (k0_t2_loop i).ub (k0_t2_loop i).st) = ([], [], []) := by
  have h : Scf.trips (k0_t2_loop i).lb (k0_t2_loop i).ub (k0_t2_loop i).st = 0 := trips_two i
  rw [h]; rfl

/-- The running sums read after the first loop. -/
theorem sums_read (x1 : Vec Ideal S1x2048x160 .bf16) :
    arg7.view.readCov (Val := Elt Ideal) ((pb_k0_t1 (F := Ideal) 𝒱 c bd i arg2 harg2 arg3 harg3 arg4 harg4 arg5 harg5 arg6 harg6 arg7 harg7 arg8 harg8 v2 v20 v21 v22 c512_i32 v23 v28 v33 (harg3.unread x1)
        (arg6.view.writes (Elt Ideal) arg6.view.junk [⟨Rect.unit (s := S512x1) ![0, 0] S512x1.size inb_S512x1_S512x1_0_0, k0_pay19 (F := Ideal)⟩])
        (arg7.view.writes (Elt Ideal) arg7.view.junk [⟨Rect.unit (s := S512x1) ![0, 0] S512x1.size inb_S512x1_S512x1_0_0, k0_pay20 (F := Ideal)⟩])
        (arg8.view.writes (Elt Ideal) arg8.view.junk [⟨Rect.unit (s := S512x128) ![0, 0] S512x128.size inb_S512x128_S512x128_0_0, k0_pay21 (F := Ideal)⟩])
        (Scf.trips (k0_t1_loop i).lb (k0_t1_loop i).ub (k0_t1_loop i).st)).2.1
        ++ [⟨Rect.unit (s := S512x1) ![0, 0] S512x1.size inb_S512x1_S512x1_0_0, k0_pay20 (F := Ideal)⟩])
      (Rect.unit (s := S512x1) ![0, 0] S512x1.size inb_S512x1_S512x1_0_0).toLoadRect
      = (iter i v2 v20 v21 x1 (k0_pay19, k0_pay20, k0_pay21) (k0_t1_loop i).trips).2.1 := by
  have h := loop_reads 𝒱 c bd i arg2 harg2 arg3 harg3 arg4 harg4 arg5 harg5 arg6 harg6 arg7 harg7 arg8 harg8 v2 v20 v21 v22 c512_i32 v23 v28 v33 (harg3.unread x1)
    (arg6.view.writes (Elt Ideal) arg6.view.junk [⟨Rect.unit (s := S512x1) ![0, 0] S512x1.size inb_S512x1_S512x1_0_0, k0_pay19 (F := Ideal)⟩])
    (arg7.view.writes (Elt Ideal) arg7.view.junk [⟨Rect.unit (s := S512x1) ![0, 0] S512x1.size inb_S512x1_S512x1_0_0, k0_pay20 (F := Ideal)⟩])
    (arg8.view.writes (Elt Ideal) arg8.view.junk [⟨Rect.unit (s := S512x128) ![0, 0] S512x128.size inb_S512x128_S512x128_0_0, k0_pay21 (F := Ideal)⟩])
    (k0_t1_loop i).trips le_rfl
  rw [harg3.read_unread, read_whole _ _ _ _ _ (by decide), read_whole _ _ _ _ _ (by decide), read_whole _ _ _ _ _ (by decide)] at h
  rw [← h]
  unfold View.readCov
  rw [View.readAt_eq_ld, View.ld_unit_lit _ _ (by decide), View.writes_append]

/-- The running sums read after both loops. -/
theorem sums_read' (v45 : BitVec 32) (H_arg6 : BufTy.Contents (Elt Ideal) arg6.view.ty) (H_arg7 : BufTy.Contents (Elt Ideal) arg7.view.ty) (H_arg8 : BufTy.Contents (Elt Ideal) arg8.view.ty) (x1 : Vec Ideal S1x2048x160 .bf16) :
    arg7.view.readCov (Val := Elt Ideal) ((pb_k0_t2 (F := Ideal) 𝒱 c bd i arg2 harg2 arg3 harg3 arg4 harg4 arg5 harg5 arg6 harg6 arg7 harg7 arg8 harg8 v2 v20 v21 v22 c512_i32 v23 v28 v33 v45 (harg3.unread x1) H_arg6 H_arg7 H_arg8 (Scf.trips (k0_t2_loop i).lb (k0_t2_loop i).ub (k0_t2_loop i).st)).2.1 ++ ((pb_k0_t1 (F := Ideal) 𝒱 c bd i arg2 harg2 arg3 harg3 arg4 harg4 arg5 harg5 arg6 harg6 arg7 harg7 arg8 harg8 v2 v20 v21 v22 c512_i32 v23 v28 v33 (harg3.unread x1)
        (arg6.view.writes (Elt Ideal) arg6.view.junk [⟨Rect.unit (s := S512x1) ![0, 0] S512x1.size inb_S512x1_S512x1_0_0, k0_pay19 (F := Ideal)⟩])
        (arg7.view.writes (Elt Ideal) arg7.view.junk [⟨Rect.unit (s := S512x1) ![0, 0] S512x1.size inb_S512x1_S512x1_0_0, k0_pay20 (F := Ideal)⟩])
        (arg8.view.writes (Elt Ideal) arg8.view.junk [⟨Rect.unit (s := S512x128) ![0, 0] S512x128.size inb_S512x128_S512x128_0_0, k0_pay21 (F := Ideal)⟩])
        (Scf.trips (k0_t1_loop i).lb (k0_t1_loop i).ub (k0_t1_loop i).st)).2.1
        ++ [⟨Rect.unit (s := S512x1) ![0, 0] S512x1.size inb_S512x1_S512x1_0_0, k0_pay20 (F := Ideal)⟩]))
      (Rect.unit (s := S512x1) ![0, 0] S512x1.size inb_S512x1_S512x1_0_0).toLoadRect
      = (iter i v2 v20 v21 x1 (k0_pay19, k0_pay20, k0_pay21) (k0_t1_loop i).trips).2.1 := by
  rw [second_none]; exact sums_read 𝒱 c bd i arg2 harg2 arg3 harg3 arg4 harg4 arg5 harg5 arg6 harg6 arg7 harg7 arg8 harg8 v2 v20 v21 v22 c512_i32 v23 v28 v33 x1

/-- The running weighted sums read after the first loop. -/
theorem accs_read (x1 : Vec Ideal S1x2048x160 .bf16) :
    arg8.view.readCov (Val := Elt Ideal) ((pb_k0_t1 (F := Ideal) 𝒱 c bd i arg2 harg2 arg3 harg3 arg4 harg4 arg5 harg5 arg6 harg6 arg7 harg7 arg8 harg8 v2 v20 v21 v22 c512_i32 v23 v28 v33 (harg3.unread x1)
        (arg6.view.writes (Elt Ideal) arg6.view.junk [⟨Rect.unit (s := S512x1) ![0, 0] S512x1.size inb_S512x1_S512x1_0_0, k0_pay19 (F := Ideal)⟩])
        (arg7.view.writes (Elt Ideal) arg7.view.junk [⟨Rect.unit (s := S512x1) ![0, 0] S512x1.size inb_S512x1_S512x1_0_0, k0_pay20 (F := Ideal)⟩])
        (arg8.view.writes (Elt Ideal) arg8.view.junk [⟨Rect.unit (s := S512x128) ![0, 0] S512x128.size inb_S512x128_S512x128_0_0, k0_pay21 (F := Ideal)⟩])
        (Scf.trips (k0_t1_loop i).lb (k0_t1_loop i).ub (k0_t1_loop i).st)).2.2
        ++ [⟨Rect.unit (s := S512x128) ![0, 0] S512x128.size inb_S512x128_S512x128_0_0, k0_pay21 (F := Ideal)⟩])
      (Rect.unit (s := S512x128) ![0, 0] S512x128.size inb_S512x128_S512x128_0_0).toLoadRect
      = (iter i v2 v20 v21 x1 (k0_pay19, k0_pay20, k0_pay21) (k0_t1_loop i).trips).2.2 := by
  have h := loop_reads 𝒱 c bd i arg2 harg2 arg3 harg3 arg4 harg4 arg5 harg5 arg6 harg6 arg7 harg7 arg8 harg8 v2 v20 v21 v22 c512_i32 v23 v28 v33 (harg3.unread x1)
    (arg6.view.writes (Elt Ideal) arg6.view.junk [⟨Rect.unit (s := S512x1) ![0, 0] S512x1.size inb_S512x1_S512x1_0_0, k0_pay19 (F := Ideal)⟩])
    (arg7.view.writes (Elt Ideal) arg7.view.junk [⟨Rect.unit (s := S512x1) ![0, 0] S512x1.size inb_S512x1_S512x1_0_0, k0_pay20 (F := Ideal)⟩])
    (arg8.view.writes (Elt Ideal) arg8.view.junk [⟨Rect.unit (s := S512x128) ![0, 0] S512x128.size inb_S512x128_S512x128_0_0, k0_pay21 (F := Ideal)⟩])
    (k0_t1_loop i).trips le_rfl
  rw [harg3.read_unread, read_whole _ _ _ _ _ (by decide), read_whole _ _ _ _ _ (by decide), read_whole _ _ _ _ _ (by decide)] at h
  rw [← h]
  unfold View.readCov
  rw [View.readAt_eq_ld, View.ld_unit_lit _ _ (by decide), View.writes_append]

/-- The running weighted sums read after both loops. -/
theorem accs_read' (v45 : BitVec 32) (H_arg6 : BufTy.Contents (Elt Ideal) arg6.view.ty) (H_arg7 : BufTy.Contents (Elt Ideal) arg7.view.ty) (H_arg8 : BufTy.Contents (Elt Ideal) arg8.view.ty) (x1 : Vec Ideal S1x2048x160 .bf16) :
    arg8.view.readCov (Val := Elt Ideal) ((pb_k0_t2 (F := Ideal) 𝒱 c bd i arg2 harg2 arg3 harg3 arg4 harg4 arg5 harg5 arg6 harg6 arg7 harg7 arg8 harg8 v2 v20 v21 v22 c512_i32 v23 v28 v33 v45 (harg3.unread x1) H_arg6 H_arg7 H_arg8 (Scf.trips (k0_t2_loop i).lb (k0_t2_loop i).ub (k0_t2_loop i).st)).2.2 ++ ((pb_k0_t1 (F := Ideal) 𝒱 c bd i arg2 harg2 arg3 harg3 arg4 harg4 arg5 harg5 arg6 harg6 arg7 harg7 arg8 harg8 v2 v20 v21 v22 c512_i32 v23 v28 v33 (harg3.unread x1)
        (arg6.view.writes (Elt Ideal) arg6.view.junk [⟨Rect.unit (s := S512x1) ![0, 0] S512x1.size inb_S512x1_S512x1_0_0, k0_pay19 (F := Ideal)⟩])
        (arg7.view.writes (Elt Ideal) arg7.view.junk [⟨Rect.unit (s := S512x1) ![0, 0] S512x1.size inb_S512x1_S512x1_0_0, k0_pay20 (F := Ideal)⟩])
        (arg8.view.writes (Elt Ideal) arg8.view.junk [⟨Rect.unit (s := S512x128) ![0, 0] S512x128.size inb_S512x128_S512x128_0_0, k0_pay21 (F := Ideal)⟩])
        (Scf.trips (k0_t1_loop i).lb (k0_t1_loop i).ub (k0_t1_loop i).st)).2.2
        ++ [⟨Rect.unit (s := S512x128) ![0, 0] S512x128.size inb_S512x128_S512x128_0_0, k0_pay21 (F := Ideal)⟩]))
      (Rect.unit (s := S512x128) ![0, 0] S512x128.size inb_S512x128_S512x128_0_0).toLoadRect
      = (iter i v2 v20 v21 x1 (k0_pay19, k0_pay20, k0_pay21) (k0_t1_loop i).trips).2.2 := by
  rw [second_none]; exact accs_read 𝒱 c bd i arg2 harg2 arg3 harg3 arg4 harg4 arg5 harg5 arg6 harg6 arg7 harg7 arg8 harg8 v2 v20 v21 v22 c512_i32 v23 v28 v33 x1
end

section
variable (c : Dev nD) (i : grid0.Coords) (arg2 : Memref sig .tc .vmem S1x4x128x160 .bf16) (harg2 : arg2.IsWhole) (arg3 : Memref sig .tc .vmem S1x2048x160 .bf16) (harg3 : arg3.IsWhole) (arg4 : Memref sig .tc .vmem S4x128x64 .f32) (harg4 : arg4.IsWhole) (arg5 : Memref sig .tc .vmem S1x4x128x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x128 .f32) (harg8 : arg8.IsWhole)
    (x0 : Vec Ideal S1x4x128x160 .bf16) (x1 : Vec Ideal S1x2048x160 .bf16) (x2 : Vec Ideal S4x128x64 .f32)

/-- The carried values the body ends with. -/
def last (i : grid0.Coords) (x0 : Vec Ideal S1x4x128x160 .bf16) (x1 : Vec Ideal S1x2048x160 .bf16) : Carry :=
  iter i (k0_pay18 x0) (k0_pay22 i) lanes x1 (k0_pay19, k0_pay20, k0_pay21) (k0_t1_loop i).trips

/-- The body stores, head by head, the carried weighted sums over the carried sums, contracted with the head's weights. -/
theorem body_pieces :
    (kernelRun0_A c i arg2 harg2 arg3 harg3 arg4 harg4 arg5 harg5 arg6 harg6 arg7 harg7 arg8 harg8 x0 x1 x2).1
      = [⟨Rect.unit (s := S1x4x128x64) ![0, 3, 0, 0] S1x1x128x64.size inb_S1x4x128x64_S1x1x128x64_0_3_0_0,
            k0_pay3 (k0_pay27 (last i x0 x1).2.2 (last i x0 x1).2.1) (View.ld x2 (Rect.unit (s := S4x128x64) ![3, 0, 0] S1x128x64.size inb_S4x128x64_S1x128x64_3_0_0))⟩,
         ⟨Rect.unit (s := S1x4x128x64) ![0, 2, 0, 0] S1x1x128x64.size inb_S1x4x128x64_S1x1x128x64_0_2_0_0,
            k0_pay2 (k0_pay27 (last i x0 x1).2.2 (last i x0 x1).2.1) (View.ld x2 (Rect.unit (s := S4x128x64) ![2, 0, 0] S1x128x64.size inb_S4x128x64_S1x128x64_2_0_0))⟩,
         ⟨Rect.unit (s := S1x4x128x64) ![0, 1, 0, 0] S1x1x128x64.size inb_S1x4x128x64_S1x1x128x64_0_1_0_0,
            k0_pay1 (k0_pay29 (last i x0 x1).2.2 (last i x0 x1).2.1 (View.ld x2 (Rect.unit (s := S4x128x64) ![1, 0, 0] S1x128x64.size inb_S4x128x64_S1x128x64_1_0_0)))⟩,
         ⟨Rect.unit (s := S1x4x128x64) ![0, 0, 0, 0] S1x1x128x64.size inb_S1x4x128x64_S1x1x128x64_0_0_0_0,
            k0_pay28 (last i x0 x1).2.2 (last i x0 x1).2.1 (View.ld x2 (Rect.unit (s := S4x128x64) ![0, 0, 0] S1x128x64.size inb_S4x128x64_S1x128x64_0_0_0))⟩] := by
  unfold kernelRun0_A
  dsimp only
  sl_unfold_words
  have h2 : View.readAt (Elt Ideal) arg2.view (Rect.unit (s := S1x4x128x160) ![0, 0, 0, 0] S1x4x128x160.size inb_S1x4x128x160_S1x4x128x160_0_0_0_0).toLoadRect (harg2.unread x0) = x0 := by
    rw [View.readAt_eq_ld, harg2.read_unread]; exact View.ld_unit_lit _ _ (by decide)
  rw [h2]
  clear h2
  have h4 : ∀ r : Rect S4x128x64, View.readAt (Elt Ideal) arg4.view r.toLoadRect (harg4.unread x2) = View.ld x2 r := by
    intro r; rw [View.readAt_eq_ld, harg4.read_unread]
  rw [h4, h4, h4, h4]
  clear h4
  unfold last
  generalize (k0_pay18 x0 : FVec Ideal S512x160 .bf16) = q
  rw [accs_read' Variants.none c none i arg2 harg2 arg3 harg3 arg4 harg4 arg5 harg5 arg6 harg6 arg7 harg7 arg8 harg8 q (k0_pay22 i) lanes,
    sums_read' Variants.none c none i arg2 harg2 arg3 harg3 arg4 harg4 arg5 harg5 arg6 harg6 arg7 harg7 arg8 harg8 q (k0_pay22 i) lanes]
end

end Cert.MlaIdeal.Attn
-- ==== Proof.Softmax.lean ====
module

public import Idealize.ShloMosaic.Lib.Pointwise

/-! The softmax over a masked row of real scores, taken chunk by chunk: a running maximum, a running sum of weights
    and a running weighted sum, rescaled at each chunk, end at the ratio of the two sums over the whole row, and that
    ratio is the one the plain softmax gives whatever shift it subtracts. -/

@[expose] public section

noncomputable section

open Idealize.ShloMosaic
open scoped BigOperators

namespace Cert.Softmax

/-- Key `g`'s score in a row whose last visible key is `P`: the real score, or minus infinity past `P`. -/
def score (σ : ℕ → ℝ) (P g : ℕ) : EReal := if g ≤ P then (σ g : EReal) else ⊥

/-- Key `g`'s weight at the shift `μ`: zero past `P`. -/
def weight (σ : ℕ → ℝ) (P : ℕ) (μ : ℝ) (g : ℕ) : ℝ := if g ≤ P then Real.exp (σ g - μ) else 0

variable (σ : ℕ → ℝ) (P : ℕ) {A : Type} (ν : ℕ → A → ℝ)

theorem exp_score (μ : ℝ) (g : ℕ) : Ideal.exp (score σ P g - (μ : EReal)) = (weight σ P μ g : EReal) := by
  unfold score weight
  split
  · rw [← EReal.coe_sub, Ideal.exp_coe]
  · rw [EReal.bot_sub, Ideal.exp_bot, EReal.coe_zero]

theorem weight_nonneg (μ : ℝ) (g : ℕ) : 0 ≤ weight σ P μ g := by
  unfold weight; split
  · exact (Real.exp_pos _).le
  · exact le_rfl

theorem weight_zero_pos (μ : ℝ) : 0 < weight σ P μ 0 := by
  unfold weight; rw [if_pos (Nat.zero_le _)]; exact Real.exp_pos _

theorem weight_shift (μ μ' : ℝ) (g : ℕ) : Real.exp (μ - μ') * weight σ P μ g = weight σ P μ' g := by
  unfold weight; split
  · rw [← Real.exp_add]; congr 1; ring
  · rw [mul_zero]

theorem score_ne_top (g : ℕ) : score σ P g ≠ ⊤ := by
  unfold score; split
  · exact EReal.coe_ne_top _
  · exact bot_ne_top

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum of values none of them plus infinity is not plus infinity, -/
theorem fold_ne_top {ι : Type} (s : Finset ι) (f : ι → EReal) (b : EReal) (hb : b ≠ ⊤) (hf : ∀ i ∈ s, f i ≠ ⊤) :
    s.fold max b f ≠ ⊤ := by
  have h := (Finset.fold_max_lt (s := s) (f := f) (b := b) ⊤).mpr
    ⟨lt_top_iff_ne_top.mpr hb, fun i hi => lt_top_iff_ne_top.mpr (hf i hi)⟩
  exact h.ne

/-- and bounds each of them. -/
theorem le_fold {ι : Type} (s : Finset ι) (f : ι → EReal) (b : EReal) (i : ι) (hi : i ∈ s) : f i ≤ s.fold max b f :=
  (Finset.le_fold_max (s := s) (f := f) (b := b) (f i)).mpr (Or.inr ⟨i, hi, le_rfl⟩)

theorem exists_real {x : EReal} (ht : x ≠ ⊤) (hb : x ≠ ⊥) : ∃ r : ℝ, x = r := ⟨x.toReal, (EReal.coe_toReal ht hb).symm⟩

/-- The state after `n` chunks of `w` keys: at no chunk the maximum is minus infinity and both sums are zero; after
    one the maximum is real and the sums are the weights' at that shift. -/
def State (w n : ℕ) (m l : EReal) (acc : A → EReal) : Prop :=
  (n = 0 ∧ m = ⊥ ∧ l = 0 ∧ ∀ a, acc a = 0) ∨
  ∃ μ : ℝ, m = μ ∧ l = ((∑ g ∈ Finset.range (w * n), weight σ P μ g : ℝ) : EReal)
    ∧ ∀ a, acc a = ((∑ g ∈ Finset.range (w * n), weight σ P μ g * ν g a : ℝ) : EReal)

/-- One chunk more. -/
theorem state_step (w n : ℕ) (hw : 0 < w) {m l : EReal} {acc : A → EReal} (h : State σ P ν w n m l acc) {b : EReal} (hb : b = ⊥)
    {m' l' : EReal} {acc' : A → EReal}
    (hm : m' = max m ((Finset.univ : Finset (Fin w)).fold max b fun j => score σ P (w * n + j.val)))
    (hl : l' = Ideal.exp (m - m') * l + ∑ j : Fin w, Ideal.exp (score σ P (w * n + j.val) - m'))
    (ha : ∀ a, acc' a = Ideal.exp (m - m') * acc a
      + ∑ j : Fin w, Ideal.exp (score σ P (w * n + j.val) - m') * (ν (w * n + j.val) a : EReal)) :
    State σ P ν w (n + 1) m' l' acc' := by
  have hreal : ∃ μ' : ℝ, m' = μ' := by
    refine exists_real ?_ ?_
    · have hmt : m ≠ ⊤ := by
        rcases h with ⟨_, h, _⟩ | ⟨μ, h, _⟩
        · rw [h]; exact bot_ne_top
        · rw [h]; exact EReal.coe_ne_top _
      have ht := fold_ne_top (Finset.univ : Finset (Fin w)) (fun j => score σ P (w * n + j.val)) b
        (by rw [hb]; exact bot_ne_top) (fun j _ => score_ne_top σ P _)
      rw [hm]
      exact (max_lt (lt_top_iff_ne_top.mpr hmt) (lt_top_iff_ne_top.mpr ht)).ne
    · rw [hm]
      rcases h with ⟨h0, _⟩ | ⟨μ, h, _⟩
      · have := le_fold (Finset.univ : Finset (Fin w)) (fun j => score σ P (w * n + j.val)) b ⟨0, hw⟩ (Finset.mem_univ _)
        have e : score σ P (w * n + (⟨0, hw⟩ : Fin w).val) = ((σ 0 : ℝ) : EReal) := by
          subst h0; simp [score]
        rw [e] at this
        exact (lt_of_lt_of_le (EReal.bot_lt_coe _) (this.trans (le_max_right _ _))).ne'
      · refine (lt_of_lt_of_le (EReal.bot_lt_coe μ) ?_).ne'
        rw [h]; exact le_max_left _ _
  obtain ⟨μ', e⟩ := hreal
  have hr : ∀ f : ℕ → ℝ, ∑ g ∈ Finset.range (w * (n + 1)), f g
      = ∑ g ∈ Finset.range (w * n), f g + ∑ j : Fin w, f (w * n + j.val) := by
    intro f
    rw [Nat.mul_succ, Finset.sum_range_add, Finset.sum_range (fun x => f (w * n + x))]
  refine Or.inr ⟨μ', e, ?_, fun a => ?_⟩
  · rw [hl, e, hr, EReal.coe_add, coe_sum Finset.univ]
    simp only [exp_score]
    congr 1
    rcases h with ⟨h0, hm0, hl0, _⟩ | ⟨μ, hm0, hl0, _⟩
    · subst h0; rw [hl0]; simp
    · rw [hl0, hm0, ← EReal.coe_sub, Ideal.exp_coe, ← EReal.coe_mul, Finset.mul_sum]
      simp only [weight_shift]
  · rw [ha, e, hr, EReal.coe_add, coe_sum Finset.univ]
    simp only [exp_score, EReal.coe_mul]
    congr 1
    rcases h with ⟨h0, hm0, _, ha0⟩ | ⟨μ, hm0, _, ha0⟩
    · subst h0; rw [ha0]; simp
    · rw [ha0, hm0, ← EReal.coe_sub, Ideal.exp_coe, ← EReal.coe_mul, Finset.mul_sum]
      congr 1
      exact Finset.sum_congr rfl fun g _ => by rw [← mul_assoc, weight_shift]

theorem div_real (x : ℝ) {y : ℝ} (hy : y ≠ 0) : Ideal.div (x : EReal) (y : EReal) = ((x / y : ℝ) : EReal) := by
  rw [Ideal.div_coe hy, ← EReal.coe_mul, mul_one_div]

/-- A sum over the keys up to a chunk past `P` is the sum over the whole row. -/
theorem sum_row (N M : ℕ) (hM : M ≤ N) (hP : P < M) (μ : ℝ) (f : ℕ → ℝ) :
    ∑ g ∈ Finset.range M, weight σ P μ g * f g = ∑ g : Fin N, weight σ P μ g.val * f g.val := by
  rw [← Finset.sum_range (fun g => weight σ P μ g * f g)]
  refine Finset.sum_subset (fun x hx => Finset.mem_range.mpr ((Finset.mem_range.mp hx).trans_le hM)) fun g _ hg => ?_
  have : ¬ g ≤ P := fun h => hg (Finset.mem_range.mpr (by omega))
  rw [weight, if_neg this, zero_mul]

/-- The chunked softmax's quotient is the plain softmax's weighted sum, its shift any real. -/
theorem quotient (w n N : ℕ) (hN : w * n ≤ N) (hP : P < w * n) {m l : EReal} {acc : A → EReal}
    (h : State σ P ν w n m l acc) (κ : ℝ) (a : A) :
    Ideal.div (acc a) l = ∑ g : Fin N, (ν g.val a : EReal)
      * Ideal.div (Ideal.exp (score σ P g.val - (κ : EReal))) (∑ k : Fin N, Ideal.exp (score σ P k.val - (κ : EReal))) := by
  rcases h with ⟨h0, _⟩ | ⟨μ, _, hl, ha⟩
  · subst h0; omega
  · have hs : ∀ μ, (∑ k : Fin N, weight σ P μ k.val) ≠ 0 := by
      intro μ
      have h0 : 0 < N := by omega
      refine (lt_of_lt_of_le (weight_zero_pos σ P μ) ?_).ne'
      exact Finset.single_le_sum (f := fun k : Fin N => weight σ P μ k.val) (fun i _ => weight_nonneg σ P μ _)
        (Finset.mem_univ (⟨0, h0⟩ : Fin N))
    have hl' : l = ((∑ k : Fin N, weight σ P μ k.val : ℝ) : EReal) := by
      have := sum_row σ P N (w * n) hN hP μ (fun _ => 1)
      simp only [mul_one] at this
      rw [hl, this]
    rw [ha, hl', sum_row σ P N (w * n) hN hP μ (fun g => ν g a), div_real _ (hs μ)]
    simp only [exp_score]
    rw [← coe_sum]
    simp only [div_real _ (hs κ), ← EReal.coe_mul]
    rw [← coe_sum]
    congr 1
    rw [Finset.sum_div]
    refine Finset.sum_congr rfl fun g _ => ?_
    have e := weight_shift σ P κ μ
    have hd : (∑ k : Fin N, weight σ P μ k.val) = Real.exp (κ - μ) * ∑ k : Fin N, weight σ P κ k.val := by
      rw [Finset.mul_sum]; exact Finset.sum_congr rfl fun k _ => (e _).symm
    rw [hd, ← e g.val]
    have h1 := (Real.exp_pos (κ - μ)).ne'
    have h2 := hs κ
    field_simp

end Cert.Softmax
-- ==== Proof.MlaRows.lean ====
module

public import proofs.«01_k».proof.Proof.MlaLoop
public import proofs.«01_k».proof.Proof.Softmax

/-! The trips of the prompt attention read row by row: in each query row the carried maximum, sum and weighted sums
    are the chunked softmax's over the row's real scores. -/

@[expose] public section

noncomputable section

open Idealize.ShloMosaic Idealize.ShloMosaic.TcCoe Idealize.SL.Sem
open scoped BigOperators

namespace Cert.MlaIdeal.Attn

open Cert.MlaIdeal Cert.MlaIdeal.Gen Cert.MlaIdeal.Value Cert.Softmax

variable (i : grid0.Coords) (q : FVec Ideal S512x160 .bf16) (p l : IVec S512x512 32) (X : Vec Ideal S1x2048x160 .bf16)
  (k : Fin (k0_t1_loop i).trips) (C : Vec Ideal S1x512x160 .bf16) (M L : Vec Ideal S512x1 .f32) (A : Vec Ideal S512x128 .f32)

theorem tile_apply (R j : Fin 512) : k0_pay5 i q p l 0#32 1#32 k C (ix2 R j)
    = Scalar.select (α := EReal) (IntOp.cmpi .sle (IntOp.addi (Scalar.muli (Scf.iv 0#32 1#32 k.val) 512#32) (l (ix2 R j))) (p (ix2 R j)))
      ((∑ x, q (ix2 R x) * C (ix3 0 j x)) * Ideal.ofBits .f32 1037108716#32) (Named.named (F := Ideal) (φ := .f32) κ "mask" 4048155338#32 : Ideal .f32) := by
  pointwise [k0_pay5, k0_pay4]

theorem max_apply (R : Fin 512) : k0_pay24 (k0_pay6 i q p l 0#32 1#32 k C M) (ix2 R 0)
    = max (M (ix2 R 0)) (Finset.fold max (Ideal.ofBits .f32 4286578688#32) (fun x => k0_pay5 i q p l 0#32 1#32 k C (ix2 R x)) Finset.univ) := by
  pointwise [k0_pay24, k0_pay6]

theorem max_apply' (R : Fin 512) : k0_pay6 i q p l 0#32 1#32 k C M (ix2 R 0) = k0_pay24 (k0_pay6 i q p l 0#32 1#32 k C M) (ix2 R 0) := by
  pointwise [k0_pay24]

theorem exp_apply (R j : Fin 512) : k0_pay8 i q p l 0#32 1#32 k C M (ix2 R j)
    = Ideal.exp (k0_pay5 i q p l 0#32 1#32 k C (ix2 R j) - k0_pay6 i q p l 0#32 1#32 k C M (ix2 R 0)) := by
  pointwise [k0_pay8]

theorem sum_apply (R : Fin 512) : k0_pay9 i q p l 0#32 1#32 k C M L (ix2 R 0)
    = Ideal.exp (M (ix2 R 0) - k0_pay6 i q p l 0#32 1#32 k C M (ix2 R 0)) * L (ix2 R 0)
      + ∑ x, k0_pay8 i q p l 0#32 1#32 k C M (ix2 R x) := by
  pointwise [k0_pay9, k0_pay7]

theorem acc_apply (R : Fin 512) (a : Fin 128) : k0_pay23 (k0_pay10 i q p l 0#32 1#32 k C M A) (ix2 R a)
    = Ideal.exp (M (ix2 R 0) - k0_pay6 i q p l 0#32 1#32 k C M (ix2 R 0)) * A (ix2 R a)
      + ∑ x, k0_pay8 i q p l 0#32 1#32 k C M (ix2 R x) * C (ix3 0 x ⟨a.val, by omega⟩) := by
  pointwise [k0_pay23, k0_pay10, k0_pay7, k0_pay4]

theorem q_apply (x : Vec Ideal S1x4x128x160 .bf16) (R : Fin 512) (e : Fin 160) :
    k0_pay18 x (ix2 R e) = x (ix4 0 ⟨R.val / 128, by omega⟩ ⟨R.val % 128, by omega⟩ e) := by
  pointwise [k0_pay18]

theorem pos_apply (R j : Fin 512) : k0_pay22 i (ix2 R j)
    = IntOp.addi (Scalar.muli (BitVec.ofNat 32 (i 1).val) 128#32) (IntOp.andi (BitVec.ofNat 32 R.val) 127#32) := by
  pointwise [k0_pay22]

theorem start_apply (R : Fin 512) : k0_pay19 (F := Ideal) (ix2 R 0) = Named.named κ "mask" 4048155338#32 := by
  pointwise [k0_pay19]

theorem start_sum_apply (R : Fin 512) : k0_pay20 (F := Ideal) (ix2 R 0) = (0 : EReal) := by
  pointwise [k0_pay20]

theorem start_acc_apply (R : Fin 512) (a : Fin 128) : k0_pay21 (F := Ideal) (ix2 R a) = (0 : EReal) := by
  pointwise [k0_pay21]

theorem mask_named : (Named.named κ "mask" 4048155338#32 : Ideal .f32) = (⊥ : EReal) :=
  IdealRules.named_const.ideal_named_scalar _ _ _ _ rfl

theorem inf_word : Ideal.ofBits .f32 4286578688#32 = (⊥ : EReal) := by
  simp [Ideal.ofBits, Ideal.ieee]

theorem lane_apply (R j : Fin 512) : lanes (ix2 R j) = BitVec.ofNat 32 j.val := by
  unfold lanes
  pointwise []

theorem and_low : ∀ R : Fin 512, IntOp.andi (BitVec.ofNat 32 R.val) 127#32 = BitVec.ofNat 32 (R.val % 128) := by
  decide +kernel

theorem iv_word (n : ℕ) : Scf.iv 0#32 1#32 n = BitVec.ofNat 32 n := by
  unfold Scf.iv; simp

theorem trips_le : (k0_t1_loop i).trips ≤ 4 := by
  rw [trips_one]; have h : (i 1).val < 16 := (i 1).isLt; omega

/-- The mask of a tile: key `512 k + j` is visible to the row's query. -/
theorem mask_apply (R j : Fin 512) : IntOp.cmpi .sle (IntOp.addi (Scalar.muli (Scf.iv 0#32 1#32 k.val) 512#32) (lanes (ix2 R j))) (k0_pay22 i (ix2 R j))
    = BitVec.ofBool (decide (512 * k.val + j.val ≤ 128 * (i 1).val + R.val % 128)) := by
  have h4 := trips_le i
  have hk := k.isLt
  have hi : (i 1).val < 16 := (i 1).isLt
  have hj := j.isLt
  rw [lane_apply, pos_apply, and_low, iv_word]
  have e1 : Scalar.muli (BitVec.ofNat 32 k.val) 512#32 = BitVec.ofNat 32 (k.val * 512) := WordCmp.muli_ofNat _ _
  have e2 : Scalar.muli (BitVec.ofNat 32 (i 1).val) 128#32 = BitVec.ofNat 32 ((i 1).val * 128) := WordCmp.muli_ofNat _ _
  rw [e1, e2, WordCmp.addi_ofNat, WordCmp.addi_ofNat, WordCmp.cmpi_sle_ofNat (by omega) (by omega), Nat.mul_comm k.val, Nat.mul_comm (i 1).val]

/-- Row `j` of chunk `k` is key row `512 k + j`. -/
theorem chunk_apply (j : Fin 512) (e : Fin 160) (hb : 512 * k.val + j.val < 2048) :
    chunk i X k (ix3 0 j e) = X (ix3 0 ⟨512 * k.val + j.val, hb⟩ e) := by
  have h4 := trips_le i
  have hk := k.isLt
  have ho : k0_off1 i k = ![0, 512 * k.val, 0] := by
    have e1 : Scalar.muli (Scf.iv 0#32 1#32 k.val) 512#32 = BitVec.ofNat 32 (k.val * 512) := by
      rw [iv_word]; exact WordCmp.muli_ofNat _ _
    unfold k0_off1
    dsimp only
    rw [e1]
    have e2 : BitVec.toNat (Scalar.indexCast (BitVec.ofNat 32 (k.val * 512))) = 512 * k.val := by
      show (BitVec.ofNat 32 (k.val * 512)).toNat = _
      rw [BitVec.toNat_ofNat, Nat.mod_eq_of_lt (by omega), Nat.mul_comm]
    rw [e2]
  unfold chunk
  refine View.ld_unit_apply_of X _ _ _ _ _ fun a => ?_
  refine Eq.trans ?_ (congrArg (· + (ix3 (0 : Fin 1) j e a).val) (congrFun ho a)).symm
  match a with
  | ⟨0, _⟩ => rfl
  | ⟨1, _⟩ => rfl
  | ⟨2, _⟩ => exact (Nat.zero_add _).symm

section
variable (R : Fin 512) (σ : ℕ → ℝ) (ν : ℕ → Fin 128 → ℝ)
  (hσ : ∀ g : Fin 2048, (∑ x, q (ix2 R x) * X (ix3 0 g x)) * Ideal.ofBits .f32 1037108716#32 = σ g.val)
  (hν : ∀ (g : Fin 2048) (a : Fin 128), X (ix3 0 g ⟨a.val, by omega⟩) = ν g.val a)

include hσ in
/-- A tile's entry is the masked score of its key. -/
theorem tile_score (j : Fin 512) : k0_pay5 i q (k0_pay22 i) lanes 0#32 1#32 k (chunk i X k) (ix2 R j)
    = score σ (128 * (i 1).val + R.val % 128) (512 * k.val + j.val) := by
  have h4 := trips_le i
  have hk := k.isLt
  have hb : 512 * k.val + j.val < 2048 := by omega
  rw [tile_apply, mask_apply, mask_named]
  have e : (∑ x, q (ix2 R x) * chunk i X k (ix3 0 j x)) = ∑ x, q (ix2 R x) * X (ix3 0 ⟨512 * k.val + j.val, hb⟩ x) :=
    Finset.sum_congr rfl fun x _ => by rw [chunk_apply i X k j x hb]
  rw [e, hσ]
  unfold score
  by_cases h : 512 * k.val + j.val ≤ 128 * (i 1).val + R.val % 128 <;> simp [h, Scalar.select]

include hσ hν in
/-- After `n` trips the row's carried values are the chunked softmax's after `n` chunks. -/
theorem rows_state (n : ℕ) (hn : n ≤ (k0_t1_loop i).trips) :
    State σ (128 * (i 1).val + R.val % 128) ν 512 n
      ((iter i q (k0_pay22 i) lanes X (k0_pay19, k0_pay20, k0_pay21) n).1 (ix2 R 0))
      ((iter i q (k0_pay22 i) lanes X (k0_pay19, k0_pay20, k0_pay21) n).2.1 (ix2 R 0))
      (fun a => (iter i q (k0_pay22 i) lanes X (k0_pay19, k0_pay20, k0_pay21) n).2.2 (ix2 R a)) := by
  induction n with
  | zero => exact Or.inl ⟨rfl, (start_apply R).trans mask_named, start_sum_apply R, fun a => start_acc_apply R a⟩
  | succ n ih =>
    have hlt : n < (k0_t1_loop i).trips := hn
    have h4 := trips_le i
    rw [iter, dif_pos hlt]
    generalize iter i q (k0_pay22 i) lanes X (k0_pay19, k0_pay20, k0_pay21) n = s at ih
    specialize ih (by omega)
    refine state_step σ _ ν 512 n (by decide) ih inf_word ?_ ?_ fun a => ?_
    · refine (max_apply i q _ _ ⟨n, hlt⟩ _ s.1 R).trans ?_
      refine congrArg (max _) (congrArg (Finset.fold max _ · Finset.univ) (funext fun j => ?_))
      exact tile_score i q X ⟨n, hlt⟩ R σ hσ j
    · refine (sum_apply i q _ _ ⟨n, hlt⟩ _ s.1 s.2.1 R).trans ?_
      rw [max_apply']
      refine congrArg (_ + ·) (Finset.sum_congr rfl fun j _ => ?_)
      rw [exp_apply, max_apply', tile_score i q X ⟨n, hlt⟩ R σ hσ j]
      rfl
    · refine (acc_apply i q _ _ ⟨n, hlt⟩ _ s.1 s.2.2 R a).trans ?_
      rw [max_apply']
      refine congrArg (_ + ·) (Finset.sum_congr rfl fun j _ => ?_)
      rw [exp_apply, max_apply', tile_score i q X ⟨n, hlt⟩ R σ hσ j, chunk_apply i X ⟨n, hlt⟩ j _ (by show 512 * n + j.val < 2048; omega),
        hν ⟨512 * n + j.val, by omega⟩ a]
      rfl

include hσ hν in
/-- The row's quotient after the loop is the plain softmax's weighted sum, whatever its shift. -/
theorem rows_quotient (μ : ℝ) (a : Fin 128) :
    Ideal.div ((iter i q (k0_pay22 i) lanes X (k0_pay19, k0_pay20, k0_pay21) (k0_t1_loop i).trips).2.2 (ix2 R a))
      ((iter i q (k0_pay22 i) lanes X (k0_pay19, k0_pay20, k0_pay21) (k0_t1_loop i).trips).2.1 (ix2 R 0))
    = ∑ g : Fin 2048, (ν g.val a : EReal) * Ideal.div (Ideal.exp (score σ (128 * (i 1).val + R.val % 128) g.val - (μ : EReal)))
        (∑ k : Fin 2048, Ideal.exp (score σ (128 * (i 1).val + R.val % 128) k.val - (μ : EReal))) := by
  have h4 := trips_le i
  have h1 := trips_one i
  have hi : (i 1).val < 16 := (i 1).isLt
  have hR := R.isLt
  exact quotient σ _ ν 512 (k0_t1_loop i).trips 2048 (by omega) (by omega) (rows_state i q X R σ ν hσ hν _ le_rfl) μ a
end

section
variable (w : Vec Ideal S1x128x64 .f32) (r : Fin 128) (d : Fin 64)

theorem head0_apply : k0_pay28 A L w (ix4 0 0 r d)
    = ∑ x, Ideal.div (A (ix2 ⟨r.val, by omega⟩ x)) (L (ix2 ⟨r.val, by omega⟩ 0)) * w (ix3 0 x d) := by
  pointwise [k0_pay28, k0_pay27]
theorem head1_apply : k0_pay1 (k0_pay29 A L w) (ix4 0 0 r d)
    = ∑ x, Ideal.div (A (ix2 ⟨128 + r.val, by omega⟩ x)) (L (ix2 ⟨128 + r.val, by omega⟩ 0)) * w (ix3 0 x d) := by
  pointwise [k0_pay1, k0_pay29, k0_pay27]
theorem head2_apply : k0_pay2 (k0_pay27 A L) w (ix4 0 0 r d)
    = ∑ x, Ideal.div (A (ix2 ⟨256 + r.val, by omega⟩ x)) (L (ix2 ⟨256 + r.val, by omega⟩ 0)) * w (ix3 0 x d) := by
  pointwise [k0_pay2, k0_pay27]
theorem head3_apply : k0_pay3 (k0_pay27 A L) w (ix4 0 0 r d)
    = ∑ x, Ideal.div (A (ix2 ⟨384 + r.val, by omega⟩ x)) (L (ix2 ⟨384 + r.val, by omega⟩ 0)) * w (ix3 0 x d) := by
  pointwise [k0_pay3, k0_pay27]
end

end Cert.MlaIdeal.Attn
-- ==== Proof.MlaRef.lean ====
module

public import proofs.«01_k».proof.Defs
public import proofs.«01_k».proof.Proof.Softmax
public import proofs.«01_k».proof.Proof.Gen.MlaRefIdeal.Read
public import Idealize.ShloMosaic.Lib.KernelVsHost
public import Idealize.ShloMosaic.Lib.WordCmp
public import Idealize.ShloMosaic.Lib.Pointwise

/-! The plain causal attention read entry by entry: on finite arguments each entry is the softmax of a masked row of
    real scores, weighting the latents, contracted with the head's output weights. -/

@[expose] public section

noncomputable section

open Idealize.ShloMosaic Idealize.ShloMosaic.TcCoe
open scoped BigOperators

namespace Cert.MlaRefIdeal.Plain

open Cert.MlaRefIdeal Cert.MlaRefIdeal.Gen Cert.MlaRefIdeal.Read Cert.Softmax

/-- A maximum over one axis, from minus infinity, as a fold over that axis. -/
theorem rowMax {s t u : Shape} {a : Fin s.rank} (x : FVec Ideal s .f32) (h : s.ReducesTo [a] t) (hu : 0 < u.numel)
    (h' : s.Reduces [a] t) (j : t.Idx) :
    Host.reduce FloatOps.maximumf x (constant u .f32 0xFF800000#32) h hu j
      = (Finset.univ : Finset (Fin (s.size a))).fold max (FloatOps.ofBits .f32 0xFF800000#32 : Ideal .f32) (x ∘ h'.lift j) := by
  rw [hostReduce_maximumf_eq_multiReduction x _ h hu h' (by decide) (by decide), Ideal.multiReduction_maximumf_single]

theorem inf_word : (FloatOps.ofBits .f32 0xFF800000#32 : Ideal .f32) = (⊥ : EReal) := by
  show Ideal.ofBits .f32 0xFF800000#32 = ⊥
  simp [Ideal.ofBits, Ideal.ieee]

variable (x0 : Vec Ideal S8x2048x4x128 .f32) (x1 : Vec Ideal S8x2048x4x32 .f32) (x2 : Vec Ideal S8x2048x128 .f32)
  (x3 : Vec Ideal S8x2048x32 .f32) (x4 : Vec Ideal S128x4x64 .f32)

/-- The row's maximum, over the keys. -/
theorem max_apply (b : Fin 8) (h : Fin 4) (t : Fin 2048) : val_main_v14 (F := Ideal) x0 x1 x2 x3 (ix3 b h t)
    = (Finset.univ : Finset (Fin 2048)).fold max (⊥ : EReal) (fun s => val_main_v13 (F := Ideal) x0 x1 x2 x3 (ix4 b h t s)) := by
  unfold val_main_v14
  generalize val_main_v13 (F := Ideal) x0 x1 x2 x3 = y0
  refine (rowMax y0 reducesTo_S8x4x2048x2048_S8x4x2048_d3 h_S_ (by decide) (ix3 b h t)).trans ?_
  rw [inf_word]
  refine congrArg (Finset.fold max (⊥ : EReal) · Finset.univ) (funext fun k => ?_)
  exact congrArg y0 (funext fun a => Fin.ext (by match a with | ⟨0, _⟩ => rfl | ⟨1, _⟩ => rfl | ⟨2, _⟩ => rfl | ⟨3, _⟩ => rfl))

/-- The scaled score of query `t` and key `s`. -/
def raw (b : Fin 8) (h : Fin 4) (t s : Fin 2048) : EReal :=
  (∑ x, x2 (ix3 b s x) * x0 (ix4 b t h x) + ∑ x, x3 (ix3 b s x) * x1 (ix4 b t h x)) * Ideal.ofBits .f32 0x3DD105EC#32

theorem mask_apply (b : Fin 8) (h : Fin 4) (t s : Fin 2048) :
    val_main_call0_v1 (F := Ideal) (ix4 b h t s) = BitVec.ofBool (decide (s.val ≤ t.val)) := by
  pointwise [val_main_call0_v1, val_main_v12, val_main_v11, val_main_v10, val_main_v9, val_main_v8, val_main_v0]
  exact WordCmp.cmpi_sle_ofNat (by have := s.isLt; omega) (by have := t.isLt; omega)

theorem fill_apply (b : Fin 8) (h : Fin 4) (t s : Fin 2048) :
    val_main_call0_v2 (F := Ideal) (ix4 b h t s) = (⊥ : EReal) := by
  rw [val_main_call0_v2_apply, val_main_call0_v0_apply, val_main_cst_0_apply, inf_word]

theorem score_apply (b : Fin 8) (h : Fin 4) (t s : Fin 2048) : val_main_v13 (F := Ideal) x0 x1 x2 x3 (ix4 b h t s)
    = if s.val ≤ t.val then raw x0 x1 x2 x3 b h t s else ⊥ := by
  rw [val_main_v13_apply, mask_apply, fill_apply]
  have e : val_main_v7 (F := Ideal) x0 x1 x2 x3 (ix4 b h t s) = raw x0 x1 x2 x3 b h t s := by
    pointwise [val_main_v7, val_main_v6, val_main_v5, val_main_v4, val_main_v3, val_main_v2, val_main_v1, val_main_cst, raw]
  rw [e]
  by_cases hs : s.val ≤ t.val <;> simp [hs, Scalar.select]

theorem shift_apply (b : Fin 8) (h : Fin 4) (t s : Fin 2048) : val_main_v18 (F := Ideal) x0 x1 x2 x3 (ix4 b h t s)
    = max (⊥ : EReal) (val_main_v14 (F := Ideal) x0 x1 x2 x3 (ix3 b h t)) := by
  have ei : idx_main_v17 (idx_main_v18 (ix4 b h t s)) = ix3 b h t :=
    funext fun a => Fin.ext (by match a with | ⟨0, _⟩ => rfl | ⟨1, _⟩ => rfl | ⟨2, _⟩ => rfl)
  rw [val_main_v18_apply, val_main_v17_apply, ei, val_main_v16_apply, val_main_v15_apply, val_main_cst_2_apply, inf_word]
  exact Ideal.maximumf_def _ _

theorem prob_apply (b : Fin 8) (h : Fin 4) (t s : Fin 2048) (μ : EReal)
    (hμ : max (⊥ : EReal) (val_main_v14 (F := Ideal) x0 x1 x2 x3 (ix3 b h t)) = μ) :
    val_main_v24 (F := Ideal) x0 x1 x2 x3 (ix4 b h t s)
    = Ideal.div (Ideal.exp (val_main_v13 (F := Ideal) x0 x1 x2 x3 (ix4 b h t s) - μ))
        (∑ k : Fin 2048, Ideal.exp (val_main_v13 (F := Ideal) x0 x1 x2 x3 (ix4 b h t k) - μ)) := by
  have e : ∀ k, val_main_v20 (F := Ideal) x0 x1 x2 x3 (ix4 b h t k) = Ideal.exp (val_main_v13 (F := Ideal) x0 x1 x2 x3 (ix4 b h t k) - μ) := by
    intro k
    rw [val_main_v20_apply, val_main_v19_apply, shift_apply, hμ]
    rfl
  rw [val_main_v24_apply, val_main_v23_apply, val_main_v22_apply, val_main_v21_apply, val_main_cst_3_apply, e]
  have z : (FloatOps.ofBits .f32 0x00000000#32 : Ideal .f32) = (0 : EReal) := Ideal.ofBits_zero_f32
  rw [z, zero_add]
  refine congrArg (Ideal.div _) (Finset.sum_congr rfl fun k _ => ?_)
  rw [← e k]
  exact congrArg _ (funext fun a => Fin.ext (by match a with | ⟨0, _⟩ => rfl | ⟨1, _⟩ => rfl | ⟨2, _⟩ => rfl | ⟨3, _⟩ => rfl))

/-- An entry of the plain attention, its row of scores real. -/
theorem out_apply (b : Fin 8) (h : Fin 4) (t : Fin 2048) (d : Fin 64) (σ : ℕ → ℝ) (ν : ℕ → Fin 128 → ℝ)
    (hσ : ∀ s : Fin 2048, raw x0 x1 x2 x3 b h t s = σ s.val) (hν : ∀ (s : Fin 2048) a, x2 (ix3 b s a) = ν s.val a) :
    ∃ μ : ℝ, val_main_v29 (F := Ideal) x0 x1 x2 x3 x4 (ix4 b h t d)
      = ∑ a : Fin 128, x4 (ix3 a h d) * ∑ g : Fin 2048, (ν g.val a : EReal)
        * Ideal.div (Ideal.exp (score σ t.val g.val - (μ : EReal))) (∑ k : Fin 2048, Ideal.exp (score σ t.val k.val - (μ : EReal))) := by
  have hs : ∀ s : Fin 2048, val_main_v13 (F := Ideal) x0 x1 x2 x3 (ix4 b h t s) = score σ t.val s.val := by
    intro s; rw [score_apply, hσ]; rfl
  have hr : ∃ μ : ℝ, max (⊥ : EReal) (val_main_v14 (F := Ideal) x0 x1 x2 x3 (ix3 b h t)) = μ := by
    rw [max_apply, max_eq_right bot_le]
    simp only [hs]
    refine exists_real (fold_ne_top _ _ _ bot_ne_top fun s _ => score_ne_top σ _ _) ?_
    have h0 := le_fold (Finset.univ : Finset (Fin 2048)) (fun s => score σ t.val s.val) ⊥ 0 (Finset.mem_univ _)
    have e : score σ t.val (0 : Fin 2048).val = ((σ 0 : ℝ) : EReal) := by simp [score]
    rw [e] at h0
    exact (lt_of_lt_of_le (EReal.bot_lt_coe _) h0).ne'
  obtain ⟨μ, hμ⟩ := hr
  refine ⟨μ, ?_⟩
  pointwise [val_main_v29, val_main_v28, val_main_v27, val_main_v26, val_main_v25]
  simp only [prob_apply x0 x1 x2 x3 b h t _ μ hμ, hs, hν]

end Cert.MlaRefIdeal.Plain
-- ==== Proof.MlaPre.lean ====
module

public import proofs.«01_k».proof.Defs
public import proofs.«01_k».proof.Pre_finite
public import Idealize.ShloMosaic.Lib.ReduceAll
public import Idealize.ShloMosaic.Lib.WordCmp

/-! What the attention's precondition says: its first four arguments have real entries. -/

@[expose] public section

noncomputable section

open Idealize.ShloMosaic Idealize.ShloMosaic.TcCoe

namespace Cert.Pre_finite

/-- The shape relations of the precondition's operations. -/
theorem facts : Cert.Pre_finite.Facts where
  bcast_S_S8x2048x4x128 := by decide
  reducesTo_S8x2048x4x128_S_d0_1_2_3 := by decide
  h_S_ := by decide
  bcast_S_S8x2048x4x32 := by decide
  reducesTo_S8x2048x4x32_S_d0_1_2_3 := by decide
  bcast_S_S8x2048x128 := by decide
  reducesTo_S8x2048x128_S_d0_1_2 := by decide
  bcast_S_S8x2048x32 := by decide
  reducesTo_S8x2048x32_S_d0_1_2 := by decide

instance : Subsingleton S_.Idx := ⟨fun a b => funext fun k => k.elim0⟩

/-- A value whose magnitude is below plus infinity is real. -/
theorem real_of_lt (x : EReal) (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  have h' : max x (-x) < ⊤ := by
    by_contra hc
    simp [Ideal.cmp, hc] at h
  induction x with
  | bot => simp at h'
  | top => simp at h'
  | coe r => exact ⟨r, rfl⟩

/-- An argument every entry of which passes the test has real entries. -/
theorem real_of_all {s : Shape} {axes : List (Fin s.rank)} (x : FVec Ideal s .f32) (hb : S_.BroadcastsInDim s (![] : Fin 0 → Fin s.rank))
    (h : s.ReducesTo axes S_) (hu : 0 < S_.numel)
    (e : Host.reduce IntOp.andi (cmpf .olt (Host.absf x) (broadcastInDim s ![] hb (constant S_ .f32 0x7F800000#32))) (constantI S_ 1 1#1) h hu (fun k => k.elim0) = 1#1)
    (j : s.Idx) : ∃ r : ℝ, x j = (r : EReal) :=
  real_of_lt _ (Host.reduce_andi_all _ _ h hu _ e j)

theorem both {p q : BitVec 1} (h : IntOp.andi p q = 1#1) : p = 1#1 ∧ q = 1#1 := IntOp.andi_eq_one.1 h

variable [Facts]

theorem reals (x0 : FVec Ideal S8x2048x4x128 .f32) (x1 : FVec Ideal S8x2048x4x32 .f32) (x2 : FVec Ideal S8x2048x128 .f32)
    (x3 : FVec Ideal S8x2048x32 .f32) (x4 : FVec Ideal S128x4x64 .f32) (h : fn (F := Ideal) x0 x1 x2 x3 x4 = fun _ => 1#1) :
    (∀ j, ∃ r : ℝ, x0 j = (r : EReal)) ∧ (∀ j, ∃ r : ℝ, x1 j = (r : EReal)) ∧ (∀ j, ∃ r : ℝ, x2 j = (r : EReal))
      ∧ (∀ j, ∃ r : ℝ, x3 j = (r : EReal)) := by
  have h' := congrFun h (fun k => k.elim0)
  unfold fn fn_part1 at h'
  dsimp only at h'
  obtain ⟨h012, h3⟩ := both h'
  obtain ⟨h01, h2⟩ := both h012
  obtain ⟨h0, h1⟩ := both h01
  exact ⟨real_of_all x0 _ _ _ h0, real_of_all x1 _ _ _ h1, real_of_all x2 _ _ _ h2, real_of_all x3 _ _ _ h3⟩

end Cert.Pre_finite
-- ==== Proof.MlaValue.lean ====
module

public import proofs.«01_k».proof.Proof.MlaRows
public import proofs.«01_k».proof.Proof.MlaRef
public import proofs.«01_k».proof.Proof.MlaPre

/-! The prompt attention's output array is the plain attention of its arguments, the queries, latents and rotated keys
    finite. -/

@[expose] public section

noncomputable section

open Idealize.ShloMosaic Idealize.ShloMosaic.TcCoe Idealize.SL.Sem
open Idealize.ShloMosaic.Pipeline (Dat)
open scoped BigOperators

namespace Cert.MlaIdeal.Attn

open Cert.MlaIdeal Cert.MlaIdeal.Gen Cert.MlaIdeal.Value Cert.Softmax

section
variable (c : Dev nD) (i : grid0.Coords) (arg2 : Memref sig .tc .vmem S1x4x128x160 .bf16) (harg2 : arg2.IsWhole) (arg3 : Memref sig .tc .vmem S1x2048x160 .bf16) (harg3 : arg3.IsWhole) (arg4 : Memref sig .tc .vmem S4x128x64 .f32) (harg4 : arg4.IsWhole) (arg5 : Memref sig .tc .vmem S1x4x128x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x128 .f32) (harg8 : arg8.IsWhole)
    (x0 : Vec Ideal S1x4x128x160 .bf16) (x1 : Vec Ideal S1x2048x160 .bf16) (x2 : Vec Ideal S4x128x64 .f32)

/-- A stored block's entry: the row's quotients contracted with the head's weights. -/
def entry (A : Vec Ideal S512x128 .f32) (L : Vec Ideal S512x1 .f32) (w : Vec Ideal S4x128x64 .f32) : S1x4x128x64.Idx → EReal := fun y =>
  ∑ x : Fin 128, Ideal.div (A (ix2 ⟨128 * (y 1).val + (y 2).val, by have h1 : (y 1).val < 4 := (y 1).isLt; have h2 : (y 2).val < 128 := (y 2).isLt; omega⟩ x))
    (L (ix2 ⟨128 * (y 1).val + (y 2).val, by have h1 : (y 1).val < 4 := (y 1).isLt; have h2 : (y 2).val < 128 := (y 2).isLt; omega⟩ 0)) * w (ix3 (y 1) x (y 3))

theorem entry_apply (A : Vec Ideal S512x128 .f32) (L : Vec Ideal S512x1 .f32) (w : Vec Ideal S4x128x64 .f32) (h : Fin 4) (r : Fin 128)
    (d : Fin 64) (hR : 128 * h.val + r.val < 512) : entry A L w (ix4 0 h r d)
      = ∑ x : Fin 128, Ideal.div (A (ix2 ⟨128 * h.val + r.val, hR⟩ x)) (L (ix2 ⟨128 * h.val + r.val, hR⟩ 0)) * w (ix3 h x d) := rfl

theorem unit_pair (x : S1x1x128x64.Idx) : ∃ (r : Fin 128) (d : Fin 64), x = ix4 0 0 r d := by
  have e0 : x 0 = (0 : Fin 1) := Subsingleton.elim (α := Fin 1) _ _
  have e1 : x 1 = (0 : Fin 1) := Subsingleton.elim (α := Fin 1) _ _
  exact ⟨x 2, x 3, (ValueIdx.eq_ix4 x).trans (congrArg₂ (fun a b => ix4 a b (x 2) (x 3)) e0 e1)⟩

theorem unit_row (x : S1x4x128x64.Idx) : ∃ (h : Fin 4) (r : Fin 128) (d : Fin 64), x = ix4 0 h r d := by
  have e0 : x 0 = (0 : Fin 1) := Subsingleton.elim (α := Fin 1) _ _
  exact ⟨x 1, x 2, x 3, (ValueIdx.eq_ix4 x).trans (congrArg (fun a => ix4 a (x 1) (x 2) (x 3)) e0)⟩

theorem ld_head (h : Fin 4) (off : Fin 3 → ℕ) (hoff : off = ![h.val, 0, 0]) (inb) (x : Fin 128) (d : Fin 64) :
    View.ld x2 (Rect.unit (s := S4x128x64) off S1x128x64.size inb) (ix3 0 x d) = x2 (ix3 h x d) := by
  subst hoff
  refine View.ld_unit_apply_of x2 _ _ _ _ _ fun a => ?_
  match a with
  | ⟨0, _⟩ => rfl
  | ⟨1, _⟩ => exact (Nat.zero_add _).symm
  | ⟨2, _⟩ => exact (Nat.zero_add _).symm

theorem emb_head (h : Fin 4) (off : Fin 4 → ℕ) (hoff : off = ![0, h.val, 0, 0]) (inb) (r : Fin 128) (d : Fin 64) :
    (Rect.unit (s := S1x4x128x64) off S1x1x128x64.size inb).emb (ix4 0 0 r d) = ix4 0 h r d := by
  subst hoff
  refine funext fun a => Fin.ext ?_
  rw [Rect.emb_apply]
  match a with
  | ⟨0, _⟩ => simp
  | ⟨1, _⟩ => simp
  | ⟨2, _⟩ => simp
  | ⟨3, _⟩ => simp

theorem out_block (y : S1x4x128x64.Idx) :
    out0_A_3 c i arg2 harg2 arg3 harg3 arg4 harg4 arg5 harg5 arg6 harg6 arg7 harg7 arg8 harg8 x0 x1 x2 y
      = entry (last i x0 x1).2.2 (last i x0 x1).2.1 x2 y := by
  unfold out0_A_3
  refine View.read_writes_apply_of_pieces _ _ (entry (last i x0 x1).2.2 (last i x0 x1).2.1 x2) _ (fun p hp x => ?_) y
    (cover0_A_3 c i arg2 harg2 arg3 harg3 arg4 harg4 arg5 harg5 arg6 harg6 arg7 harg7 arg8 harg8 x0 x1 x2 y)
  rw [body_pieces] at hp
  generalize (last i x0 x1).2.2 = A at *
  generalize (last i x0 x1).2.1 = L at *
  simp only [List.mem_cons, List.not_mem_nil, or_false] at hp
  rcases hp with rfl | rfl | rfl | rfl
  · obtain ⟨r, d, rfl⟩  := unit_pair x
    refine (head3_apply _ _ _ r d).trans ?_
    refine Eq.trans ?_ ((congrArg (entry A L x2) (emb_head 3 _ rfl inb_S1x4x128x64_S1x1x128x64_0_3_0_0 r d)).trans
      (entry_apply A L x2 3 r d (by show 128 * 3 + r.val < 512; omega))).symm
    refine Finset.sum_congr rfl fun a _ => ?_
    exact congrArg (_ * ·) (ld_head x2 3 _ rfl inb_S4x128x64_S1x128x64_3_0_0 a d)
  · obtain ⟨r, d, rfl⟩  := unit_pair x
    refine (head2_apply _ _ _ r d).trans ?_
    refine Eq.trans ?_ ((congrArg (entry A L x2) (emb_head 2 _ rfl inb_S1x4x128x64_S1x1x128x64_0_2_0_0 r d)).trans
      (entry_apply A L x2 2 r d (by show 128 * 2 + r.val < 512; omega))).symm
    refine Finset.sum_congr rfl fun a _ => ?_
    exact congrArg (_ * ·) (ld_head x2 2 _ rfl inb_S4x128x64_S1x128x64_2_0_0 a d)
  · obtain ⟨r, d, rfl⟩  := unit_pair x
    refine (head1_apply _ _ _ r d).trans ?_
    refine Eq.trans ?_ ((congrArg (entry A L x2) (emb_head 1 _ rfl inb_S1x4x128x64_S1x1x128x64_0_1_0_0 r d)).trans
      (entry_apply A L x2 1 r d (by show 128 * 1 + r.val < 512; omega))).symm
    refine Finset.sum_congr rfl fun a _ => ?_
    exact congrArg (_ * ·) (ld_head x2 1 _ rfl inb_S4x128x64_S1x128x64_1_0_0 a d)
  · obtain ⟨r, d, rfl⟩  := unit_pair x
    refine (head0_apply _ _ _ r d).trans ?_
    refine Eq.trans ?_ ((congrArg (entry A L x2) (emb_head 0 _ rfl inb_S1x4x128x64_S1x1x128x64_0_0_0_0 r d)).trans
      (entry_apply A L x2 0 r d (by show 128 * 0 + r.val < 512; omega))).symm
    refine Finset.sum_congr rfl fun a _ => ?_
    have e : (⟨r.val, by omega⟩ : Fin 512) = ⟨128 * (0 : Fin 4).val + r.val, by show 128 * 0 + r.val < 512; omega⟩ :=
      Fin.ext (Nat.zero_add _).symm
    exact congrArg₂ (· * ·) (congrArg₂ (fun u v => Ideal.div (A (ix2 u a)) (L (ix2 v 0))) e e)
      (ld_head x2 0 _ rfl inb_S4x128x64_S1x128x64_0_0_0 a d)
end

variable (m : (ℓ : Loc nD τ sig) → Buf (Elt Ideal) ℓ)

theorem idx0 : ∀ t : Fin cfg0.N, win0_0.index t = ![(grid0.coords t 0).val, 0, (grid0.coords t 1).val, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![(grid0.coords t 0).val, 0, (grid0.coords t 1).val, 0] := (by decide +kernel : ∀ t : Fin grid0.N, _)

theorem entry_q (c : Dev nD) (b : Fin 8) (h : Fin 4) (t : Fin 2048) (e : Fin 160) : V m c main_v2 (ix4 b h t e)
    = if h1 : e.val < 128 then m ((c : Thread nD τ).loc main_arg0) (ix4 b t h ⟨e.val, h1⟩)
      else m ((c : Thread nD τ).loc main_arg1) (ix4 b t h ⟨e.val - 128, by omega⟩) := by
  entry_read
  pointwise []
theorem entry_k (c : Dev nD) (b : Fin 8) (t : Fin 2048) (e : Fin 160) : V m c main_v4 (ix3 b t e)
    = if h1 : e.val < 128 then m ((c : Thread nD τ).loc main_arg2) (ix3 b t ⟨e.val, h1⟩)
      else m ((c : Thread nD τ).loc main_arg3) (ix3 b t ⟨e.val - 128, by omega⟩) := by
  entry_read
  pointwise []
theorem entry_w (c : Dev nD) (h : Fin 4) (r : Fin 128) (e : Fin 64) : V m c main_v5 (ix3 h r e)
    = m ((c : Thread nD τ).loc main_arg4) (ix3 r h e) := by
  entry_read
  pointwise []

theorem read_q (c : Dev nD) (t : Fin cfg0.N) (h : Fin 4) (r : Fin 128) (e : Fin 160) :
    iblk m c 0 t (ix4 0 h r e) = V m c main_v2 (ix4 (grid0.coords t 0) h ⟨128 * (grid0.coords t 1).val + r.val, by have h1 : (grid0.coords t 1).val < 16 := (grid0.coords t 1).isLt; omega⟩ e) := by
  blk_simp [iblk]
  refine congrArg _ ?_
  blk_ext [idx0]
theorem read_k (c : Dev nD) (t : Fin cfg0.N) (g : Fin 2048) (e : Fin 160) :
    iblk m c 1 t (ix3 0 g e) = V m c main_v4 (ix3 (grid0.coords t 0) g e) := by
  blk_simp [iblk]
  refine congrArg _ ?_
  blk_ext [idx1]
theorem read_w (c : Dev nD) (t : Fin cfg0.N) (h : Fin 4) (r : Fin 128) (e : Fin 64) :
    iblk m c 2 t (ix3 h r e) = V m c main_v5 (ix3 h r e) := by
  blk_simp [iblk]
  refine congrArg _ ?_
  blk_ext [idx2]

theorem scale_real : ∃ s : ℝ, Ideal.ofBits .f32 0x3DD105EC#32 = s := by
  refine exists_real ?_ ?_ <;> simp [Ideal.ofBits, Ideal.ieee]
  · rw [← EReal.coe_mul]; exact EReal.coe_ne_top _
  · rw [← EReal.coe_mul]; exact EReal.coe_ne_bot _

/-- On finite arguments a score is real. -/
theorem raw_real (x0 : Vec Ideal S8x2048x4x128 .f32) (x1 : Vec Ideal S8x2048x4x32 .f32) (x2 : Vec Ideal S8x2048x128 .f32)
    (x3 : Vec Ideal S8x2048x32 .f32) (h0 : ∀ j, ∃ r : ℝ, x0 j = (r : EReal)) (h1 : ∀ j, ∃ r : ℝ, x1 j = (r : EReal))
    (h2 : ∀ j, ∃ r : ℝ, x2 j = (r : EReal)) (h3 : ∀ j, ∃ r : ℝ, x3 j = (r : EReal)) (b : Fin 8) (h : Fin 4) (t s : Fin 2048) :
    ∃ r : ℝ, Cert.MlaRefIdeal.Plain.raw x0 x1 x2 x3 b h t s = (r : EReal) := by
  choose f0 e0 using h0
  choose f1 e1 using h1
  choose f2 e2 using h2
  choose f3 e3 using h3
  obtain ⟨w, ew⟩ := scale_real
  refine ⟨(∑ x, f2 (ix3 b s x) * f0 (ix4 b t h x) + ∑ x, f3 (ix3 b s x) * f1 (ix4 b t h x)) * w, ?_⟩
  unfold Cert.MlaRefIdeal.Plain.raw
  rw [ew, EReal.coe_mul, EReal.coe_add, coe_sum, coe_sum]
  simp only [e0, e1, e2, e3, EReal.coe_mul]

/-- A row of queries by a row of keys, both joined of two parts, is the sum of the parts' products. -/
theorem joined (f g : Fin 160 → EReal) (f0 g0 : Fin 128 → EReal) (f1 g1 : Fin 32 → EReal)
    (hf0 : ∀ x : Fin 128, f ⟨x.val, by omega⟩ = f0 x) (hf1 : ∀ x : Fin 32, f ⟨128 + x.val, by omega⟩ = f1 x)
    (hg0 : ∀ x : Fin 128, g ⟨x.val, by omega⟩ = g0 x) (hg1 : ∀ x : Fin 32, g ⟨128 + x.val, by omega⟩ = g1 x) :
    ∑ x, f x * g x = ∑ x, g0 x * f0 x + ∑ x, g1 x * f1 x := by
  refine (Fin.sum_univ_add (a := 128) (b := 32) (fun x => f x * g x)).trans ?_
  refine congrArg₂ (· + ·) (Finset.sum_congr rfl fun x _ => ?_) (Finset.sum_congr rfl fun x _ => ?_)
  · rw [← hf0, ← hg0, mul_comm]; rfl
  · rw [← hf1, ← hg1, mul_comm]; rfl

/-- An entry of the block stored at a grid point, from blocks that read the arguments. -/
theorem block_entry (i : grid0.Coords) (X0 : Vec Ideal S1x4x128x160 .bf16) (X1 : Vec Ideal S1x2048x160 .bf16) (X2 : Vec Ideal S4x128x64 .f32)
    (a0 : Vec Ideal S8x2048x4x128 .f32) (a1 : Vec Ideal S8x2048x4x32 .f32) (a2 : Vec Ideal S8x2048x128 .f32)
    (a3 : Vec Ideal S8x2048x32 .f32) (a4 : Vec Ideal S128x4x64 .f32)
    (h0 : ∀ j, ∃ r : ℝ, a0 j = (r : EReal)) (h1 : ∀ j, ∃ r : ℝ, a1 j = (r : EReal))
    (h2 : ∀ j, ∃ r : ℝ, a2 j = (r : EReal)) (h3 : ∀ j, ∃ r : ℝ, a3 j = (r : EReal))
    (b : Fin 8) (h : Fin 4) (r : Fin 128) (d : Fin 64) (hT : 128 * (i 1).val + r.val < 2048)
    (q0 : ∀ x : Fin 128, X0 (ix4 0 h r ⟨x.val, by omega⟩) = a0 (ix4 b ⟨128 * (i 1).val + r.val, hT⟩ h x))
    (q1 : ∀ x : Fin 32, X0 (ix4 0 h r ⟨128 + x.val, by omega⟩) = a1 (ix4 b ⟨128 * (i 1).val + r.val, hT⟩ h x))
    (k0 : ∀ (g : Fin 2048) (x : Fin 128), X1 (ix3 0 g ⟨x.val, by omega⟩) = a2 (ix3 b g x))
    (k1 : ∀ (g : Fin 2048) (x : Fin 32), X1 (ix3 0 g ⟨128 + x.val, by omega⟩) = a3 (ix3 b g x))
    (w : ∀ x : Fin 128, X2 (ix3 h x d) = a4 (ix3 x h d)) :
    entry (last i X0 X1).2.2 (last i X0 X1).2.1 X2 (ix4 0 h r d)
      = Cert.MlaRefIdeal.Read.val_main_v29 (F := Ideal) a0 a1 a2 a3 a4 (ix4 b h ⟨128 * (i 1).val + r.val, hT⟩ d) := by
  have hraw := raw_real a0 a1 a2 a3 h0 h1 h2 h3 b h ⟨128 * (i 1).val + r.val, hT⟩
  choose σ' hσ' using hraw
  choose ν' hν' using fun (s : Fin 2048) (a : Fin 128) => h2 (ix3 b s a)
  obtain ⟨σ, eσ⟩ : ∃ σ : ℕ → ℝ, ∀ s : Fin 2048, σ s.val = σ' s :=
    ⟨fun n => if hn : n < 2048 then σ' ⟨n, hn⟩ else 0, fun s => dif_pos s.isLt⟩
  obtain ⟨ν, eν⟩ : ∃ ν : ℕ → Fin 128 → ℝ, ∀ (s : Fin 2048) a, ν s.val a = ν' s a :=
    ⟨fun n a => if hn : n < 2048 then ν' ⟨n, hn⟩ a else 0, fun s a => dif_pos s.isLt⟩
  obtain ⟨μ, hμ⟩ := Cert.MlaRefIdeal.Plain.out_apply a0 a1 a2 a3 a4 b h ⟨128 * (i 1).val + r.val, hT⟩ d σ ν
    (fun s => by rw [hσ', eσ]) (fun s a => by rw [hν', eν])
  rw [hμ]
  have hR : 128 * h.val + r.val < 512 := by omega
  have hh : (⟨(128 * h.val + r.val) / 128, by omega⟩ : Fin 4) = h := Fin.ext (by show (128 * h.val + r.val) / 128 = h.val; omega)
  have hr : (⟨(128 * h.val + r.val) % 128, by omega⟩ : Fin 128) = r := Fin.ext (by show (128 * h.val + r.val) % 128 = r.val; omega)
  have hkν : ∀ (g : Fin 2048) (a : Fin 128), X1 (ix3 0 g ⟨a.val, by omega⟩) = (ν g.val a : EReal) := by
    intro g a
    rw [k0, eν, hν']
  have hq : ∀ e : Fin 160, k0_pay18 X0 (ix2 ⟨128 * h.val + r.val, hR⟩ e) = X0 (ix4 0 h r e) := by
    intro e
    rw [q_apply]
    exact congrArg X0 (congrArg₂ (fun u v => ix4 0 u v e) hh hr)
  have hkσ : ∀ g : Fin 2048, (∑ x, k0_pay18 X0 (ix2 ⟨128 * h.val + r.val, hR⟩ x) * X1 (ix3 0 g x)) * Ideal.ofBits .f32 1037108716#32 = (σ g.val : EReal) := by
    intro g
    rw [eσ, ← hσ' g]
    unfold Cert.MlaRefIdeal.Plain.raw
    refine congrArg (fun z : EReal => z * Ideal.ofBits .f32 0x3DD105EC#32)
      (joined (fun x => k0_pay18 X0 (ix2 ⟨128 * h.val + r.val, hR⟩ x)) (fun x => X1 (ix3 0 g x))
        (fun x => a0 (ix4 b ⟨128 * (i 1).val + r.val, hT⟩ h x)) (fun x => a2 (ix3 b g x))
        (fun x => a1 (ix4 b ⟨128 * (i 1).val + r.val, hT⟩ h x)) (fun x => a3 (ix3 b g x)) (fun x => ?_) (fun x => ?_) (fun x => ?_) (fun x => ?_))
    · exact (hq _).trans (q0 x)
    · exact (hq _).trans (q1 x)
    · exact k0 g x
    · exact k1 g x
  have hz := rows_quotient i (k0_pay18 X0) X1 ⟨128 * h.val + r.val, hR⟩ σ ν hkσ hkν μ
  have e2 : (⟨128 * h.val + r.val, hR⟩ : Fin 512).val % 128 = r.val := by show (128 * h.val + r.val) % 128 = r.val; omega
  rw [e2] at hz
  rw [entry_apply _ _ _ _ _ _ hR]
  unfold last
  refine Finset.sum_congr rfl fun a _ => ?_
  exact (congrArg₂ (· * ·) (hz a) (w a)).trans (mul_comm _ _)

/-- The output array is the plain attention of the arguments. -/
theorem final (c : Dev nD) (h0 : ∀ j, ∃ r : ℝ, m ((c : Thread nD τ).loc main_arg0) j = (r : EReal))
    (h1 : ∀ j, ∃ r : ℝ, m ((c : Thread nD τ).loc main_arg1) j = (r : EReal))
    (h2 : ∀ j, ∃ r : ℝ, m ((c : Thread nD τ).loc main_arg2) j = (r : EReal))
    (h3 : ∀ j, ∃ r : ℝ, m ((c : Thread nD τ).loc main_arg3) j = (r : EReal)) : (dats m 0 c).arrAt 3 cfg0.N
    = Cert.MlaRefIdeal.Read.val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 3 _ (by decide +kernel) fun t hf y => ?_
  blk_simp
  rw [after0_3]
  unfold outsAt0
  obtain ⟨h, r, d, rfl⟩ := unit_row y
  refine (out_block _ _ _ _ _ _ _ _ _ _ _ _ _ _ _ _ _ _ _ _).trans ?_
  have hq : (grid0.coords t 1).val < 16 := (grid0.coords t 1).isLt
  have hT : 128 * (grid0.coords t 1).val + r.val < 2048 := by omega
  have eo : (win0_3.blk t).view.emb (ix4 0 h r d) = ix4 (grid0.coords t 0) h ⟨128 * (grid0.coords t 1).val + r.val, hT⟩ d := by
    blk_ext [idx3]
  refine (block_entry (grid0.coords t) _ _ _ _ _ _ _ (m ((c : Thread nD τ).loc main_arg4)) h0 h1 h2 h3 (grid0.coords t 0) h r d hT ?_ ?_ ?_ ?_ ?_).trans
    (congrArg (Cert.MlaRefIdeal.Read.val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4))) eo).symm
  · intro x
    exact (read_q m c t h r _).trans ((entry_q m c _ _ _ _).trans (dif_pos x.isLt))
  · intro x
    refine (read_q m c t h r _).trans ((entry_q m c _ _ _ _).trans ((dif_neg (Nat.not_lt.mpr (Nat.le_add_right _ _))).trans ?_))
    exact congrArg _ (congrArg (ix4 _ _ _) (Fin.ext (Nat.add_sub_cancel_left _ _)))
  · intro g x
    exact (read_k m c t g _).trans ((entry_k m c _ _ _).trans (dif_pos x.isLt))
  · intro g x
    refine (read_k m c t g _).trans ((entry_k m c _ _ _).trans ((dif_neg (Nat.not_lt.mpr (Nat.le_add_right _ _))).trans ?_))
    exact congrArg _ (congrArg (ix3 _ _) (Fin.ext (Nat.add_sub_cancel_left _ _)))
  · intro x
    exact (read_w m c t h x d).trans (entry_w m c h x d)

end Cert.MlaIdeal.Attn

/-- The prompt attention's output is the plain attention's on finite queries, latents and rotated keys. -/
theorem Cert.MlaIdeal.Attn.algebraic [inst : Cert.Pre_finite.Facts] : Cert.algebraic_MlaIdeal_MlaRefIdeal_pre_finite := by
  pair_intro
  · run_from Cert.MlaIdeal.Value.run_blocks m g
  · run_from Cert.MlaRefIdeal.Value.run m' g'
    obtain ⟨e0, e1, e2, e3, e4⟩ := hagree c
    obtain ⟨h0, h1, h2, h3⟩ := Cert.Pre_finite.reals _ _ _ _ _ (hpre c)
    rw [Cert.MlaIdeal.Attn.final m c h0 h1 h2 h3, ← e0, ← e1, ← e2, ← e3, ← e4]
    exact Cert.MlaRefIdeal.Read.val_main_v29_eq (F := Ideal) m' c

end
-- ==== Proof.ResLn.lean ====
/-
  A projection added to a scaled residual and normalised along the row: the row's arithmetic, shared by the mixers' output
  projection and the feed-forward layer's narrowing product.
-/
module

public import Idealize.ShloMosaic.PureOps.Ideal

@[expose] public section

noncomputable section

open Idealize.ShloMosaic
open scoped BigOperators

namespace Cert.ResLn

/-- The residual times its scale plus the projection, at one column. -/
def resid {K : ℕ} (x : Fin K → EReal) (w : Fin K → Fin 1024 → EReal) (res : Fin 1024 → EReal) (l : Fin 1024) : EReal :=
  Ideal.ofBits .f32 0x3FD744FD#32 * res l + ∑ k, x k * w k l

/-- A row's mean. -/
def mean (y : Fin 1024 → EReal) : EReal := Ideal.div (∑ l, y l) (Ideal.ofBits .f32 0x44800000#32)

/-- A row normalised, scaled and shifted, at one column. -/
def rowNorm (y g b : Fin 1024 → EReal) (l : Fin 1024) : EReal :=
  (y l - mean y) * Ideal.rsqrt (mean (fun l => (y l - mean y) * (y l - mean y)) + Ideal.ofBits .f32 0x3727C5AC#32) * g l + b l

end Cert.ResLn

end
-- ==== Proof.Out.lean ====
/-
  The mixers' output projection with its residual and its row normalisation: both copies of the block the kernel leaves
  are the reference's, its rows numbered through the batch.
-/
module

public import proofs.«01_k».proof.Defs
public import proofs.«01_k».proof.Proof.ResLn
public import proofs.«01_k».proof.Proof.Gen.OutIdeal.Value
public import proofs.«01_k».proof.Proof.Gen.OutRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)
open scoped BigOperators

namespace Cert.OutIdeal.Row

open Cert.OutIdeal Cert.OutIdeal.Gen Cert.OutIdeal.Value Cert.ResLn

variable (m : (ℓ : Loc nD τ sig) → Buf (Elt Ideal) ℓ)

theorem pay1_apply (res : Vec Ideal S512x1024 .f32) (x : Vec Ideal S512x1024 .bf16) (w : Vec Ideal S1024x1024 .bf16)
    (g b : Vec Ideal S1x1024 .f32) (r : Fin 512) (l : Fin 1024) :
    k0_pay1 (F := Ideal) res x w g b (ix2 r l)
      = rowNorm (resid (fun k => x (ix2 r k)) (fun k l => w (ix2 k l)) (fun l => res (ix2 r l)))
          (fun l => g (ix2 (0 : Fin 1) l)) (fun l => b (ix2 (0 : Fin 1) l)) l := by
  pointwise [k0_pay1, rowNorm, mean, resid]

theorem pay2_apply (res : Vec Ideal S512x1024 .f32) (x : Vec Ideal S512x1024 .bf16) (w : Vec Ideal S1024x1024 .bf16)
    (g b : Vec Ideal S1x1024 .f32) (j : S512x1024.Idx) :
    k0_pay2 (F := Ideal) res x w g b j = k0_pay1 (F := Ideal) res x w g b j := rfl

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)

/-- The sequence a row of the whole batch is in. -/
abbrev seqOf (R : Fin 16384) : Fin 8 := ⟨R.val / 2048, by omega⟩
/-- The row's place in its sequence. -/
abbrev posOf (R : Fin 16384) : Fin 2048 := ⟨R.val % 2048, Nat.mod_lt _ (by norm_num)⟩

theorem V_v1 (c : Dev nD) (R : Fin 16384) (k : Fin 1024) : (V m c main_v1 : Vec Ideal S16384x1024 .bf16) (ix2 R k)
    = (m ((c : Thread nD τ).loc main_arg0) : Vec Ideal S8x2048x1024 .f32) (ix3 (seqOf R) (posOf R) k) := by
  entry_read
  pointwise []
/-- The weight enters the product converted, which leaves it as it is. -/
theorem V_v2 (c : Dev nD) : V m c main_v2 = m ((c : Thread nD τ).loc main_arg1) := by
  entry_read
  rfl
theorem V_v3 (c : Dev nD) (R : Fin 16384) (k : Fin 1024) : (V m c main_v3 : Vec Ideal S16384x1024 .f32) (ix2 R k)
    = (m ((c : Thread nD τ).loc main_arg2) : Vec Ideal S8x2048x1024 .f32) (ix3 (seqOf R) (posOf R) k) := by
  entry_read
  pointwise []
/-- The scale's row. -/
theorem V_v4 (c : Dev nD) (l : Fin 1024) : (V m c main_v4 : Vec Ideal S1x1024 .f32) (ix2 (0 : Fin 1) l)
    = (m ((c : Thread nD τ).loc main_arg3) : Vec Ideal S1024 .f32) (ix1 l) := by
  entry_read
  pointwise []
/-- The shift's row. -/
theorem V_v5 (c : Dev nD) (l : Fin 1024) : (V m c main_v5 : Vec Ideal S1x1024 .f32) (ix2 (0 : Fin 1) l)
    = (m ((c : Thread nD τ).loc main_arg4) : Vec Ideal S1024 .f32) (ix1 l) := by
  entry_read
  pointwise []

/-- The normalised rows, from the call's five arguments. -/
def Y (x : Vec Ideal S8x2048x1024 .f32) (w : Vec Ideal S1024x1024 .f32) (res : Vec Ideal S8x2048x1024 .f32)
    (g b : Vec Ideal S1024 .f32) : Vec Ideal S16384x1024 .f32 := fun j =>
  rowNorm (resid (fun k => x (ix3 (seqOf (j 0)) (posOf (j 0)) k)) (fun k l => w (ix2 k l)) (fun l => res (ix3 (seqOf (j 0)) (posOf (j 0)) l)))
    (fun l => g (ix1 l)) (fun l => b (ix1 l)) (j 1)

/-- The block's rows at a point are the array's. -/
theorem block_eq (c : Dev nD) (t : Fin cfg0.N) (r : Fin 512) (l : Fin 1024) :
    k0_pay1 (F := Ideal) (iblk m c 2 t) (iblk m c 0 t) (iblk m c 1 t) (iblk m c 3 t) (iblk m c 4 t) (ix2 r l)
      = Y (m ((c : Thread nD τ).loc main_arg0)) (m ((c : Thread nD τ).loc main_arg1)) (m ((c : Thread nD τ).loc main_arg2))
          (m ((c : Thread nD τ).loc main_arg3)) (m ((c : Thread nD τ).loc main_arg4))
          (ix2 (⟨(grid0.coords t 0).val * 512 + r.val, by have := (grid0.coords t 0).isLt; have := r.isLt; simp at *; omega⟩ : Fin 16384) l) := by
  refine (pay1_apply _ _ _ _ _ r l).trans ?_
  unfold Y
  congr 1
  · congr 1
    · funext k
      blk_simp [iblk]
      refine Eq.trans ?_ (V_v1 m c _ k)
      refine congrArg _ ?_
      blk_ext [idx0]
    · funext k l
      blk_simp [iblk, V_v2]
      refine congrArg _ ?_
      blk_ext [idx1]
    · funext l
      blk_simp [iblk]
      refine Eq.trans ?_ (V_v3 m c _ l)
      refine congrArg _ ?_
      blk_ext [idx2]
  · funext l
    blk_simp [iblk]
    rw [← V_v4 m c l]
    refine congrArg _ ?_
    blk_ext [idx3]
  · funext l
    blk_simp [iblk]
    rw [← V_v5 m c l]
    refine congrArg _ ?_
    blk_ext [idx4]

theorem final5 (c : Dev nD) : (dats m 0 c).arrAt 5 cfg0.N
    = Y (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  rw [after0_5]; frame_out
  obtain ⟨r, l, rfl⟩ : ∃ (r : Fin 512) (l : Fin 1024), y = ix2 r l := ⟨y 0, y 1, (ValueIdx.eq_ix2 y)⟩
  refine (block_eq m c t r l).trans (congrArg _ ?_)
  blk_ext [idx5]

theorem final6 (c : Dev nD) : (dats m 0 c).arrAt 6 cfg0.N
    = Y (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  blk_simp
  rw [after0_6]; frame_out
  obtain ⟨r, l, rfl⟩ : ∃ (r : Fin 512) (l : Fin 1024), y = ix2 r l := ⟨y 0, y 1, (ValueIdx.eq_ix2 y)⟩
  refine (pay2_apply _ _ _ _ _ _).trans ((block_eq m c t r l).trans (congrArg _ ?_))
  blk_ext [idx6]

section
open Cert.OutRefIdeal.Read

/-- The reference's residual sum. -/
theorem ref_resid (x : Vec Ideal S8x2048x1024 .f32) (w : Vec Ideal S1024x1024 .f32) (res : Vec Ideal S8x2048x1024 .f32) (p : Fin 8) (r : Fin 2048) (l : Fin 1024) :
    val_main_v3 (F := Ideal) x w res (ix3 p r l)
      = resid (fun k => x (ix3 p r k)) (fun k l => w (ix2 k l)) (fun l => res (ix3 p r l)) l := by
  pointwise [val_main_v3, val_main_v2, val_main_v1, val_main_v0, val_main_cst, resid]

/-- The reference's normalised rows are the same. -/
theorem ref_eq (x : Vec Ideal S8x2048x1024 .f32) (w : Vec Ideal S1024x1024 .f32) (res : Vec Ideal S8x2048x1024 .f32) (g b : Vec Ideal S1024 .f32) :
    val_main_v28 (F := Ideal) x w res g b = Y x w res g b := by
  funext j
  obtain ⟨r, l, rfl⟩ : ∃ (r : Fin 16384) (l : Fin 1024), j = ix2 r l := ⟨j 0, j 1, (ValueIdx.eq_ix2 j)⟩
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_cst_0, val_main_cst_1,
    val_main_cst_2, val_main_cst_3, val_main_cst_4, Y, rowNorm, mean, ref_resid]
end

end Cert.OutIdeal.Row

/-- Both copies of the output rows are the reference's. -/
theorem Cert.OutIdeal.Row.algebraic : Cert.algebraic_OutIdeal_OutRefIdeal := by
  pair_intro
  · run_from Cert.OutIdeal.Value.run_blocks m g
  · run_from Cert.OutRefIdeal.Value.run m' g'
    · rw [Cert.OutIdeal.Row.final5 m c, ← Cert.OutIdeal.Row.ref_eq]
      exact Cert.OutRefIdeal.Read.val_main_v28_eq (F := Ideal) _ _ _ _ _
    · rw [Cert.OutIdeal.Row.final6 m c, ← Cert.OutIdeal.Row.ref_eq]
      exact Cert.OutRefIdeal.Read.val_main_v29_eq (F := Ideal) _ _ _ _ _

end
-- ==== Proof.Up.lean ====
/-
  The feed-forward layer's two widening products: the kernel's hidden block is the gated product of the reference.
-/
module

public import proofs.«01_k».proof.Defs
public import proofs.«01_k».proof.Proof.Gen.UpIdeal.Value
public import proofs.«01_k».proof.Proof.Gen.UpRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)
open scoped BigOperators

namespace Cert.UpIdeal.Hidden

open Cert.UpIdeal Cert.UpIdeal.Gen Cert.UpIdeal.Value

variable (m : (ℓ : Loc nD τ sig) → Buf (Elt Ideal) ℓ)

/-- The two products' gated combination, at one row and one column. -/
def gated (x : Fin 1024 → EReal) (g u : Fin 1024 → EReal) : EReal :=
  (∑ k, x k * g k) * Ideal.logistic (∑ k, x k * g k) * (∑ k, x k * u k)

theorem pay_apply (x0 : Vec Ideal S512x1024 .bf16) (x1 x2 : Vec Ideal S1024x1408 .bf16) (r : Fin 512) (l : Fin 1408) :
    k0_pay1 (F := Ideal) x0 x1 x2 (ix2 r l)
      = gated (fun k => x0 (ix2 r k)) (fun k => x1 (ix2 k l)) (fun k => x2 (ix2 k l)) := by
  pointwise [k0_pay1, gated]

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![0, (grid0.coords t 1).val] := (by decide +kernel : ∀ t : Fin grid0.N, _)
theorem idx3 : ∀ t : Fin cfg0.N, win0_3.index t = ![(grid0.coords t 0).val, (grid0.coords t 1).val] := (by decide +kernel : ∀ t : Fin grid0.N, _)

theorem V_v0 (c : Dev nD) : V m c main_v0 = m ((c : Thread nD τ).loc main_arg1) := by
  entry_read
  rfl
theorem V_v1 (c : Dev nD) : V m c main_v1 = m ((c : Thread nD τ).loc main_arg2) := by
  entry_read
  rfl

/-- The hidden block, from the layer's three arguments. -/
def H (x : Vec Ideal S16384x1024 .bf16) (g u : Vec Ideal S1024x2816 .f32) : Vec Ideal S16384x2816 .bf16 := fun j =>
  gated (fun k => x (ix2 (j 0) k)) (fun k => g (ix2 k (j 1))) (fun k => u (ix2 k (j 1)))

theorem final (c : Dev nD) : (dats m 0 c).arrAt 3 cfg0.N
    = H (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  obtain ⟨r, l, rfl⟩ : ∃ (r : Fin 512) (l : Fin 1408), y = ix2 r l := ⟨y 0, y 1, (ValueIdx.eq_ix2 y)⟩
  refine (pay_apply _ _ _ r l).trans ?_
  unfold H
  congr 1 <;> funext k
  · blk_simp [iblk, V_main_arg0]
    refine congrArg _ ?_
    blk_ext [idx0, idx3]
  · blk_simp [iblk, V_v0]
    refine congrArg _ ?_
    blk_ext [idx1, idx3]
  · blk_simp [iblk, V_v1]
    refine congrArg _ ?_
    blk_ext [idx2, idx3]

/-- The reference's hidden block is the same combination. -/
theorem ref_eq (x : Vec Ideal S16384x1024 .bf16) (g u : Vec Ideal S1024x2816 .f32) :
    Cert.UpRefIdeal.Read.val_main_v5 (F := Ideal) x g u = H x g u := by
  funext j
  obtain ⟨r, l, rfl⟩ : ∃ (r : Fin 16384) (l : Fin 2816), j = ix2 r l := ⟨j 0, j 1, (ValueIdx.eq_ix2 j)⟩
  pointwise [Cert.UpRefIdeal.Read.val_main_v5, Cert.UpRefIdeal.Read.val_main_v4, Cert.UpRefIdeal.Read.val_main_v3,
    Cert.UpRefIdeal.Read.val_main_v2, Cert.UpRefIdeal.Read.val_main_v1, Cert.UpRefIdeal.Read.val_main_v0,
    Cert.UpRefIdeal.Read.val_main_call0_v5, Cert.UpRefIdeal.Read.val_main_call0_v4, Cert.UpRefIdeal.Read.val_main_call0_v3,
    Cert.UpRefIdeal.Read.val_main_call0_v2, Cert.UpRefIdeal.Read.val_main_call0_v1, Cert.UpRefIdeal.Read.val_main_call0_v0,
    Cert.UpRefIdeal.Read.val_main_call0_cst, Cert.UpRefIdeal.Read.val_main_call0_cst_0, H, gated]
  rfl

end Cert.UpIdeal.Hidden

/-- The hidden block of the kernel is the hidden block of the reference. -/
theorem Cert.UpIdeal.Hidden.algebraic : Cert.algebraic_UpIdeal_UpRefIdeal := by
  pair_intro
  · run_from Cert.UpIdeal.Value.run_blocks m g
  · run_from Cert.UpRefIdeal.Value.run m' g'
    rw [Cert.UpIdeal.Hidden.final m c, ← Cert.UpIdeal.Hidden.ref_eq]
    exact Cert.UpRefIdeal.Read.val_main_v5_eq (F := Ideal) _ _ _

end
-- ==== Proof.Down.lean ====
/-
  The feed-forward layer's narrowing product with its residual and its row normalisation: both copies of the block the
  kernel leaves are the reference's.
-/
module

public import proofs.«01_k».proof.Defs
public import proofs.«01_k».proof.Proof.ResLn
public import proofs.«01_k».proof.Proof.Gen.DownIdeal.Value
public import proofs.«01_k».proof.Proof.Gen.DownRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)
open scoped BigOperators

namespace Cert.DownIdeal.Row

open Cert.DownIdeal Cert.DownIdeal.Gen Cert.DownIdeal.Value Cert.ResLn

variable (m : (ℓ : Loc nD τ sig) → Buf (Elt Ideal) ℓ)

theorem pay1_apply (res : Vec Ideal S512x1024 .f32) (x : Vec Ideal S512x2816 .bf16) (w : Vec Ideal S2816x1024 .bf16)
    (g b : Vec Ideal S1x1024 .f32) (r : Fin 512) (l : Fin 1024) :
    k0_pay1 (F := Ideal) res x w g b (ix2 r l)
      = rowNorm (resid (fun k => x (ix2 r k)) (fun k l => w (ix2 k l)) (fun l => res (ix2 r l)))
          (fun l => g (ix2 (0 : Fin 1) l)) (fun l => b (ix2 (0 : Fin 1) l)) l := by
  pointwise [k0_pay1, rowNorm, mean, resid]

theorem pay2_apply (res : Vec Ideal S512x1024 .f32) (x : Vec Ideal S512x2816 .bf16) (w : Vec Ideal S2816x1024 .bf16)
    (g b : Vec Ideal S1x1024 .f32) (j : S512x1024.Idx) :
    k0_pay2 (F := Ideal) res x w g b j = k0_pay1 (F := Ideal) res x w g b j := rfl

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)

/-- The weight enters the product converted, which leaves it as it is. -/
theorem V_v0 (c : Dev nD) : V m c main_v0 = m ((c : Thread nD τ).loc main_arg1) := by
  entry_read
  rfl
/-- The scale's row. -/
theorem V_v1 (c : Dev nD) (l : Fin 1024) : (V m c main_v1 : Vec Ideal S1x1024 .f32) (ix2 (0 : Fin 1) l)
    = (m ((c : Thread nD τ).loc main_arg3) : Vec Ideal S1024 .f32) (ix1 l) := by
  entry_read
  pointwise []
/-- The shift's row. -/
theorem V_v2 (c : Dev nD) (l : Fin 1024) : (V m c main_v2 : Vec Ideal S1x1024 .f32) (ix2 (0 : Fin 1) l)
    = (m ((c : Thread nD τ).loc main_arg4) : Vec Ideal S1024 .f32) (ix1 l) := by
  entry_read
  pointwise []

/-- The layer's output rows, from its five arguments. -/
def Y (x : Vec Ideal S16384x2816 .bf16) (w : Vec Ideal S2816x1024 .f32) (res : Vec Ideal S16384x1024 .f32)
    (g b : Vec Ideal S1024 .f32) : Vec Ideal S16384x1024 .f32 := fun j =>
  rowNorm (resid (fun k => x (ix2 (j 0) k)) (fun k l => w (ix2 k l)) (fun l => res (ix2 (j 0) l))) (fun l => g (ix1 l)) (fun l => b (ix1 l)) (j 1)

/-- The block's rows at a point are the array's. -/
theorem block_eq (c : Dev nD) (t : Fin cfg0.N) (r : Fin 512) (l : Fin 1024) :
    k0_pay1 (F := Ideal) (iblk m c 2 t) (iblk m c 0 t) (iblk m c 1 t) (iblk m c 3 t) (iblk m c 4 t) (ix2 r l)
      = Y (m ((c : Thread nD τ).loc main_arg0)) (m ((c : Thread nD τ).loc main_arg1)) (m ((c : Thread nD τ).loc main_arg2))
          (m ((c : Thread nD τ).loc main_arg3)) (m ((c : Thread nD τ).loc main_arg4))
          (ix2 (⟨(grid0.coords t 0).val * 512 + r.val, by have := (grid0.coords t 0).isLt; have := r.isLt; simp at *; omega⟩ : Fin 16384) l) := by
  refine (pay1_apply _ _ _ _ _ r l).trans ?_
  unfold Y
  congr 1
  · congr 1
    · funext k
      blk_simp [iblk, V_main_arg0]
      refine congrArg _ ?_
      blk_ext [idx0]
    · funext k l
      blk_simp [iblk, V_v0]
      refine congrArg _ ?_
      blk_ext [idx1]
    · funext l
      blk_simp [iblk, V_main_arg2]
      refine congrArg _ ?_
      blk_ext [idx2]
  · funext l
    blk_simp [iblk]
    rw [← V_v1 m c l]
    refine congrArg _ ?_
    blk_ext [idx3]
  · funext l
    blk_simp [iblk]
    rw [← V_v2 m c l]
    refine congrArg _ ?_
    blk_ext [idx4]

theorem final5 (c : Dev nD) : (dats m 0 c).arrAt 5 cfg0.N
    = Y (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  rw [after0_5]; frame_out
  obtain ⟨r, l, rfl⟩ : ∃ (r : Fin 512) (l : Fin 1024), y = ix2 r l := ⟨y 0, y 1, (ValueIdx.eq_ix2 y)⟩
  refine (block_eq m c t r l).trans (congrArg _ ?_)
  blk_ext [idx5]

theorem final6 (c : Dev nD) : (dats m 0 c).arrAt 6 cfg0.N
    = Y (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  blk_simp
  rw [after0_6]; frame_out
  obtain ⟨r, l, rfl⟩ : ∃ (r : Fin 512) (l : Fin 1024), y = ix2 r l := ⟨y 0, y 1, (ValueIdx.eq_ix2 y)⟩
  refine (pay2_apply _ _ _ _ _ _).trans ((block_eq m c t r l).trans (congrArg _ ?_))
  blk_ext [idx6]

section
open Cert.DownRefIdeal.Read

/-- The reference's residual sum. -/
theorem ref_resid (x : Vec Ideal S16384x2816 .bf16) (w : Vec Ideal S2816x1024 .f32) (res : Vec Ideal S16384x1024 .f32) (r : Fin 16384) (l : Fin 1024) :
    val_main_v4 (F := Ideal) x w res (ix2 r l)
      = resid (fun k => x (ix2 r k)) (fun k l => w (ix2 k l)) (fun l => res (ix2 r l)) l := by
  pointwise [val_main_v4, val_main_v3, val_main_v2, val_main_v1, val_main_v0, val_main_cst, resid]

/-- The reference's output rows are the same. -/
theorem ref_eq (x : Vec Ideal S16384x2816 .bf16) (w : Vec Ideal S2816x1024 .f32) (res : Vec Ideal S16384x1024 .f32) (g b : Vec Ideal S1024 .f32) :
    val_main_v28 (F := Ideal) x w res g b = Y x w res g b := by
  funext j
  obtain ⟨r, l, rfl⟩ : ∃ (r : Fin 16384) (l : Fin 1024), j = ix2 r l := ⟨j 0, j 1, (ValueIdx.eq_ix2 j)⟩
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v5, val_main_cst_0, val_main_cst_1,
    val_main_cst_2, val_main_cst_3, val_main_cst_4, Y, rowNorm, mean, ref_resid]
end

end Cert.DownIdeal.Row

/-- Both copies of the output rows are the reference's. -/
theorem Cert.DownIdeal.Row.algebraic : Cert.algebraic_DownIdeal_DownRefIdeal := by
  pair_intro
  · run_from Cert.DownIdeal.Value.run_blocks m g
  · run_from Cert.DownRefIdeal.Value.run m' g'
    · rw [Cert.DownIdeal.Row.final5 m c, ← Cert.DownIdeal.Row.ref_eq]
      exact Cert.DownRefIdeal.Read.val_main_v28_eq (F := Ideal) _ _ _ _ _
    · rw [Cert.DownIdeal.Row.final6 m c, ← Cert.DownIdeal.Row.ref_eq]
      exact Cert.DownRefIdeal.Read.val_main_v29_eq (F := Ideal) _ _ _ _ _

end
-- ==== Proof.ProjBody.lean ====
/-
  The projection by blocks: the body at a point, over any floats, and what the program leaves of its arguments. The last
  block of columns reaches past the array, so its buffer's tail is unknown; nothing is said of the product here.
-/
module

public import proofs.«01_k».proof.Proof.Gen.ProjIdeal.Frame
public import proofs.«01_k».proof.Proof.Gen.ProjIdeal.Skeleton
public import Idealize.ShloMosaic.Lib.Pipeline.ValueKit

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights' block at a point, with zeros where it reaches past the array. -/
def wblk (c : Dev nD) (t : Fin cfg0.N) : Vec F S1024x512 .bf16 :=
  win0_1.fill (grid0.coords t) (fun _ => FloatOps.ofBits .bf16 0#16) (iblk m c 1 t)

/-- The arrays at the region's entry; after a point the rows' block, the weights' block and their product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => k0_pay1 (iblk m c 0 t) (wblk m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = wblk m c t := by dsimp only [dats]
theorem after_2 (c : Dev nD) (t : Fin cfg0.N) : (dats m 0 c).after 2 t = k0_pay1 (iblk m c 0 t) (wblk m c t) := by
  dsimp only [dats]

theorem before_0 (c : Dev nD) (t : Fin cfg0.N) (d) : (dats m 0 c).before 0 t d = iblk m c 0 t :=
  before0_0_of m (dats m 0 c) (A_eq m c 0) (after_0 m c) t d

/-- The weights' buffer was just filled: the block, and `d` past the array's end. -/
theorem before_1 (c : Dev nD) (t : Fin cfg0.N) (d) :
    (dats m 0 c).before 1 t d = win0_1.fill (grid0.coords t) d (iblk m c 1 t) := by
  unfold Dat.before
  rw [if_pos (fetch0_1 t)]
  rfl

/-- The body on whole buffers: the third ends at the product of the first two. -/
theorem product (c : Dev nD) (E : Set ℕ) (i : grid0.Coords) (s0 s1 s2 : Fin 2)
    (X0 : S1024x1024.Idx → Elt F .bf16) (X1 : S1024x512.Idx → Elt F .bf16) (K : PUnit → sProp 𝕄) :
    iprop(owns (c : Thread nD τ) (stage0_0 s0) fullShare X0 ∗ owns (c : Thread nD τ) (stage0_1 s1) fullShare X1
        ∗ (∃ d, owns (c : Thread nD τ) (stage0_2 s2) fullShare d)
        ∗ (iprop(owns (c : Thread nD τ) (stage0_0 s0) fullShare X0 ∗ owns (c : Thread nD τ) (stage0_1 s1) fullShare X1
            ∗ owns (c : Thread nD τ) (stage0_2 s2) fullShare (k0_pay1 X0 X1)) -∗ K ⟨⟩))
      ⊢ wp frame (wpE (defs₀ (F := F)) Variants.none c none) E
          (cc0_dense_matmul i (stage0_0 s0) (hstage0_0 s0) (stage0_1 s1) (hstage0_1 s1) (stage0_2 s2) (hstage0_2 s2)) K := by
  have hz : (![0, 0] : Fin 2 → Nat) = fun _ => 0 := funext fun a => by fin_cases a <;> rfl
  simp only [cc0_dense_matmul_eq_skeleton]; unfold cc0_dense_matmul_skel
  unfold owns
  iintro ⟨⟨%f0, %hf0, H0⟩, ⟨%f1, %hf1, H1⟩, ⟨%d2, ⟨%f2, -, H2⟩⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ fun y => View.cover_of_tiled _ S1024x512.size (by rfl) y).trans ?_
  exact (View.canon_cons_unit_zero hz _ _ _).trans
    (congrArg₂ k0_pay1 (View.ld_unit_zero hz _ _) (View.ld_unit_zero hz _ _))

/-- The window of the product, of which the run at any floats says nothing. -/
abbrev unsaid : Fin 3 → Bool := ![false, false, true]

/-- The body's obligation when nothing is asked of the product. -/
theorem obligation (c : Dev nD) :
    BodyObligationLoose (dats (F := F) m 0 c) (defs₀ (F := F)) Variants.none () Set.univ unsaid := fun t => by
  rw [bigSep_W0, bigSep_W0]
  simp only [unsaid, Matrix.cons_val_zero, Matrix.cons_val_one, Matrix.cons_val]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, H2⟩
  rw [before_0 m c t d0, before_1 m c t d1]
  iapply (product (F := F) c Set.univ (grid0.coords t) (cfg0.slots t 0) (cfg0.slots t 1) (cfg0.slots t 2)
    (iblk m c 0 t) (win0_1.fill (grid0.coords t) d1 (iblk m c 1 t)) _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · rw [after_0]; iexact H0
  isplitl [H1]
  · iexists d1
    change _ ⊢ owns (c : Thread nD τ) (stage0_1 (cfg0.slots t 1)) fullShare
      (win0_1.fill (grid0.coords t) d1 (win0_1.cut (grid0.coords t) (wblk m c t)))
    rw [show win0_1.cut (grid0.coords t) (wblk m c t) = iblk m c 1 t from win0_1.cut_fill _ _ _]
    try iexact H1
  · iexists _; iexact H2

/-- The buffers the operations after the region write. -/
abbrev written : Finset (Ref sig .tc) := hostOps1_W.toFinset

theorem writes_written : ∀ ops ∈ ([hostOps1] : List (List (HloOp τ sig (Elt F)))), ∀ op ∈ ops, ∀ b : Ref sig .tc,
    Proc.devRef .tc b ∈ op.writes → b ∈ written := by
  intro ops hops op hop b hb
  obtain rfl : ops = hostOps1 := by simpa using hops
  obtain ⟨y, hy, he⟩ := List.mem_map.mp (List.mem_toFinset.mp ((List.forall_iff_forall_mem.mp hostOps1_writes) op hop hb))
  exact List.mem_toFinset.mpr (Proc.devRef_injective _ he ▸ hy)

set_option backward.isDefEq.respectTransparency.types false in
set_option maxHeartbeats 800000 in
/-- The run, at any floats: the program ends, its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget (Q' := _) cfgs (dats m) (0 : Fin 1) launch0 defs₀ Variants.none unsaid written
    m ρ main (hbody := obligation m) (hshare := fun c => (dats m 0 c).share_full fun _ => rfl)
    (howed := fun _ _ => rfl) (V₀ := V0 m) (opss := [hostOps1]) sfx_sub sfx_fresh sfx_keeps writes_written
    (hmain := hmain m Variants.none) (hA := A_eq m) (hΦ := fun _ _ => rfl)
    (hQ' := fun r h => ⟨fun c =>
      ⟨((h.1 c).2 main_arg0 (Finset.mem_sdiff.mpr ⟨Pipeline.mem_restRefs_of main_arg0 (by decide) (by decide), by decide +kernel⟩)).trans (V_main_arg0 m c),
       ((h.1 c).2 main_arg1 (Finset.mem_sdiff.mpr ⟨Pipeline.mem_restRefs_of main_arg1 (by decide) (by decide), by decide +kernel⟩)).trans (V_main_arg1 m c),
       ((h.1 c).2 main_arg2 (Finset.mem_sdiff.mpr ⟨Pipeline.mem_restRefs_of main_arg2 (by decide) (by decide), by decide +kernel⟩)).trans (V_main_arg2 m c)⟩, h.2⟩)

end Cert.ProjIdeal.Body

end
-- ==== Proof.ProjFrame.lean ====
/-
  The projection's two frames from one run: the two programs have the same text.
-/
module

public import proofs.«01_k».proof.Defs
public import proofs.«01_k».proof.Proof.ProjBody
public import proofs.«01_k».proof.Proof.Gen.Proj

@[expose] public section

open Idealize.ShloMosaic Idealize.ShloMosaic.TcCoe Idealize.SL.Sem

namespace Cert.Proj.Same

/-- The two programs' bodies are one, label by label. -/
theorem body_eq : Cert.Proj.defs₀ (F := Bits) = Cert.ProjIdeal.defs₀ (F := Bits) := by
  funext p l a
  cases p with
  | tc =>
    obtain ⟨l, h⟩ := l
    obtain rfl : l = 0 := by omega
    obtain ⟨t, s⟩ := a
    unfold Cert.Proj.defs₀ Cert.ProjIdeal.defs₀
    rw [Defs.onTc_tc, Defs.onTc_tc]
    rfl
  | scScalar _ => rfl
  | scVector _ _ => rfl

theorem defs_eq : Cert.Proj.defs (F := Bits) = Cert.ProjIdeal.defs (F := Bits) :=
  congrArg (Pipeline.defs Cert.ProjIdeal.pcfgs) body_eq

theorem frame_Proj : Cert.quiescent_Proj (hProj := Cert.Proj.Gen.facts) := fun m g _ => by
  have h := Cert.ProjIdeal.Body.frame (F := Bits) m g
  rw [← defs_eq] at h
  exact h

theorem frame_ProjIdeal : Cert.quiescent_ProjIdeal (hProjIdeal := Cert.ProjIdeal.Gen.facts) := fun m g _ =>
  Cert.ProjIdeal.Body.frame m g

end Cert.Proj.Same

end
-- ==== Proof.ProjValue.lean ====
/-
  The projection by blocks over the extended reals: a column of a block's product does not read the other columns, so the
  unknown tail of the last block is never seen, and the array ends at the product of the rows and the weights.
-/
module

public import proofs.«01_k».proof.Defs
public import proofs.«01_k».proof.Proof.ProjBody
public import proofs.«01_k».proof.Proof.Gen.ProjRefIdeal.Read
public import Idealize.ShloMosaic.Lib.Pointwise

@[expose] public section

set_option maxRecDepth 16384

noncomputable section

namespace Cert.ProjIdeal.Value

open Cert.ProjIdeal Cert.ProjIdeal.Gen Cert.ProjIdeal.Body
open Idealize.ShloMosaic Idealize.ShloMosaic.TcCoe Idealize.ShloMosaic.Tactic
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligationLoose cellOf)

variable (m : (ℓ : Loc nD τ sig) → Buf (Elt Ideal) ℓ) (ρ : Dev nD → PrngReg)

/-- One entry of a block's product: a row against a column. -/
theorem pay_apply (x : Vec Ideal S1024x1024 .bf16) (w : Vec Ideal S1024x512 .bf16) (r : Fin 1024) (l : Fin 512) :
    k0_pay1 (F := Ideal) x w (ix2 r l) = ∑ k : Fin 1024, x (ix2 r k) * w (ix2 k l) := by
  pointwise [k0_pay1]

/-- A column that lies in the array is read off the array. -/
theorem fill_apply (c : Dev nD) (t : Fin cfg0.N) (d : Vec Ideal S1024x512 .bf16) (k : Fin 1024) (l : Fin 512)
    (h : l.val < win0_1.xsize (grid0.coords t) 1) :
    win0_1.fill (grid0.coords t) d (iblk m c 1 t) (ix2 k l) = wblk m c t (ix2 k l) := by
  have hm : win0_1.moved (grid0.coords t) (ix2 k l) = true := (win0_1.moved_iff _ _).mpr fun a => by
    fin_cases a
    · exact k.isLt
    · exact h
  unfold wblk Window.fill
  rw [dif_pos hm, dif_pos hm]

/-- The product's columns in the array, whatever the weights' buffer holds past it. -/
theorem cut_eq (c : Dev nD) (t : Fin cfg0.N) (d : Vec Ideal S1024x512 .bf16) :
    win0_2.cut (grid0.coords t) (k0_pay1 (F := Ideal) (iblk m c 0 t) (win0_1.fill (grid0.coords t) d (iblk m c 1 t)))
      = win0_2.cut (grid0.coords t) (k0_pay1 (F := Ideal) (iblk m c 0 t) (wblk m c t)) := by
  funext j
  obtain ⟨r, l, hl, hj⟩ : ∃ (r : Fin 1024) (l : Fin 512), l.val < win0_1.xsize (grid0.coords t) 1 ∧ win0_2.xinj (grid0.coords t) j = ix2 r l :=
    ⟨win0_2.xinj (grid0.coords t) j 0, win0_2.xinj (grid0.coords t) j 1, (j 1).isLt, ValueIdx.eq_ix2 _⟩
  change k0_pay1 (F := Ideal) _ _ (win0_2.xinj (grid0.coords t) j) = k0_pay1 (F := Ideal) _ _ (win0_2.xinj (grid0.coords t) j)
  rw [hj, pay_apply, pay_apply]
  exact Finset.sum_congr rfl fun k _ => congrArg _ (fill_apply m c t d k l hl)

theorem obligation (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (product (F := Ideal) c Set.univ (grid0.coords t) (cfg0.slots t 0) (cfg0.slots t 1) (cfg0.slots t 2)
    (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after_0]; iexact H0
  isplitl [H1]
  · iexists d1
    change _ ⊢ owns (c : Thread nD τ) (stage0_1 (cfg0.slots t 1)) fullShare
      (win0_1.fill (grid0.coords t) d1 (win0_1.cut (grid0.coords t) (wblk m c t)))
    rw [show win0_1.cut (grid0.coords t) (wblk m c t) = iblk m c 1 t from win0_1.cut_fill _ _ _]
    try iexact H1
  · iexists (k0_pay1 (F := Ideal) (iblk m c 0 t) (win0_1.fill (grid0.coords t) d1 (iblk m c 1 t)))
    change _ ⊢ owns (c : Thread nD τ) (stage0_2 (cfg0.slots t 2)) fullShare
      (win0_2.fill (α := Elt Ideal .f32) (grid0.coords t) _ (win0_2.cut (α := Elt Ideal .f32) (grid0.coords t) (k0_pay1 (F := Ideal) (iblk m c 0 t) (wblk m c t))))
    rw [win0_2.fill_congr_cut (grid0.coords t) (cut_eq m c t d1)]
    try iexact H2

set_option backward.isDefEq.respectTransparency.types false in
set_option maxHeartbeats 800000 in
/-- The run over the extended reals: every array at what the points write into it, the rest after the last operations. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around (Q' := _) cfgs (dats m) (0 : Fin 1) launch0 defs₀ Variants.none m ρ main (hbody := obligation m)
    (hshare := fun c => (dats m 0 c).share_full fun _ => rfl) (howed := fun _ _ => rfl) (V₀ := V0 m) (opss := [hostOps1])
    sfx_sub sfx_fresh sfx_keeps (hmain := hmain m Variants.none) (hA := A_eq m) (hΦ := fun _ _ => rfl) (hQ' := fun _ h => h.1)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

/-- The rows against the columns. -/
def P (x : Vec Ideal S8x2048x1024 .f32) (w : Vec Ideal S1024x3560 .f32) : Vec Ideal S16384x3560 .f32 := fun j =>
  ∑ k : Fin 1024, x (ix3 (⟨(j 0).val / 2048, by have := (j 0).isLt; simp at this; omega⟩ : Fin 8) (⟨(j 0).val % 2048, Nat.mod_lt _ (by norm_num)⟩ : Fin 2048) k)
    * w (ix2 k (j 1))

theorem V_v1 (c : Dev nD) : V m c main_v1 = m ((c : Thread nD τ).loc main_arg1) := by
  entry_read
  rfl

theorem V_v2 (c : Dev nD) (R : Fin 16384) (k : Fin 1024) : (V m c main_v2 : Vec Ideal S16384x1024 .bf16) (ix2 R k)
    = (m ((c : Thread nD τ).loc main_arg0) : Vec Ideal S8x2048x1024 .f32)
        (ix3 (⟨R.val / 2048, by omega⟩ : Fin 8) (⟨R.val % 2048, Nat.mod_lt _ (by norm_num)⟩ : Fin 2048) k) := by
  unfold V V0
  rw [List.flatten_cons, List.flatten_nil, List.append_nil]
  entry_read
  pointwise []

/-- The weights' block, at a column in the array. -/
theorem wblk_apply (c : Dev nD) (t : Fin cfg0.N) (k : Fin 1024) (l : Fin 512) (h : l.val < win0_1.xsize (grid0.coords t) 1)
    (L : Fin 3560) (hL : L.val = (grid0.coords t 1).val * 512 + l.val) :
    wblk m c t (ix2 k l) = (m ((c : Thread nD τ).loc main_arg1) : Vec Ideal S1024x3560 .f32) (ix2 k L) := by
  have hm : win0_1.moved (grid0.coords t) (ix2 k l) = true := (win0_1.moved_iff _ _).mpr fun a => by
    fin_cases a
    · exact k.isLt
    · exact h
  unfold wblk Window.fill
  rw [dif_pos hm, ← V_v1 m c]
  blk_simp [iblk]
  refine congrArg _ ?_
  blk_ext [idx1, hL]

theorem final (c : Dev nD) : (dats m 0 c).arrAt 2 cfg0.N
    = P (m ((c : Thread nD τ).loc main_arg0)) (m ((c : Thread nD τ).loc main_arg1)) := by
  refine (dats m 0 c).arrAt_eq_of_covers 2 _ (by decide +kernel) fun t hf y => ?_
  rw [after_2]
  obtain ⟨r, l, hl, hr, hc, hy⟩ : ∃ (r : Fin 1024) (l : Fin 512), l.val < win0_1.xsize (grid0.coords t) 1
      ∧ r.val = (y 0).val ∧ l.val = (y 1).val ∧ win0_2.xinj (grid0.coords t) y = ix2 r l :=
    ⟨win0_2.xinj (grid0.coords t) y 0, win0_2.xinj (grid0.coords t) y 1, (y 1).isLt, rfl, rfl, ValueIdx.eq_ix2 _⟩
  blk_simp
  refine (congrArg (k0_pay1 (F := Ideal) (iblk m c 0 t) (wblk m c t)) hy).trans ((pay_apply _ _ r l).trans ?_)
  unfold P
  refine Finset.sum_congr rfl fun k _ => congrArg₂ (· * ·) ?_ ?_
  · refine Eq.trans ?_ (V_v2 m c _ k)
    blk_simp [iblk]
    refine congrArg _ ?_
    blk_ext [idx0, idx2, hr]
  · refine wblk_apply m c t k l hl _ ?_
    blk_simp [idx2, hc]

end Cert.ProjIdeal.Value

end
-- ==== Proof.ProjTail.lean ====
/-
  The operations after the projection: the split, the rotations and the normalisation, on the kernel's product as on the
  reference's.
-/
module

public import proofs.«01_k».proof.Defs
public import proofs.«01_k».proof.Proof.Gen.ProjIdeal.Launch
public import proofs.«01_k».proof.Proof.Gen.ProjRefIdeal.Run
public import proofs.«01_k».proof.Proof.Gen.ProjRefIdeal.Read
public import Idealize.ShloMosaic.Lib.StableHlo.Run

@[expose] public section

set_option maxRecDepth 16384

noncomputable section

namespace Cert.ProjIdeal.Tail

open Cert.ProjIdeal Cert.ProjIdeal.Gen
open Idealize.ShloMosaic Idealize.ShloMosaic.TcCoe Idealize.SL.Sem Idealize.ShloMosaic.StableHlo

variable {F : FTy → Type} [FloatOps F]

/-- What the reference multiplies out. -/
abbrev D (x : (⟨S8x2048x1024, .f32⟩ : BufTy).Contents (Elt F)) (w : (⟨S1024x3560, .f32⟩ : BufTy).Contents (Elt F)) : (⟨S8x2048x3560, .f32⟩ : BufTy).Contents (Elt F) :=
  Host.dotGeneral Cert.ProjRefIdeal.dot_S8x2048x1024_S1024x3560_S8x2048x3560_2_0_01_1_n_n none x w

/-- The reference's three arguments, of a memory. -/
abbrev h₀ (m' : (ℓ : Loc Cert.ProjRefIdeal.nD Cert.ProjRefIdeal.τ Cert.ProjRefIdeal.sig) → Buf (Elt F) ℓ) (c : Dev Cert.ProjRefIdeal.nD) :
    (⟨S8x2048x1024, .f32⟩ : BufTy).Contents (Elt F) :=
  m' ((c.tc : Thread Cert.ProjRefIdeal.nD Cert.ProjRefIdeal.τ).loc Cert.ProjRefIdeal.main_arg0)
abbrev w₀ (m' : (ℓ : Loc Cert.ProjRefIdeal.nD Cert.ProjRefIdeal.τ Cert.ProjRefIdeal.sig) → Buf (Elt F) ℓ) (c : Dev Cert.ProjRefIdeal.nD) :
    (⟨S1024x3560, .f32⟩ : BufTy).Contents (Elt F) :=
  m' ((c.tc : Thread Cert.ProjRefIdeal.nD Cert.ProjRefIdeal.τ).loc Cert.ProjRefIdeal.main_arg1)
abbrev g₀ (m' : (ℓ : Loc Cert.ProjRefIdeal.nD Cert.ProjRefIdeal.τ Cert.ProjRefIdeal.sig) → Buf (Elt F) ℓ) (c : Dev Cert.ProjRefIdeal.nD) :
    (⟨S128, .f32⟩ : BufTy).Contents (Elt F) :=
  m' ((c.tc : Thread Cert.ProjRefIdeal.nD Cert.ProjRefIdeal.τ).loc Cert.ProjRefIdeal.main_arg2)

variable (W : Valuation τ sig (Elt F)) (m' : (ℓ : Loc Cert.ProjRefIdeal.nD Cert.ProjRefIdeal.τ Cert.ProjRefIdeal.sig) → Buf (Elt F) ℓ) (c : Dev Cert.ProjRefIdeal.nD)

/-- The kernel's product, split into sequences, is the reference's. -/
abbrev Same : Prop := shapeCast S8x2048x3560 (W (Proc.devRef .tc main_v3)) shapeCasts_S16384x3560_S8x2048x3560 = D (h₀ m' c) (w₀ m' c)

/-- The second branch's values. -/
theorem values (h : Same W m' c) : after hostOps1 W (Proc.devRef .tc main_v53)
    = shapeCast S8x2048x2x64 (extractStridedSlice S8x2048x128 ![0, 0, 2432] (D (h₀ m' c) (w₀ m' c)) slices_S8x2048x3560_S8x2048x128_0_0_2432)
        shapeCasts_S8x2048x128_S8x2048x2x64 := by
  unfold hostOps1
  after_results_simp
  rw [← h]
  rfl

/-- The second branch's keys, rotated. -/
theorem keys (h : Same W m' c) : after hostOps1 W (Proc.devRef .tc main_v52) = Cert.ProjRefIdeal.Value.res_out0 m' c := by
  unfold hostOps1
  generalize hf : (fun a b => concatenate S8x2048x2x64 3 [⟨S8x2048x2x32, a⟩, ⟨S8x2048x2x32, b⟩] concatenates_S8x2048x2x32_S8x2048x2x32_S8x2048x2x64_d3
    : (⟨S8x2048x2x32, .f32⟩ : BufTy).Contents (Elt F) → (⟨S8x2048x2x32, .f32⟩ : BufTy).Contents (Elt F) → (⟨S8x2048x2x64, .f32⟩ : BufTy).Contents (Elt F)) = f
  after_results_simp
  subst hf
  unfold Cert.ProjRefIdeal.Value.res_out0 Cert.ProjRefIdeal.Value.res_main_v48
  unfold Same D h₀ w₀ at h
  rw [← h]
  rfl

/-- The index branch's key, rotated. -/
theorem index_key (h : Same W m' c) : after hostOps1 W (Proc.devRef .tc main_v88) = Cert.ProjRefIdeal.Value.res_out2 m' c := by
  unfold hostOps1
  generalize hf : (fun a b => concatenate S8x2048x1x64 3 [⟨S8x2048x1x32, a⟩, ⟨S8x2048x1x32, b⟩] concatenates_S8x2048x1x32_S8x2048x1x32_S8x2048x1x64_d3
    : (⟨S8x2048x1x32, .f32⟩ : BufTy).Contents (Elt F) → (⟨S8x2048x1x32, .f32⟩ : BufTy).Contents (Elt F) → (⟨S8x2048x1x64, .f32⟩ : BufTy).Contents (Elt F)) = f
  after_results_simp
  subst hf
  unfold Cert.ProjRefIdeal.Value.res_out2 Cert.ProjRefIdeal.Value.res_main_v84
  unfold Same D h₀ w₀ at h
  rw [← h]
  rfl

/-- The latent branch's rotated key. -/
theorem rotated_key (h : Same W m' c) : after hostOps1 W (Proc.devRef .tc main_v136) = Cert.ProjRefIdeal.Value.res_out4 m' c := by
  unfold hostOps1
  generalize hf : (fun a b => concatenate S8x2048x1x32 3 [⟨S8x2048x1x16, a⟩, ⟨S8x2048x1x16, b⟩] concatenates_S8x2048x1x16_S8x2048x1x16_S8x2048x1x32_d3
    : (⟨S8x2048x1x16, .f32⟩ : BufTy).Contents (Elt F) → (⟨S8x2048x1x16, .f32⟩ : BufTy).Contents (Elt F) → (⟨S8x2048x1x32, .f32⟩ : BufTy).Contents (Elt F)) = f
  after_results_simp
  subst hf
  unfold Cert.ProjRefIdeal.Value.res_out4 Cert.ProjRefIdeal.Value.res_main_v132
  unfold Same D h₀ w₀ at h
  rw [← h]
  rfl

/-- The latent, normalised. -/
theorem latent (h : Same W m' c) (hg : W (Proc.devRef .tc main_arg2) = g₀ m' c) : after hostOps1 W (Proc.devRef .tc main_v101)
    = Cert.ProjRefIdeal.Read.val_main_v97 (h₀ m' c) (w₀ m' c) (g₀ m' c) := by
  unfold hostOps1
  after_results_simp
  unfold Same D at h
  rw [hg, ← Cert.ProjRefIdeal.Read.val_main_v97_eq, ← h]
  rfl

end Cert.ProjIdeal.Tail

end
-- ==== Proof.ProjResults.lean ====
/-
  The projection's results, as the reference's: the kernel's product is the reference's, and the same operations follow.
-/
module

public import proofs.«01_k».proof.Defs
public import proofs.«01_k».proof.Proof.ProjValue
public import proofs.«01_k».proof.Proof.ProjTail

@[expose] public section

set_option maxRecDepth 16384

noncomputable section

namespace Cert.ProjIdeal.Results

open Cert.ProjIdeal Cert.ProjIdeal.Gen Cert.ProjIdeal.Body Cert.ProjIdeal.Value
open Idealize.ShloMosaic Idealize.ShloMosaic.TcCoe Idealize.ShloMosaic.Tactic Idealize.SL.Sem

/-- The product of the rows, split into sequences, is the reference's product. -/
theorem product_eq (x : Vec Ideal S8x2048x1024 .f32) (w : Vec Ideal S1024x3560 .f32) :
    shapeCast S8x2048x3560 (P x w) shapeCasts_S16384x3560_S8x2048x3560 = Tail.D (F := Ideal) x w := by
  funext j
  obtain ⟨b, s, l, rfl⟩ : ∃ (b : Fin 8) (s : Fin 2048) (l : Fin 3560), j = ix3 b s l := ⟨j 0, j 1, j 2, ValueIdx.eq_ix3 j⟩
  pointwise [P]
  have hb : (b.val * 2048 + s.val) / 2048 = b.val := by omega
  have hs : (b.val * 2048 + s.val) % 2048 = s.val := by omega
  simp only [hb, hs, Fin.eta]

variable (m : (ℓ : Loc nD τ sig) → Buf (Elt Ideal) ℓ) (ρ : Dev nD → PrngReg)

/-- What the operations after the product find. -/
abbrev atExit (c : Dev nD) : Valuation τ sig (Elt Ideal) :=
  Pipeline.withArrays spec0 c (V0 m c) fun w => (dats m 0 c).arrAt w cfg0.N

theorem exit_product (c : Dev nD) : atExit m c (Proc.devRef .tc main_v3)
    = P (m ((c : Thread nD τ).loc main_arg0)) (m ((c : Thread nD τ).loc main_arg1)) :=
  (Pipeline.withArrays_arr spec0 winFacts0.arr_inj c (V0 m c) _ 2).trans (final m c)

theorem exit_scale (c : Dev nD) : atExit m c (Proc.devRef .tc main_arg2) = m ((c : Thread nD τ).loc main_arg2) :=
  (Pipeline.withArrays_of_ne spec0 c (V0 m c) _ main_arg2 (by exact (by decide : ∀ w, Pipeline.arrRef spec0 w ≠ main_arg2))).trans
    (V_main_arg2 m c)

/-- The run, each buffer written after the product at the later operations' contents. -/
theorem run_tail : θ_run defs (onTc (τ := τ) (main (F := Ideal))) ⟨m, fun _ => 0, ρ⟩ (fun r => ∀ c : Dev nD,
    (∀ b : Ref sig .tc, b ∈ Pipeline.restRefs sig spec0 → r.2.mem ((c.tc : Thread nD τ).loc b) = StableHlo.after hostOps1 (atExit m c) (Proc.devRef .tc b))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨fun b hb => (h c).2 b hb,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ProjIdeal.Results

open Idealize.ShloMosaic Idealize.ShloMosaic.TcCoe Idealize.SL.Sem Cert.ProjIdeal Cert.ProjIdeal.Gen Cert.ProjIdeal.Results in
/-- The five results are the reference's. -/
theorem Cert.ProjIdeal.Results.algebraic : Cert.algebraic_ProjIdeal_ProjRefIdeal := by
  intro m g m' g' _ hagree
  have same : ∀ c, Tail.Same (atExit m c) m' c := fun c => by
    unfold Tail.Same
    rw [exit_product, product_eq]
    exact congrArg₂ (Tail.D (F := Ideal)) (hagree c).1.symm (hagree c).2.1.symm
  have scale : ∀ c, atExit m c (Proc.devRef .tc main_arg2) = Tail.g₀ m' c := fun c => (exit_scale m c).trans (hagree c).2.2.symm
  refine ⟨fun c => Cert.ProjRefIdeal.Value.res_out0 m' c, fun c => _, fun c => Cert.ProjRefIdeal.Value.res_out2 m' c, fun c => _,
    fun c => Cert.ProjRefIdeal.Value.res_out4 m' c, (θ_run _ _ _).mono (fun r h c => ?_) (run_tail m g), Cert.ProjRefIdeal.Value.run m' g'⟩
  have at_ (b : Ref sig .tc) (h₁ : b.isScoped = false) (h₂ : ∀ w, (spec0 w).arr.view.ref ≠ b) :=
    (h c).1 b (Pipeline.mem_restRefs_of b h₁ h₂)
  exact ⟨(at_ main_v52 (by decide) (by decide)).trans (Tail.keys _ m' c (same c)),
    (at_ main_v53 (by decide) (by decide)).trans (Tail.values _ m' c (same c)),
    (at_ main_v88 (by decide) (by decide)).trans (Tail.index_key _ m' c (same c)),
    (at_ main_v101 (by decide) (by decide)).trans
      ((Tail.latent _ m' c (same c) (scale c)).trans (Cert.ProjRefIdeal.Read.val_main_v97_eq _ _ _).symm),
    (at_ main_v136 (by decide) (by decide)).trans (Tail.rotated_key _ m' c (same c)), (h c).2⟩

end
-- ==== Proof.GatedRows.lean ====
module

public import proofs.«01_k».proof.Defs
public import proofs.«01_k».proof.Proof.Gen.GatedIdeal.Value
public import Idealize.ShloMosaic.Lib.Pipeline.ReadBack
public import Idealize.ShloMosaic.Lib.Pipeline.ValueKit
public import Idealize.ShloMosaic.Lib.Claim
public import Idealize.ShloMosaic.Lib.Pointwise

/-! The gated recurrence's body stores, head by head, one function of the head's columns. -/

@[expose] public section

noncomputable section

open Idealize.ShloMosaic Idealize.ShloMosaic.TcCoe Idealize.SL.Sem
open Idealize.ShloMosaic.Pipeline (Dat)
open scoped BigOperators

namespace Cert.GatedIdeal.Heads

open Cert.GatedIdeal Cert.GatedIdeal.Gen Cert.GatedIdeal.Value

/-- The positions' numbers, one in every lane. -/
def ids : IVec S8x128 32 := iota .tc S8x128 32 [0] iota_S8x128_d0_w32

/-- A position's decays from the positions up to it, the later ones masked. -/
def decay (o : Fin 8) (h : S8x128.Slices ![o.val, 0] S1x128) (g : FVec Ideal S8x128 .f32) : FVec Ideal S8x128 .f32 :=
  exp (select (cmpi .sle ids (broadcast S8x128 (BitVec.ofNat 32 o.val)))
    (subf (broadcastTo S8x128 (extractStridedSlice S1x128 ![o.val, 0] g h) broadcasts_S1x128_S8x128) g)
    (broadcast S8x128 (Named.named κ "mask" 0xF149F2CA#32)))

/-- A position's weights on the positions, each down a column. -/
def weights (o : Fin 8) (h : S8x128.Slices ![o.val, 0] S1x128) (q k g : FVec Ideal S8x128 .f32) : FVec Ideal S8x1 .f32 :=
  shapeCast S8x1 (multiReduction .add [1] S8
    (mulf (mulf (broadcastTo S8x128 (extractStridedSlice S1x128 ![o.val, 0] q h) broadcasts_S1x128_S8x128) k) (decay o h g))
    0x00000000#32 reduces_S8x128_S8 (.inl rfl) rfl) shapeCasts_S8_S8x1

/-- A position's sum of the values under its weights, as one row. -/
def sumRow (o : Fin 8) (h : S8x128.Slices ![o.val, 0] S1x128) (q v k g : FVec Ideal S8x128 .f32) : FVec Ideal S1x128 .f32 :=
  shapeCast S1x128 (multiReduction .add [0] S128
    (mulf (broadcastTo S8x128 (weights o h q k g) broadcasts_S8x1_S8x128) v)
    0x00000000#32 reduces_S8x128_S128 (.inl rfl) rfl) shapeCasts_S128_S1x128

/-- The rows so far with a position's row added at its own place. -/
def row (o : Fin 8) (h : S8x128.Slices ![o.val, 0] S1x128) (q v k g acc : FVec Ideal S8x128 .f32) : FVec Ideal S8x128 .f32 :=
  addf acc (select (cmpi .eq ids (broadcast S8x128 (BitVec.ofNat 32 o.val)))
    (broadcastTo S8x128 (shapeCast S1x128 (sumRow o h q v k g) shapeCasts_S1x128_S1x128) broadcasts_S1x128_S8x128)
    (broadcast S8x128 (Scalar.ofBits .f32 0x00000000#32)))

/-- All eight positions' rows. -/
def rows (q v k g : FVec Ideal S8x128 .f32) : FVec Ideal S8x128 .f32 :=
  row 7 slices_S8x128_o7_0_S1x128 q v k g (row 6 slices_S8x128_o6_0_S1x128 q v k g
    (row 5 slices_S8x128_o5_0_S1x128 q v k g (row 4 slices_S8x128_o4_0_S1x128 q v k g
    (row 3 slices_S8x128_o3_0_S1x128 q v k g (row 2 slices_S8x128_o2_0_S1x128 q v k g
    (row 1 slices_S8x128_o1_0_S1x128 q v k g (row 0 slices_S8x128_o0_0_S1x128 q v k g
    (broadcast S8x128 (Scalar.ofBits .f32 0x00000000#32)))))))))

/-- The running sums of the logarithms of the forget gates. -/
def sums (lb : Vec Ideal S1x1x128 .f32) (z : Vec Ideal S1x8x128 .f32) : FVec Ideal S8x128 .f32 :=
  k0_pay13 k0_pay3 (k0_pay9 lb z) (k0_pay11 lb z) (k0_pay12 lb z)

/-- The part of a head's output that the incoming state gives. -/
def across (q z : Vec Ideal S1x8x128 .f32) (lb : Vec Ideal S1x1x128 .f32) (s : Vec Ideal S1x128x128 .f32) : FVec Ideal S8x128 .f32 :=
  k0_pay15 k0_pay3 (k0_pay4 q) (k0_pay9 lb z) (k0_pay11 lb z) (k0_pay12 lb z) s

/-- A head's output before its norm. -/
def mixed (q z v : Vec Ideal S1x8x128 .f32) (lb : Vec Ideal S1x1x128 .f32) (s : Vec Ideal S1x128x128 .f32) : FVec Ideal S8x128 .f32 :=
  addf (across q z lb s) (rows (k0_pay4 q) (k0_pay5 v) (k0_pay8 lb z) (sums lb z))

/-- A head's stored output. -/
def out (q z v g : Vec Ideal S1x8x128 .f32) (lb ng : Vec Ideal S1x1x128 .f32) (s : Vec Ideal S1x128x128 .f32) : FVec Ideal S1x8x128 .f32 :=
  k0_pay28 (mixed q z v lb s) ng g

/-- A head's stored state. -/
def state (z v : Vec Ideal S1x8x128 .f32) (lb : Vec Ideal S1x1x128 .f32) (s : Vec Ideal S1x128x128 .f32) : FVec Ideal S1x1x128x128 .f32 :=
  k0_pay27 (k0_pay5 v) (k0_pay8 lb z) (sums lb z) (k0_pay14 s)

section
variable (c : Dev nD) (i : grid0.Coords) (arg2 : Memref sig .tc .vmem S1x8x512 .f32) (harg2 : arg2.IsWhole) (arg3 : Memref sig .tc .vmem S1x8x512 .f32) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S1x4x128x128 .f32) (harg8 : arg8.IsWhole) (arg9 : Memref sig .tc .vmem S1x8x512 .f32) (harg9 : arg9.IsWhole) (arg10 : Memref sig .tc .vmem S1x4x128x128 .f32) (harg10 : arg10.IsWhole) (arg11 : Memref sig .tc .vmem S4x128x128 .f32) (harg11 : arg11.IsWhole) (hc0 : cond0_0 i)
    (x0 x1 x2 x3 : Vec Ideal S1x8x512 .f32) (x4 x5 : Vec Ideal S4x1x128 .f32) (x6 : Vec Ideal S1x4x128x128 .f32)

/-- A whole array read through a rectangle. -/
theorem read_at {S : Shape} (a : Memref sig .tc .vmem S .f32) (h : a.IsWhole) (x : Vec Ideal S .f32) (r : Rect S) :
    View.readAt (Elt Ideal) a.view r.toLoadRect (h.unread x) = View.ld x r := by
  rw [View.readAt_eq_ld, h.read_unread]

/-- The body stores, head by head, the head's output and the head's state. -/
theorem stored :
    (kernelRun0_A c i arg2 harg2 arg3 harg3 arg4 harg4 arg5 harg5 arg6 harg6 arg7 harg7 arg8 harg8 arg9 harg9 arg10 harg10 arg11 harg11 hc0 x0 x1 x2 x3 x4 x5 x6).1
      = [⟨Rect.unit (s := S1x8x512) ![0, 0, 384] S1x8x128.size inb_S1x8x512_S1x8x128_0_0_384,
            out (View.ld x0 (Rect.unit (s := S1x8x512) ![0, 0, 384] S1x8x128.size inb_S1x8x512_S1x8x128_0_0_384)) (View.ld x1 (Rect.unit (s := S1x8x512) ![0, 0, 384] S1x8x128.size inb_S1x8x512_S1x8x128_0_0_384)) (View.ld x2 (Rect.unit (s := S1x8x512) ![0, 0, 384] S1x8x128.size inb_S1x8x512_S1x8x128_0_0_384)) (View.ld x3 (Rect.unit (s := S1x8x512) ![0, 0, 384] S1x8x128.size inb_S1x8x512_S1x8x128_0_0_384))
              (View.ld x4 (Rect.unit (s := S4x1x128) ![3, 0, 0] S1x1x128.size inb_S4x1x128_S1x1x128_3_0_0)) (View.ld x5 (Rect.unit (s := S4x1x128) ![3, 0, 0] S1x1x128.size inb_S4x1x128_S1x1x128_3_0_0))
              (View.ld (k0_pay2 x6) (Rect.unit (s := S4x128x128) ![3, 0, 0] S1x128x128.size inb_S4x128x128_S1x128x128_3_0_0))⟩,
         ⟨Rect.unit (s := S1x8x512) ![0, 0, 256] S1x8x128.size inb_S1x8x512_S1x8x128_0_0_256,
            out (View.ld x0 (Rect.unit (s := S1x8x512) ![0, 0, 256] S1x8x128.size inb_S1x8x512_S1x8x128_0_0_256)) (View.ld x1 (Rect.unit (s := S1x8x512) ![0, 0, 256] S1x8x128.size inb_S1x8x512_S1x8x128_0_0_256)) (View.ld x2 (Rect.unit (s := S1x8x512) ![0, 0, 256] S1x8x128.size inb_S1x8x512_S1x8x128_0_0_256)) (View.ld x3 (Rect.unit (s := S1x8x512) ![0, 0, 256] S1x8x128.size inb_S1x8x512_S1x8x128_0_0_256))
              (View.ld x4 (Rect.unit (s := S4x1x128) ![2, 0, 0] S1x1x128.size inb_S4x1x128_S1x1x128_2_0_0)) (View.ld x5 (Rect.unit (s := S4x1x128) ![2, 0, 0] S1x1x128.size inb_S4x1x128_S1x1x128_2_0_0))
              (View.ld (k0_pay2 x6) (Rect.unit (s := S4x128x128) ![2, 0, 0] S1x128x128.size inb_S4x128x128_S1x128x128_2_0_0))⟩,
         ⟨Rect.unit (s := S1x8x512) ![0, 0, 128] S1x8x128.size inb_S1x8x512_S1x8x128_0_0_128,
            out (View.ld x0 (Rect.unit (s := S1x8x512) ![0, 0, 128] S1x8x128.size inb_S1x8x512_S1x8x128_0_0_128)) (View.ld x1 (Rect.unit (s := S1x8x512) ![0, 0, 128] S1x8x128.size inb_S1x8x512_S1x8x128_0_0_128)) (View.ld x2 (Rect.unit (s := S1x8x512) ![0, 0, 128] S1x8x128.size inb_S1x8x512_S1x8x128_0_0_128)) (View.ld x3 (Rect.unit (s := S1x8x512) ![0, 0, 128] S1x8x128.size inb_S1x8x512_S1x8x128_0_0_128))
              (View.ld x4 (Rect.unit (s := S4x1x128) ![1, 0, 0] S1x1x128.size inb_S4x1x128_S1x1x128_1_0_0)) (View.ld x5 (Rect.unit (s := S4x1x128) ![1, 0, 0] S1x1x128.size inb_S4x1x128_S1x1x128_1_0_0))
              (View.ld (k0_pay2 x6) (Rect.unit (s := S4x128x128) ![1, 0, 0] S1x128x128.size inb_S4x128x128_S1x128x128_1_0_0))⟩,
         ⟨Rect.unit (s := S1x8x512) ![0, 0, 0] S1x8x128.size inb_S1x8x512_S1x8x128_0_0_0,
            out (View.ld x0 (Rect.unit (s := S1x8x512) ![0, 0, 0] S1x8x128.size inb_S1x8x512_S1x8x128_0_0_0)) (View.ld x1 (Rect.unit (s := S1x8x512) ![0, 0, 0] S1x8x128.size inb_S1x8x512_S1x8x128_0_0_0)) (View.ld x2 (Rect.unit (s := S1x8x512) ![0, 0, 0] S1x8x128.size inb_S1x8x512_S1x8x128_0_0_0)) (View.ld x3 (Rect.unit (s := S1x8x512) ![0, 0, 0] S1x8x128.size inb_S1x8x512_S1x8x128_0_0_0))
              (View.ld x4 (Rect.unit (s := S4x1x128) ![0, 0, 0] S1x1x128.size inb_S4x1x128_S1x1x128_0_0_0)) (View.ld x5 (Rect.unit (s := S4x1x128) ![0, 0, 0] S1x1x128.size inb_S4x1x128_S1x1x128_0_0_0))
              (View.ld (k0_pay2 x6) (Rect.unit (s := S4x128x128) ![0, 0, 0] S1x128x128.size inb_S4x128x128_S1x128x128_0_0_0))⟩]
    ∧ (kernelRun0_A c i arg2 harg2 arg3 harg3 arg4 harg4 arg5 harg5 arg6 harg6 arg7 harg7 arg8 harg8 arg9 harg9 arg10 harg10 arg11 harg11 hc0 x0 x1 x2 x3 x4 x5 x6).2.1
      = [⟨Rect.unit (s := S1x4x128x128) ![0, 3, 0, 0] S1x1x128x128.size inb_S1x4x128x128_S1x1x128x128_0_3_0_0,
            state (View.ld x1 (Rect.unit (s := S1x8x512) ![0, 0, 384] S1x8x128.size inb_S1x8x512_S1x8x128_0_0_384)) (View.ld x2 (Rect.unit (s := S1x8x512) ![0, 0, 384] S1x8x128.size inb_S1x8x512_S1x8x128_0_0_384))
              (View.ld x4 (Rect.unit (s := S4x1x128) ![3, 0, 0] S1x1x128.size inb_S4x1x128_S1x1x128_3_0_0)) (View.ld (k0_pay2 x6) (Rect.unit (s := S4x128x128) ![3, 0, 0] S1x128x128.size inb_S4x128x128_S1x128x128_3_0_0))⟩,
         ⟨Rect.unit (s := S1x4x128x128) ![0, 2, 0, 0] S1x1x128x128.size inb_S1x4x128x128_S1x1x128x128_0_2_0_0,
            state (View.ld x1 (Rect.unit (s := S1x8x512) ![0, 0, 256] S1x8x128.size inb_S1x8x512_S1x8x128_0_0_256)) (View.ld x2 (Rect.unit (s := S1x8x512) ![0, 0, 256] S1x8x128.size inb_S1x8x512_S1x8x128_0_0_256))
              (View.ld x4 (Rect.unit (s := S4x1x128) ![2, 0, 0] S1x1x128.size inb_S4x1x128_S1x1x128_2_0_0)) (View.ld (k0_pay2 x6) (Rect.unit (s := S4x128x128) ![2, 0, 0] S1x128x128.size inb_S4x128x128_S1x128x128_2_0_0))⟩,
         ⟨Rect.unit (s := S1x4x128x128) ![0, 1, 0, 0] S1x1x128x128.size inb_S1x4x128x128_S1x1x128x128_0_1_0_0,
            state (View.ld x1 (Rect.unit (s := S1x8x512) ![0, 0, 128] S1x8x128.size inb_S1x8x512_S1x8x128_0_0_128)) (View.ld x2 (Rect.unit (s := S1x8x512) ![0, 0, 128] S1x8x128.size inb_S1x8x512_S1x8x128_0_0_128))
              (View.ld x4 (Rect.unit (s := S4x1x128) ![1, 0, 0] S1x1x128.size inb_S4x1x128_S1x1x128_1_0_0)) (View.ld (k0_pay2 x6) (Rect.unit (s := S4x128x128) ![1, 0, 0] S1x128x128.size inb_S4x128x128_S1x128x128_1_0_0))⟩,
         ⟨Rect.unit (s := S1x4x128x128) ![0, 0, 0, 0] S1x1x128x128.size inb_S1x4x128x128_S1x1x128x128_0_0_0_0,
            state (View.ld x1 (Rect.unit (s := S1x8x512) ![0, 0, 0] S1x8x128.size inb_S1x8x512_S1x8x128_0_0_0)) (View.ld x2 (Rect.unit (s := S1x8x512) ![0, 0, 0] S1x8x128.size inb_S1x8x512_S1x8x128_0_0_0))
              (View.ld x4 (Rect.unit (s := S4x1x128) ![0, 0, 0] S1x1x128.size inb_S4x1x128_S1x1x128_0_0_0)) (View.ld (k0_pay2 x6) (Rect.unit (s := S4x128x128) ![0, 0, 0] S1x128x128.size inb_S4x128x128_S1x128x128_0_0_0))⟩] := by
  unfold kernelRun0_A
  dsimp only
  sl_unfold_words
  have r8 : View.readAt (Elt Ideal) arg8.view (Rect.unit (s := S1x4x128x128) ![0, 0, 0, 0] S1x4x128x128.size inb_S1x4x128x128_S1x4x128x128_0_0_0_0).toLoadRect (harg8.unread x6) = x6 :=
    (read_at arg8 harg8 x6 _).trans (View.ld_unit_lit _ _ (by decide))
  simp (disch := decide) only [↓View.readCov_skip, ↓View.readCov_fill, r8, read_at arg2, read_at arg3, read_at arg4, read_at arg5, read_at arg6,
    read_at arg7]
  exact ⟨rfl, rfl⟩
end

end Cert.GatedIdeal.Heads
-- ==== Proof.GatedSpec.lean ====
module

public import Idealize.ShloMosaic.PureOps.Ideal
public import Idealize.ShloMosaic.Lib.KernelVsHost
public import Idealize.ShloMosaic.Lib.Pointwise

/-! One head of the gated recurrence over eight positions, written with plain sums. -/

@[expose] public section

noncomputable section

open Idealize.ShloMosaic
open scoped BigOperators

namespace Cert.Gated

section
variable {n : ℕ} (z v : Fin n → Fin 128 → EReal) (lb : Fin 128 → EReal) (s : Fin 128 → Fin 128 → EReal)

def forget (t : Fin n) (d : Fin 128) : EReal := lb d + (1 - lb d) * Ideal.logistic (z t d)
def key (t : Fin n) (d : Fin 128) : EReal := 1 - forget z lb t d
def gate (t : Fin n) (d : Fin 128) : EReal := Ideal.log (max (forget z lb t d) (Ideal.ofBits .f32 0x0DA24260#32))
/-- The gates' logarithms summed up to a position. -/
def cum (t : Fin n) (d : Fin 128) : EReal := ∑ x : Fin n, if x ≤ t then gate z lb x d else 0
/-- The state left after the last position `l`, value by key. -/
def left (l : Fin n) (e d : Fin 128) : EReal :=
  Ideal.exp (cum z lb l d) * s e d + ∑ x : Fin n, v x e * (key z lb x d * Ideal.exp (cum z lb l d - cum z lb x d))
end

section
variable (q z v g : Fin 8 → Fin 128 → EReal) (lb ng : Fin 128 → EReal) (s : Fin 128 → Fin 128 → EReal)

/-- A position's weight on a position, none on a later one. -/
def weight (t x : Fin 8) : EReal :=
  ∑ d : Fin 128, q t d * key z lb x d * Ideal.exp (if x ≤ t then cum z lb t d - cum z lb x d else ⊥)
def mix (t : Fin 8) (e : Fin 128) : EReal :=
  ∑ d : Fin 128, q t d * Ideal.exp (cum z lb t d) * s e d + ∑ x : Fin 8, weight q z lb t x * v x e
def out (t : Fin 8) (e : Fin 128) : EReal :=
  mix q z v lb s t e * Ideal.rsqrt (Ideal.div (∑ x : Fin 128, mix q z v lb s t x * mix q z v lb s t x) (Ideal.ofBits .f32 0x43000000#32)
    + Ideal.ofBits .f32 0x3727C5AC#32) * ng e * (g t e * Ideal.logistic (g t e))
/-- The state left after the eight positions. -/
def state (e d : Fin 128) : EReal := left z v lb s 7 e d
end

theorem logistic_real (x : EReal) : ∃ r : ℝ, Ideal.logistic x = r := by
  induction x using EReal.rec with
  | bot => exact ⟨0, Ideal.logistic_bot⟩
  | coe x => exact ⟨_, Ideal.logistic_coe x⟩
  | top => exact ⟨1, Ideal.logistic_top⟩

theorem floor_real : ∃ r : ℝ, 0 < r ∧ Ideal.ofBits .f32 0x0DA24260#32 = r := by
  refine ⟨_, ?_, by simp [Ideal.ofBits, Ideal.ieee]; rw [← EReal.coe_mul]⟩
  positivity

section
variable {n : ℕ} (z : Fin n → Fin 128 → EReal) (lb : Fin 128 → EReal)

/-- The logarithm of a number kept above a positive floor is real. -/
theorem gate_real (t : Fin n) (d : Fin 128) (h : ∃ r : ℝ, lb d = r) : ∃ r : ℝ, gate z lb t d = r := by
  obtain ⟨r, h⟩ := h
  obtain ⟨p, hp⟩ := logistic_real (z t d)
  obtain ⟨ε, hε, he⟩ := floor_real
  have hf : forget z lb t d = ((r + (1 - r) * p : ℝ) : EReal) := by
    unfold forget; rw [h, hp]; push_cast; rfl
  unfold gate
  rw [hf, he, ← EReal.coe_strictMono.monotone.map_max, Ideal.log_coe, if_neg (not_le.mpr (lt_of_lt_of_le hε (le_max_right _ _)))]
  exact ⟨_, rfl⟩

/-- A gate's logarithm less itself is nothing. -/
theorem gate_sub (t : Fin n) (d : Fin 128) (h : ∃ r : ℝ, lb d = r) : gate z lb t d - gate z lb t d = 0 := by
  obtain ⟨r, hr⟩ := gate_real z lb t d h
  rw [hr, ← EReal.coe_sub, sub_self]; rfl
end

end Cert.Gated
-- ==== Proof.GatedEntries.lean ====
module

public import proofs.«01_k».proof.Proof.GatedRows
public import proofs.«01_k».proof.Proof.GatedSpec

/-! A head's stored output and state, entry by entry: the plain sums, the lower bounds finite. -/

@[expose] public section

noncomputable section

open Idealize.ShloMosaic Idealize.ShloMosaic.TcCoe Idealize.SL.Sem
open scoped BigOperators

namespace Cert.GatedIdeal.Heads

open Cert.GatedIdeal Cert.GatedIdeal.Gen

theorem mask_named : (Named.named κ "mask" 4048155338#32 : Ideal .f32) = (⊥ : EReal) :=
  IdealRules.named_const.ideal_named_scalar _ _ _ _ rfl

theorem at_or_before : ∀ t x : Fin 8, IntOp.cmpi .sge (BitVec.ofNat 32 t.val) (BitVec.ofNat 32 x.val) = BitVec.ofBool (decide (x ≤ t)) := by
  decide +kernel
theorem up_to : ∀ t x : Fin 8, IntOp.cmpi .sle (BitVec.ofNat 32 x.val) (BitVec.ofNat 32 t.val) = BitVec.ofBool (decide (x ≤ t)) := by
  decide +kernel
theorem at_own : ∀ t x : Fin 8, IntOp.cmpi .eq (BitVec.ofNat 32 t.val) (BitVec.ofNat 32 x.val) = BitVec.ofBool (decide (t = x)) := by
  decide +kernel
theorem select_bool (p : Prop) [Decidable p] (a b : EReal) : Scalar.select (BitVec.ofBool (decide p)) a b = if p then a else b := by
  by_cases h : p <;> simp [h, Scalar.select]

/-- A position's row: its weighted values at its own place, nothing elsewhere. -/
theorem row_apply (o : Fin 8) (h) (q v k g acc : FVec Ideal S8x128 .f32) (t : Fin 8) (d : Fin 128) :
    row o h q v k g acc (ix2 t d) = acc (ix2 t d) + if t = o then
      ∑ x : Fin 8, (∑ a : Fin 128, q (ix2 o a) * k (ix2 x a) * Ideal.exp (if x ≤ o then g (ix2 o a) - g (ix2 x a) else ⊥)) * v (ix2 x d)
    else 0 := by
  pointwise [row, sumRow, weights, decay, ids]
  simp only [at_own, up_to, select_bool, mask_named]

theorem rows_apply (q v k g : FVec Ideal S8x128 .f32) (t : Fin 8) (d : Fin 128) : rows q v k g (ix2 t d)
    = ∑ x : Fin 8, (∑ a : Fin 128, q (ix2 t a) * k (ix2 x a) * Ideal.exp (if x ≤ t then g (ix2 t a) - g (ix2 x a) else ⊥)) * v (ix2 x d) := by
  unfold rows
  have zero : (broadcast S8x128 (Scalar.ofBits .f32 0x00000000#32) : FVec Ideal S8x128 .f32) (ix2 t d) = (0 : EReal) := by pointwise []
  rw [row_apply 7, row_apply 6, row_apply 5, row_apply 4, row_apply 3, row_apply 2, row_apply 1, row_apply 0, zero]
  fin_cases t <;> simp

section
variable (q z v g : Vec Ideal S1x8x128 .f32) (lb ng : Vec Ideal S1x1x128 .f32) (s : Vec Ideal S1x128x128 .f32)

/-- A row-shaped block as a function of position and lane; a single row as one of the lane; a state as one of value and key. -/
abbrev cols (x : Vec Ideal S1x8x128 .f32) (t : Fin 8) (d : Fin 128) : EReal := x (ix3 0 t d)
abbrev lane (x : Vec Ideal S1x1x128 .f32) (d : Fin 128) : EReal := x (ix3 0 0 d)
abbrev square (x : Vec Ideal S1x128x128 .f32) (e d : Fin 128) : EReal := x (ix3 0 e d)

theorem gate_apply (t : Fin 8) (d : Fin 128) : k0_pay7 lb z (ix2 t d) = Gated.gate (cols z) (lane lb) t d := by
  pointwise [k0_pay7, k0_pay6]
  rfl
theorem key_apply (t : Fin 8) (d : Fin 128) : k0_pay8 lb z (ix2 t d) = Gated.key (cols z) (lane lb) t d := by
  pointwise [k0_pay8, k0_pay6]
  rfl

variable (hlb : ∀ d : Fin 128, ∃ r : ℝ, lane lb d = r)
include hlb

theorem sums_apply (t : Fin 8) (d : Fin 128) : sums lb z (ix2 t d) = Gated.cum (cols z) (lane lb) t d := by
  pointwise [sums, k0_pay13, k0_pay3, k0_pay9, k0_pay10, k0_pay11, k0_pay12]
  have e : ∀ x : Fin 8, Gated.gate (cols z) (lane lb) x d - Gated.gate (cols z) (lane lb) x d = 0 := fun x => Gated.gate_sub _ _ x d (hlb d)
  simp only [gate_apply, e, at_or_before, select_bool, sub_zero, ite_self, Finset.sum_const_zero, add_zero]
  rfl

theorem mixed_apply (t : Fin 8) (e : Fin 128) :
    mixed q z v lb s (ix2 t e) = Gated.mix (cols q) (cols z) (cols v) (lane lb) (square s) t e := by
  have a : across q z lb s (ix2 t e) = ∑ d : Fin 128, cols q t d * Ideal.exp (Gated.cum (cols z) (lane lb) t d) * square s e d := by
    have hs := sums_apply z lb hlb t
    unfold sums at hs
    pointwise [across, k0_pay15, k0_pay14, k0_pay4]
    simp only [hs]
  have hq : ∀ (t : Fin 8) (d : Fin 128), k0_pay4 q (ix2 t d) = cols q t d := fun t d => by pointwise [k0_pay4]
  have hv : ∀ (t : Fin 8) (d : Fin 128), k0_pay5 v (ix2 t d) = cols v t d := fun t d => by pointwise [k0_pay5]
  have r := rows_apply (k0_pay4 q) (k0_pay5 v) (k0_pay8 lb z) (sums lb z) t e
  simp only [key_apply, sums_apply z lb hlb, hq, hv] at r
  exact congrArg₂ (· + ·) a r

theorem out_apply (t : Fin 8) (e : Fin 128) :
    out q z v g lb ng s (ix3 0 t e) = Gated.out (cols q) (cols z) (cols v) (cols g) (lane lb) (lane ng) (square s) t e := by
  pointwise [out, k0_pay28]
  simp only [mixed_apply q z v lb s hlb]
  rfl

theorem state_apply (e d : Fin 128) :
    state z v lb s (ix4 0 0 e d) = Gated.state (cols z) (cols v) (lane lb) (square s) e d := by
  pointwise [state, k0_pay27, k0_pay25, k0_pay14, k0_pay5]
  simp only [key_apply, sums_apply z lb hlb]
  rfl
end

end Cert.GatedIdeal.Heads
-- ==== Proof.GatedRef.lean ====
module

public import proofs.«01_k».proof.Defs
public import proofs.«01_k».proof.Proof.GatedSpec
public import proofs.«01_k».proof.Proof.Gen.GatedRefIdeal.Read
public import Idealize.ShloMosaic.Lib.Pipeline.ValueKit
public import Idealize.ShloMosaic.Lib.Pointwise

/-! The plain gated recurrence, entry by entry: one head's plain sums. -/

@[expose] public section

noncomputable section

open Idealize.ShloMosaic Idealize.ShloMosaic.TcCoe Idealize.SL.Sem
open scoped BigOperators

namespace Cert.GatedRefIdeal.Heads

open Cert.GatedRefIdeal Cert.GatedRefIdeal.Gen Cert.GatedRefIdeal.Read

variable (x0 : (⟨S128x8x3560, .f32⟩ : BufTy).Contents (Elt Ideal)) (x1 : (⟨S512, .f32⟩ : BufTy).Contents (Elt Ideal))
  (x2 : (⟨S4x128, .f32⟩ : BufTy).Contents (Elt Ideal)) (x3 : (⟨S128x4x128x128, .f32⟩ : BufTy).Contents (Elt Ideal))
  (b : Fin 128) (h : Fin 4)

/-- A head's columns of one of the four parts of the projection's rows; its lower bounds; its incoming state, value by key. -/
abbrev cols (p : Fin 4) (t : Fin 8) (d : Fin 128) : EReal := x0 (ix3 b t ⟨512 * p.val + (128 * h.val + d.val), by omega⟩)
abbrev bound (d : Fin 128) : EReal := x1 (ix1 ⟨128 * h.val + d.val, by omega⟩)
abbrev square (e d : Fin 128) : EReal := x3 (ix4 b h d e)

/-- A fold of additions is the sum. -/
theorem fold_add {ι : Type} (l : List ι) (f : ι → EReal) (a : EReal) : l.foldl (fun r n => r + f n) a = a + (l.map f).sum := by
  induction l generalizing a with
  | nil => simp
  | cons n l ih => rw [List.foldl_cons, ih, List.map_cons, List.sum_cons, add_assoc]

/-- A window of eight that ends at a position sums what lies at or before it. -/
theorem window_sum (f : Fin 8 → EReal) (t : Fin 8) :
    (∑ n : Fin 8, if hn : 7 ≤ t.val + n.val then f ⟨t.val + n.val - 7, by omega⟩ else 0) = ∑ x : Fin 8, if x ≤ t then f x else 0 := by
  fin_cases t <;> simp [Fin.sum_univ_eight]

/-- Position `n` of a window that runs along the third axis. -/
theorem window_index : ∀ n : Fin 8, ∀ a : Fin 4,
    ((⟨4, ![1, 1, 8, 1]⟩ : Shape).rowMajor.symm (n.cast (by decide)) a).val = if a = 2 then n.val else 0 := by
  decide +kernel

theorem gate_apply (t : Fin 8) (d : Fin 128) :
    val_main_v39 (F := Ideal) x0 x1 (ix4 b h t d) = Gated.gate (cols x0 b h 1) (bound x1 h) t d := by
  pointwise [val_main_v39, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v1, val_main_cst, val_main_cst_0, val_main_cst_1, val_main_cst_2]
  simp only [Nat.mul_comm h.val 128]
  rfl

theorem key_apply (t : Fin 8) (d : Fin 128) :
    val_main_v40 (F := Ideal) x0 x1 (ix4 b h t d) = Gated.key (cols x0 b h 1) (bound x1 h) t d := by
  pointwise [val_main_v40, val_main_v33, val_main_v32, val_main_cst_3, val_main_v28, val_main_v27, val_main_v26, val_main_v25, val_main_v24, val_main_v23, val_main_v22, val_main_v21, val_main_v20, val_main_v19, val_main_v18, val_main_v17, val_main_v16, val_main_v15, val_main_v14, val_main_v13, val_main_v1, val_main_cst, val_main_cst_0, val_main_cst_1]
  simp only [Nat.mul_comm h.val 128]
  rfl

theorem query_apply (t : Fin 8) (d : Fin 128) : val_main_v38 (F := Ideal) x0 (ix4 b h t d) = cols x0 b h 0 t d := by
  pointwise [val_main_v38, val_main_v34, val_main_v0]
  simp only [Nat.mul_comm h.val 128]
  exact congrArg (fun i => x0 (ix3 b t i)) (Fin.ext (Nat.zero_add _).symm)
theorem value_apply (t : Fin 8) (d : Fin 128) : val_main_v41 (F := Ideal) x0 (ix4 b h t d) = cols x0 b h 2 t d := by
  pointwise [val_main_v41, val_main_v35, val_main_v2]
  simp only [Nat.mul_comm h.val 128]
  rfl

theorem none_left (p : Prop) [Decidable p] (u : p → EReal) (h : ¬p) : (if hp : p then u hp else 0) = 0 := dif_neg h

/-- The position of a window's entry. -/
abbrev w4 (n : Fin (⟨4, ![1, 1, 8, 1]⟩ : Shape).numel) := (⟨4, ![1, 1, 8, 1]⟩ : Shape).rowMajor.symm n

theorem cum_apply (t : Fin 8) (d : Fin 128) :
    val_main_v42 (F := Ideal) x0 x1 (ix4 b h t d) = Gated.cum (cols x0 b h 1) (bound x1 h) t d := by
  have hz : val_main_call1_call0_v0 (F := Ideal) (Shape.Idx.first h_S_) = (0 : EReal) := by
    pointwise [val_main_call1_call0_v0, val_main_call1_call0_cst]
  unfold val_main_v42 Gated.cum
  show Host.reduceWindow (· + ·) ![1, 1, 8, 1] ![1, 1, 1, 1] ![0, 0, 7, 0] ![0, 0, 0, 0] (val_main_v39 (F := Ideal) x0 x1)
    (fun _ : (⟨0, ![]⟩ : Shape).Idx => val_main_call1_call0_v0 (F := Ideal) (Shape.Idx.first h_S_))
    reduceWindows_S128x4x8x128_S128x4x8x128_w1s1p0_0_w1s1p0_0_w8s1p7_0_w1s1p0_0 (by decide) (ix4 b h t d) = _
  rw [hz]
  refine Eq.trans ?_ (window_sum (fun x => Gated.gate (cols x0 b h 1) (bound x1 h) x d) t)
  unfold Host.reduceWindow
  dsimp only
  refine (fold_add _ _ _).trans ?_
  rw [zero_add, ← List.ofFn_eq_map, List.sum_ofFn]
  refine Fintype.sum_equiv (finCongr (by decide)) _ _ fun n => ?_
  have w : ∀ a : Fin 4, ((⟨4, ![1, 1, 8, 1]⟩ : Shape).rowMajor.symm n a).val = if a = 2 then n.val else 0 := window_index (n.cast (by decide))
  have hn : n.val < 8 := (n.cast (by decide : _ = 8)).isLt
  have ht := t.isLt
  have c0 : (w4 n 0).val = 0 := w 0
  have c1 : (w4 n 1).val = 0 := w 1
  have c2 : (w4 n 2).val = n.val := w 2
  have c3 : (w4 n 3).val = 0 := w 3
  by_cases h7 : 7 ≤ t.val + n.val
  · refine (dif_pos ?_).trans (Eq.trans ?_ (dif_pos h7).symm)
    · intro a
      match a with
      | ⟨0, _⟩ => show 0 ≤ b.val * 1 + (w4 n 0).val ∧ b.val * 1 + (w4 n 0).val - 0 < 128; rw [c0]; omega
      | ⟨1, _⟩ => show 0 ≤ h.val * 1 + (w4 n 1).val ∧ h.val * 1 + (w4 n 1).val - 0 < 4; rw [c1]; omega
      | ⟨2, _⟩ => show 7 ≤ t.val * 1 + (w4 n 2).val ∧ t.val * 1 + (w4 n 2).val - 7 < 8; rw [c2]; omega
      | ⟨3, _⟩ => show 0 ≤ d.val * 1 + (w4 n 3).val ∧ d.val * 1 + (w4 n 3).val - 0 < 128; rw [c3]; omega
    · refine (congrArg (val_main_v39 (F := Ideal) x0 x1) (funext fun a => Fin.ext ?_)).trans (gate_apply x0 x1 b h ⟨t.val + n.val - 7, by omega⟩ d)
      match a with
      | ⟨0, _⟩ => show b.val * 1 + (w4 n 0).val - 0 = b.val; rw [c0]; omega
      | ⟨1, _⟩ => show h.val * 1 + (w4 n 1).val - 0 = h.val; rw [c1]; omega
      | ⟨2, _⟩ => show t.val * 1 + (w4 n 2).val - 7 = t.val + n.val - 7; rw [c2]; omega
      | ⟨3, _⟩ => show d.val * 1 + (w4 n 3).val - 0 = d.val; rw [c3]; omega
  · refine (dif_neg ?_).trans (none_left _ _ h7).symm
    intro hall
    have h2 : 7 ≤ t.val * 1 + (w4 n 2).val := (hall 2).1
    rw [c2] at h2
    omega

theorem before : ∀ t x : Fin 8, IntOp.cmpi .sge (IntOp.addi (BitVec.ofNat 32 t.val) 0#32) (BitVec.ofNat 32 x.val) = BitVec.ofBool (decide (x ≤ t)) := by
  decide +kernel
theorem inf_word : Ideal.ofBits .f32 4286578688#32 = (⊥ : EReal) := by
  simp [Ideal.ofBits, Ideal.ieee]
theorem select_twice (p : Prop) [Decidable p] (a b : EReal) :
    Scalar.select (Scalar.select (BitVec.ofBool (decide p)) 1#1 0#1) a b = if p then a else b := by
  by_cases h : p <;> simp [h, Scalar.select]

theorem weight_apply (t x : Fin 8) :
    val_main_v57 (F := Ideal) x0 x1 (ix4 b h t x) = Gated.weight (cols x0 b h 0) (cols x0 b h 1) (bound x1 h) t x := by
  have hb : (id (constant (F := Ideal) S_ .f32 4286578688#32) : FVec Ideal S_ .f32) ix0 = (⊥ : EReal) := inf_word
  pointwise [val_main_v57, val_main_cst_5, val_main_v56, val_main_v55, val_main_v54, val_main_v53, val_main_v52, val_main_v51, val_main_v50, val_main_v49, val_main_call2_v1, val_main_call2_v2, val_main_call2_v0, val_main_cst_4, val_main_v48, val_main_v47, val_main_v46, val_main_v45, val_main_v44, val_main_v43, val_main_v37, val_main_v36, val_main_c, val_main_call0_v0, val_main_call0_v1, val_main_call0_v2, val_main_call0_v3, val_main_call0_v4, val_main_call0_v5, val_main_call0_c, val_main_call0_c_0]
  simp only [before, select_twice, hb, query_apply, key_apply, cum_apply]
  exact Finset.sum_congr rfl fun d _ => mul_right_comm _ _ _

theorem mix_apply (t : Fin 8) (e : Fin 128) : val_main_v62 (F := Ideal) x0 x1 x3 (ix4 b h t e)
    = Gated.mix (cols x0 b h 0) (cols x0 b h 1) (cols x0 b h 2) (bound x1 h) (square x3 b h) t e := by
  pointwise [val_main_v62, val_main_v61, val_main_v60, val_main_v59, val_main_v58]
  simp only [weight_apply, query_apply, value_apply, cum_apply]
  exact add_comm _ _

theorem state_apply (e d : Fin 128) : val_main_v92 (F := Ideal) x0 x1 x3 (ix4 b h e d)
    = Gated.state (cols x0 b h 1) (cols x0 b h 2) (bound x1 h) (square x3 b h) e d := by
  pointwise [val_main_v92, val_main_v74, val_main_v73, val_main_v72, val_main_v71, val_main_v70, val_main_v69, val_main_v68, val_main_v67, val_main_v66, val_main_v65, val_main_v64, val_main_v63]
  simp only [key_apply, value_apply, cum_apply]
  exact congrArg (_ + ·) (Finset.sum_congr rfl fun x _ => mul_comm _ _)

theorem out_apply (t : Fin 8) (e : Fin 128) : val_main_v91 (F := Ideal) x0 x1 x2 x3 (ix3 b t ⟨128 * h.val + e.val, by omega⟩)
    = Gated.out (cols x0 b h 0) (cols x0 b h 1) (cols x0 b h 2) (cols x0 b h 3) (bound x1 h) (fun d => x2 (ix2 h d)) (square x3 b h) t e := by
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_cst_6, val_main_cst_7, val_main_cst_8, val_main_call3_v5, val_main_call3_v4, val_main_call3_v3, val_main_call3_v2, val_main_call3_v1, val_main_call3_v0, val_main_call3_cst, val_main_call3_cst_0, val_main_v3]
  simp only [mix_apply]
  rfl
end Cert.GatedRefIdeal.Heads
-- ==== Proof.GatedPre.lean ====
module

public import proofs.«01_k».proof.Pre_bounds_finite
public import proofs.«01_k».proof.Proof.MlaPre

/-! What the gated recurrence's precondition says: the lower bounds are real. -/

@[expose] public section

noncomputable section

open Idealize.ShloMosaic Idealize.ShloMosaic.TcCoe

namespace Cert.Pre_bounds_finite

/-- The shape relations of the precondition's operations. -/
theorem facts : Cert.Pre_bounds_finite.Facts where
  bcast_S_S512 := by decide
  reducesTo_S512_S_d0 := by decide
  h_S_ := by decide

variable [Facts]

theorem bounds_real (x0 : FVec Ideal S128x8x3560 .f32) (x1 : FVec Ideal S512 .f32) (x2 : FVec Ideal S4x128 .f32)
    (x3 : FVec Ideal S128x4x128x128 .f32) (h : fn (F := Ideal) x0 x1 x2 x3 = fun _ => 1#1) : ∀ j, ∃ r : ℝ, x1 j = (r : EReal) := by
  have h' := congrFun h (fun k => k.elim0)
  unfold fn at h'
  exact Cert.Pre_finite.real_of_all x1 _ _ _ h'

end Cert.Pre_bounds_finite
-- ==== Proof.GatedValue.lean ====
module

public import proofs.«01_k».proof.Proof.GatedEntries
public import proofs.«01_k».proof.Proof.GatedRef
public import proofs.«01_k».proof.Proof.GatedPre

/-! The gated recurrence's two output arrays are the plain recurrence's of its arguments, the lower bounds finite. -/

@[expose] public section

noncomputable section

open Idealize.ShloMosaic Idealize.ShloMosaic.TcCoe Idealize.SL.Sem
open Idealize.ShloMosaic.Pipeline (Dat)
open scoped BigOperators

namespace Cert.GatedIdeal.Heads

open Cert.GatedIdeal Cert.GatedIdeal.Gen Cert.GatedIdeal.Value

/-- A head's columns of a row-shaped block, its row of a table, and its state in a block of states. -/
def hcols (x : Vec Ideal S1x8x512 .f32) (h : Fin 4) (t : Fin 8) (d : Fin 128) : EReal := x (ix3 0 t ⟨128 * h.val + d.val, by omega⟩)
def hlane (x : Vec Ideal S4x1x128 .f32) (h : Fin 4) (d : Fin 128) : EReal := x (ix3 h 0 d)
def hsquare (x : Vec Ideal S1x4x128x128 .f32) (h : Fin 4) (e d : Fin 128) : EReal := x (ix4 0 h e d)

section
variable (h : Fin 4)

theorem ld_cols (x : Vec Ideal S1x8x512 .f32) (o : Fin 3 → ℕ) (ho : o = ![0, 0, 128 * h.val]) (inb) :
    cols (View.ld x (Rect.unit (s := S1x8x512) o S1x8x128.size inb)) = hcols x h := by
  subst ho
  funext t d
  refine View.ld_unit_apply_of x _ _ _ _ _ fun a => ?_
  match a with
  | ⟨0, _⟩ => rfl
  | ⟨1, _⟩ => exact (Nat.zero_add _).symm
  | ⟨2, _⟩ => rfl

theorem ld_lane (x : Vec Ideal S4x1x128 .f32) (o : Fin 3 → ℕ) (ho : o = ![h.val, 0, 0]) (inb) :
    lane (View.ld x (Rect.unit (s := S4x1x128) o S1x1x128.size inb)) = hlane x h := by
  subst ho
  funext d
  refine View.ld_unit_apply_of x _ _ _ _ _ fun a => ?_
  match a with
  | ⟨0, _⟩ => rfl
  | ⟨1, _⟩ => rfl
  | ⟨2, _⟩ => exact (Nat.zero_add _).symm

theorem ld_square (x : Vec Ideal S1x4x128x128 .f32) (o : Fin 3 → ℕ) (ho : o = ![h.val, 0, 0]) (inb) :
    square (View.ld (k0_pay2 x) (Rect.unit (s := S4x128x128) o S1x128x128.size inb)) = hsquare x h := by
  subst ho
  funext e d
  refine (View.ld_unit_apply_of (show Vec Ideal S4x128x128 .f32 from k0_pay2 x) _ _ _ _ (ix3 h e d) fun a => ?_).trans ?_
  · match a with
    | ⟨0, _⟩ => rfl
    | ⟨1, _⟩ => exact (Nat.zero_add _).symm
    | ⟨2, _⟩ => exact (Nat.zero_add _).symm
  · pointwise [k0_pay2]
    rfl

theorem emb_cols (o : Fin 3 → ℕ) (ho : o = ![0, 0, 128 * h.val]) (inb) (t : Fin 8) (e : Fin 128) :
    (Rect.unit (s := S1x8x512) o S1x8x128.size inb).emb (ix3 0 t e) = ix3 0 t ⟨128 * h.val + e.val, by omega⟩ := by
  subst ho
  refine funext fun a => Fin.ext ?_
  rw [Rect.emb_apply]
  match a with
  | ⟨0, _⟩ => simp
  | ⟨1, _⟩ => simp
  | ⟨2, _⟩ => simp

theorem emb_square (o : Fin 4 → ℕ) (ho : o = ![0, h.val, 0, 0]) (inb) (e d : Fin 128) :
    (Rect.unit (s := S1x4x128x128) o S1x1x128x128.size inb).emb (ix4 0 0 e d) = ix4 0 h e d := by
  subst ho
  refine funext fun a => Fin.ext ?_
  rw [Rect.emb_apply]
  match a with
  | ⟨0, _⟩ => simp
  | ⟨1, _⟩ => simp
  | ⟨2, _⟩ => simp
  | ⟨3, _⟩ => simp
end

section
variable (x0 x1 x2 x3 : Vec Ideal S1x8x512 .f32) (x4 x5 : Vec Ideal S4x1x128 .f32) (x6 : Vec Ideal S1x4x128x128 .f32)

/-- The output block's entries and the state block's. -/
def outs (y : S1x8x512.Idx) : EReal :=
  have hy : (y 2).val < 512 := (y 2).isLt
  let h : Fin 4 := ⟨(y 2).val / 128, by omega⟩
  Gated.out (hcols x0 h) (hcols x1 h) (hcols x2 h) (hcols x3 h) (hlane x4 h) (hlane x5 h) (hsquare x6 h) (y 1) ⟨(y 2).val % 128, Nat.mod_lt _ (by omega)⟩
def states (y : S1x4x128x128.Idx) : EReal :=
  Gated.state (hcols x1 (y 1)) (hcols x2 (y 1)) (hlane x4 (y 1)) (hsquare x6 (y 1)) (y 2) (y 3)

theorem outs_apply (h : Fin 4) (t : Fin 8) (e : Fin 128) (j : Fin 512) (hj : j.val = 128 * h.val + e.val) : outs x0 x1 x2 x3 x4 x5 x6 (ix3 0 t j)
    = Gated.out (hcols x0 h) (hcols x1 h) (hcols x2 h) (hcols x3 h) (hlane x4 h) (hlane x5 h) (hsquare x6 h) t e := by
  have e1 : (⟨j.val / 128, by omega⟩ : Fin 4) = h := Fin.ext (by show j.val / 128 = h.val; omega)
  have e2 : (⟨j.val % 128, Nat.mod_lt _ (by omega)⟩ : Fin 128) = e := Fin.ext (by show j.val % 128 = e.val; omega)
  exact congrArg₂ (fun h e => Gated.out (hcols x0 h) (hcols x1 h) (hcols x2 h) (hcols x3 h) (hlane x4 h) (hlane x5 h) (hsquare x6 h) t e) e1 e2

variable (hlb : ∀ (h : Fin 4) (d : Fin 128), ∃ r : ℝ, hlane x4 h d = r)
include hlb

/-- What is stored of a head's output is the block's entries there. -/
theorem out_piece (h : Fin 4) (o : Fin 3 → ℕ) (ho : o = ![0, 0, 128 * h.val]) (ib) (p : Fin 3 → ℕ) (hp : p = ![h.val, 0, 0]) (i4) (i6) (x : S1x8x128.Idx) :
    out (View.ld x0 (Rect.unit (s := S1x8x512) o S1x8x128.size ib)) (View.ld x1 (Rect.unit (s := S1x8x512) o S1x8x128.size ib))
      (View.ld x2 (Rect.unit (s := S1x8x512) o S1x8x128.size ib)) (View.ld x3 (Rect.unit (s := S1x8x512) o S1x8x128.size ib))
      (View.ld x4 (Rect.unit (s := S4x1x128) p S1x1x128.size i4)) (View.ld x5 (Rect.unit (s := S4x1x128) p S1x1x128.size i4))
      (View.ld (k0_pay2 x6) (Rect.unit (s := S4x128x128) p S1x128x128.size i6)) x
      = outs x0 x1 x2 x3 x4 x5 x6 ((Rect.unit (s := S1x8x512) o S1x8x128.size ib).emb x) := by
  obtain ⟨t, e, rfl⟩ : ∃ (t : Fin 8) (e : Fin 128), x = ix3 0 t e :=
    ⟨x 1, x 2, (ValueIdx.eq_ix3 x).trans (congrArg (fun a => ix3 a (x 1) (x 2)) (Subsingleton.elim (α := Fin 1) _ _))⟩
  have l := ld_lane h x4 p hp i4
  rw [emb_cols h o ho ib t e, outs_apply x0 x1 x2 x3 x4 x5 x6 h t e _ rfl,
    out_apply _ _ _ _ _ _ _ (fun d => by rw [l]; exact hlb h d), l, ld_lane h x5 p hp i4, ld_square h x6 p hp i6,
    ld_cols h x0 o ho ib, ld_cols h x1 o ho ib, ld_cols h x2 o ho ib, ld_cols h x3 o ho ib]

/-- What is stored of a head's state is the block's entries there. -/
theorem state_piece (h : Fin 4) (w : Fin 4 → ℕ) (hw : w = ![0, h.val, 0, 0]) (iw) (o : Fin 3 → ℕ) (ho : o = ![0, 0, 128 * h.val]) (ib)
    (p : Fin 3 → ℕ) (hp : p = ![h.val, 0, 0]) (i4) (i6) (x : S1x1x128x128.Idx) :
    state (View.ld x1 (Rect.unit (s := S1x8x512) o S1x8x128.size ib)) (View.ld x2 (Rect.unit (s := S1x8x512) o S1x8x128.size ib))
      (View.ld x4 (Rect.unit (s := S4x1x128) p S1x1x128.size i4)) (View.ld (k0_pay2 x6) (Rect.unit (s := S4x128x128) p S1x128x128.size i6)) x
      = states x1 x2 x4 x6 ((Rect.unit (s := S1x4x128x128) w S1x1x128x128.size iw).emb x) := by
  obtain ⟨e, d, rfl⟩ : ∃ (e d : Fin 128), x = ix4 0 0 e d :=
    ⟨x 2, x 3, (ValueIdx.eq_ix4 x).trans (congrArg₂ (fun a b => ix4 a b (x 2) (x 3)) (Subsingleton.elim (α := Fin 1) _ _) (Subsingleton.elim (α := Fin 1) _ _))⟩
  have l := ld_lane h x4 p hp i4
  rw [emb_square h w hw iw e d, state_apply _ _ _ _ (fun d => by rw [l]; exact hlb h d), l, ld_square h x6 p hp i6,
    ld_cols h x1 o ho ib, ld_cols h x2 o ho ib]
  rfl

variable (c : Dev nD) (i : grid0.Coords) (arg2 : Memref sig .tc .vmem S1x8x512 .f32) (harg2 : arg2.IsWhole) (arg3 : Memref sig .tc .vmem S1x8x512 .f32) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S1x4x128x128 .f32) (harg8 : arg8.IsWhole) (arg9 : Memref sig .tc .vmem S1x8x512 .f32) (harg9 : arg9.IsWhole) (arg10 : Memref sig .tc .vmem S1x4x128x128 .f32) (harg10 : arg10.IsWhole) (arg11 : Memref sig .tc .vmem S4x128x128 .f32) (harg11 : arg11.IsWhole) (hc0 : cond0_0 i)

theorem out_block (y : S1x8x512.Idx) :
    out0_A_7 c i arg2 harg2 arg3 harg3 arg4 harg4 arg5 harg5 arg6 harg6 arg7 harg7 arg8 harg8 arg9 harg9 arg10 harg10 arg11 harg11 hc0 x0 x1 x2 x3 x4 x5 x6 y
      = outs x0 x1 x2 x3 x4 x5 x6 y := by
  unfold out0_A_7
  refine View.read_writes_apply_of_pieces _ _ (outs x0 x1 x2 x3 x4 x5 x6) _ (fun p hp x => ?_) y
    (cover0_A_7 c i arg2 harg2 arg3 harg3 arg4 harg4 arg5 harg5 arg6 harg6 arg7 harg7 arg8 harg8 arg9 harg9 arg10 harg10 arg11 harg11 hc0 x0 x1 x2 x3 x4 x5 x6 y)
  rw [(stored c i arg2 harg2 arg3 harg3 arg4 harg4 arg5 harg5 arg6 harg6 arg7 harg7 arg8 harg8 arg9 harg9 arg10 harg10 arg11 harg11 hc0 x0 x1 x2 x3 x4 x5 x6).1] at hp
  simp only [List.mem_cons, List.not_mem_nil, or_false] at hp
  rcases hp with rfl | rfl | rfl | rfl
  · exact out_piece x0 x1 x2 x3 x4 x5 x6 hlb 3 _ rfl _ _ rfl _ _ x
  · exact out_piece x0 x1 x2 x3 x4 x5 x6 hlb 2 _ rfl _ _ rfl _ _ x
  · exact out_piece x0 x1 x2 x3 x4 x5 x6 hlb 1 _ rfl _ _ rfl _ _ x
  · exact out_piece x0 x1 x2 x3 x4 x5 x6 hlb 0 _ rfl _ _ rfl _ _ x

theorem state_block (y : S1x4x128x128.Idx) :
    out0_A_8 c i arg2 harg2 arg3 harg3 arg4 harg4 arg5 harg5 arg6 harg6 arg7 harg7 arg8 harg8 arg9 harg9 arg10 harg10 arg11 harg11 hc0 x0 x1 x2 x3 x4 x5 x6 y
      = states x1 x2 x4 x6 y := by
  unfold out0_A_8
  refine View.read_writes_apply_of_pieces _ _ (states x1 x2 x4 x6) _ (fun p hp x => ?_) y
    (cover0_A_8 c i arg2 harg2 arg3 harg3 arg4 harg4 arg5 harg5 arg6 harg6 arg7 harg7 arg8 harg8 arg9 harg9 arg10 harg10 arg11 harg11 hc0 x0 x1 x2 x3 x4 x5 x6 y)
  rw [(stored c i arg2 harg2 arg3 harg3 arg4 harg4 arg5 harg5 arg6 harg6 arg7 harg7 arg8 harg8 arg9 harg9 arg10 harg10 arg11 harg11 hc0 x0 x1 x2 x3 x4 x5 x6).2] at hp
  simp only [List.mem_cons, List.not_mem_nil, or_false] at hp
  rcases hp with rfl | rfl | rfl | rfl
  · exact state_piece x1 x2 x4 x6 hlb 3 _ rfl inb_S1x4x128x128_S1x1x128x128_0_3_0_0 _ rfl _ _ rfl _ _ x
  · exact state_piece x1 x2 x4 x6 hlb 2 _ rfl inb_S1x4x128x128_S1x1x128x128_0_2_0_0 _ rfl _ _ rfl _ _ x
  · exact state_piece x1 x2 x4 x6 hlb 1 _ rfl inb_S1x4x128x128_S1x1x128x128_0_1_0_0 _ rfl _ _ rfl _ _ x
  · exact state_piece x1 x2 x4 x6 hlb 0 _ rfl inb_S1x4x128x128_S1x1x128x128_0_0_0_0 _ rfl _ _ rfl _ _ x
end

variable (m : (ℓ : Loc nD τ sig) → Buf (Elt Ideal) ℓ) (c : Dev nD)

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 1] := (by decide +kernel : ∀ t : Fin grid0.N, _)
theorem idx2 : ∀ t : Fin cfg0.N, win0_2.index t = ![(grid0.coords t 0).val, (grid0.coords t 1).val, 2] := (by decide +kernel : ∀ t : Fin grid0.N, _)
theorem idx3 : ∀ t : Fin cfg0.N, win0_3.index t = ![(grid0.coords t 0).val, (grid0.coords t 1).val, 3] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![(grid0.coords t 0).val, 0, 0, 0] := (by decide +kernel : ∀ t : Fin grid0.N, _)
theorem idx7 : ∀ t : Fin cfg0.N, win0_7.index t = ![(grid0.coords t 0).val, (grid0.coords t 1).val, 0] := (by decide +kernel : ∀ t : Fin grid0.N, _)
theorem idx8 : ∀ t : Fin cfg0.N, win0_8.index t = ![(grid0.coords t 0).val, 0, 0, 0] := (by decide +kernel : ∀ t : Fin grid0.N, _)

theorem entry_lb (h : Fin 4) (d : Fin 128) : V m c main_v1 (ix3 h 0 d)
    = Cert.GatedRefIdeal.Heads.bound (m ((c : Thread nD τ).loc main_arg1)) h d := by
  entry_read
  pointwise []
  simp only [Nat.mul_comm h.val 128]
theorem entry_ng (h : Fin 4) (d : Fin 128) : V m c main_v2 (ix3 h 0 d) = m ((c : Thread nD τ).loc main_arg2) (ix2 h d) := by
  entry_read
  pointwise []
theorem entry_s (b : Fin 128) (h : Fin 4) (e d : Fin 128) : V m c main_v3 (ix4 b h e d) = m ((c : Thread nD τ).loc main_arg3) (ix4 b h d e) := by
  entry_read
  pointwise []

/-- The four blocks of a point's rows: a batch's four groups of columns. -/
theorem read_rows (t : Fin cfg0.N) (h : Fin 4) :
    hcols (X0_0 m c t) h = Cert.GatedRefIdeal.Heads.cols (m ((c : Thread nD τ).loc main_arg0)) (grid0.coords t 0) h 0
    ∧ hcols (X0_1 m c t) h = Cert.GatedRefIdeal.Heads.cols (m ((c : Thread nD τ).loc main_arg0)) (grid0.coords t 0) h 1
    ∧ hcols (X0_2 m c t) h = Cert.GatedRefIdeal.Heads.cols (m ((c : Thread nD τ).loc main_arg0)) (grid0.coords t 0) h 2
    ∧ hcols (X0_3 m c t) h = Cert.GatedRefIdeal.Heads.cols (m ((c : Thread nD τ).loc main_arg0)) (grid0.coords t 0) h 3 := by
  refine ⟨funext₂ fun s d => ?_, funext₂ fun s d => ?_, funext₂ fun s d => ?_, funext₂ fun s d => ?_⟩
  · unfold hcols X0_0 Pipeline.Window.fill
    rw [dif_pos (moved0_0 t _)]
    blk_simp [iblk, V_main_arg0]
    refine congrArg _ ?_
    blk_ext [idx0]
  · unfold hcols X0_1 Pipeline.Window.fill
    rw [dif_pos (moved0_1 t _)]
    blk_simp [iblk, V_main_arg0]
    refine congrArg _ ?_
    blk_ext [idx1]
  · unfold hcols X0_2 Pipeline.Window.fill
    rw [dif_pos (moved0_2 t _)]
    blk_simp [iblk, V_main_arg0]
    refine congrArg _ ?_
    blk_ext [idx2]
  · unfold hcols X0_3 Pipeline.Window.fill
    rw [dif_pos (moved0_3 t _)]
    blk_simp [iblk, V_main_arg0]
    refine congrArg _ ?_
    blk_ext [idx3]

theorem read_lb (t : Fin cfg0.N) (h : Fin 4) : hlane (iblk m c 4 t) h = Cert.GatedRefIdeal.Heads.bound (m ((c : Thread nD τ).loc main_arg1)) h := by
  funext d
  unfold hlane
  blk_simp [iblk]
  rw [← entry_lb m c h d]
  refine congrArg _ ?_
  blk_ext [idx4]
theorem read_ng (t : Fin cfg0.N) (h : Fin 4) : hlane (iblk m c 5 t) h = fun d => m ((c : Thread nD τ).loc main_arg2) (ix2 h d) := by
  funext d
  unfold hlane
  blk_simp [iblk]
  rw [← entry_ng m c h d]
  refine congrArg _ ?_
  blk_ext [idx5]
theorem read_s (t : Fin cfg0.N) (h : Fin 4) :
    hsquare (iblk m c 6 t) h = Cert.GatedRefIdeal.Heads.square (m ((c : Thread nD τ).loc main_arg3)) (grid0.coords t 0) h := by
  funext e d
  unfold hsquare
  blk_simp [iblk]
  refine Eq.trans ?_ (entry_s m c (grid0.coords t 0) h e d)
  refine congrArg _ ?_
  blk_ext [idx6]

section
variable (hlb : ∀ j, ∃ r : ℝ, m ((c : Thread nD τ).loc main_arg1) j = (r : EReal))
include hlb

theorem lane_real (t : Fin cfg0.N) (h : Fin 4) (d : Fin 128) : ∃ r : ℝ, hlane (iblk m c 4 t) h d = r := by
  rw [read_lb]
  exact hlb _

/-- The output array is the plain recurrence's output. -/
theorem final7 : (dats m 0 c).arrAt 7 cfg0.N
    = Cert.GatedRefIdeal.Read.val_main_v91 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 7 _ (by decide +kernel) fun t hf y => ?_
  blk_simp
  rw [after0_7]
  unfold outsAt0
  dsimp only
  refine (out_block _ _ _ _ _ _ _ (lane_real m c hlb t) _ _ _ _ _ _ _ _ _ _ _ _ _ _ _ _ _ _ _ _ _ _ _ _).trans ?_
  obtain ⟨s, j, rfl⟩ : ∃ (s : Fin 8) (j : Fin 512), y = ix3 0 s j :=
    ⟨y 1, y 2, (ValueIdx.eq_ix3 y).trans (congrArg (fun a => ix3 a (y 1) (y 2)) (Subsingleton.elim (α := Fin 1) _ _))⟩
  obtain ⟨h, e, rfl⟩ : ∃ (h : Fin 4) (e : Fin 128), j = ⟨128 * h.val + e.val, by omega⟩ :=
    ⟨⟨j.val / 128, by omega⟩, ⟨j.val % 128, by omega⟩, Fin.ext (Nat.div_add_mod _ _).symm⟩
  obtain ⟨q0, q1, q2, q3⟩ := read_rows m c t h
  have eo : (win0_7.blk t).view.emb (ix3 0 s ⟨128 * h.val + e.val, by omega⟩) = ix3 (grid0.coords t 0) s ⟨128 * h.val + e.val, by omega⟩ := by
    blk_ext [idx7]
  refine ((outs_apply _ _ _ _ _ _ _ h s e _ rfl).trans ?_).trans (congrArg (Cert.GatedRefIdeal.Read.val_main_v91 (F := Ideal) (m ((c : Thread nD τ).loc main_arg0))
    (m ((c : Thread nD τ).loc main_arg1)) (m ((c : Thread nD τ).loc main_arg2)) (m ((c : Thread nD τ).loc main_arg3))) eo).symm
  rw [q0, q1, q2, q3, read_lb, read_ng, read_s]
  exact (Cert.GatedRefIdeal.Heads.out_apply _ _ _ _ (grid0.coords t 0) h s e).symm

/-- The state array is the plain recurrence's state. -/
theorem final8 : (dats m 0 c).arrAt 8 cfg0.N
    = Cert.GatedRefIdeal.Read.val_main_v92 (F := Ideal) (m ((c : Thread nD τ).loc main_arg0)) (m ((c : Thread nD τ).loc main_arg1))
        (m ((c : Thread nD τ).loc main_arg3)) := by
  refine (dats m 0 c).arrAt_eq_of_covers 8 _ (by decide +kernel) fun t hf y => ?_
  blk_simp
  rw [after0_8]
  unfold outsAt0
  dsimp only
  refine (state_block _ _ _ _ _ _ _ (lane_real m c hlb t) _ _ _ _ _ _ _ _ _ _ _ _ _ _ _ _ _ _ _ _ _ _ _ _).trans ?_
  obtain ⟨h, e, d, rfl⟩ : ∃ (h : Fin 4) (e d : Fin 128), y = ix4 0 h e d :=
    ⟨y 1, y 2, y 3, (ValueIdx.eq_ix4 y).trans (congrArg (fun a => ix4 a (y 1) (y 2) (y 3)) (Subsingleton.elim (α := Fin 1) _ _))⟩
  obtain ⟨-, q1, q2, -⟩ := read_rows m c t h
  have eo : (win0_8.blk t).view.emb (ix4 0 h e d) = ix4 (grid0.coords t 0) h e d := by
    blk_ext [idx8]
  refine Eq.trans ?_ (congrArg (Cert.GatedRefIdeal.Read.val_main_v92 (F := Ideal) (m ((c : Thread nD τ).loc main_arg0))
    (m ((c : Thread nD τ).loc main_arg1)) (m ((c : Thread nD τ).loc main_arg3))) eo).symm
  show Gated.state (hcols _ h) (hcols _ h) (hlane _ h) (hsquare _ h) e d = _
  rw [q1, q2, read_lb, read_s]
  exact (Cert.GatedRefIdeal.Heads.state_apply _ _ _ (grid0.coords t 0) h e d).symm
end

end Cert.GatedIdeal.Heads

/-- The gated recurrence's output and state are the plain recurrence's on finite lower bounds. -/
theorem Cert.GatedIdeal.Heads.algebraic [inst : Cert.Pre_bounds_finite.Facts] : Cert.algebraic_GatedIdeal_GatedRefIdeal_pre_bounds_finite := by
  pair_intro
  · run_from Cert.GatedIdeal.Value.run_blocks m g
  · run_from Cert.GatedRefIdeal.Value.run m' g'
    · obtain ⟨e0, e1, e2, e3⟩ := hagree c
      rw [Cert.GatedIdeal.Heads.final7 m c (Cert.Pre_bounds_finite.bounds_real _ _ _ _ (hpre c)), ← e0, ← e1, ← e2, ← e3]
      exact Cert.GatedRefIdeal.Read.val_main_v91_eq (F := Ideal) m' c
    · obtain ⟨e0, e1, e2, e3⟩ := hagree c
      rw [Cert.GatedIdeal.Heads.final8 m c (Cert.Pre_bounds_finite.bounds_real _ _ _ _ (hpre c)), ← e0, ← e1, ← e3]
      exact Cert.GatedRefIdeal.Read.val_main_v92_eq (F := Ideal) m' c

end
-- ==== Proof.GatedPromptRows.lean ====
module

public import proofs.«01_k».proof.Defs
public import proofs.«01_k».proof.Proof.Gen.GatedPromptIdeal.Value
public import Idealize.ShloMosaic.Lib.Pipeline.ReadBack
public import Idealize.ShloMosaic.Lib.Pipeline.ValueKit
public import Idealize.ShloMosaic.Lib.Claim
public import Idealize.ShloMosaic.Lib.Pointwise

/-! The prompt's recurrence stores, head by head and twice over, one function of the head's columns and its carried state. -/

@[expose] public section

noncomputable section

open Idealize.ShloMosaic Idealize.ShloMosaic.TcCoe Idealize.SL.Sem
open scoped BigOperators

namespace Cert.GatedPromptIdeal.Heads

open Cert.GatedPromptIdeal Cert.GatedPromptIdeal.Gen Cert.GatedPromptIdeal.Value

/-- The running sums of the logarithms of the forget gates. -/
def sums (lb : Vec Ideal S1x1x128 .f32) (z : Vec Ideal S1x64x128 .f32) : FVec Ideal S64x128 .f32 :=
  k0_pay13 k0_pay3 (k0_pay9 lb z) (k0_pay11 lb z) (k0_pay12 lb z)

/-- A head's state, as stored to the output and as kept for the next chunk. -/
def state (z v : Vec Ideal S1x64x128 .f32) (lb : Vec Ideal S1x1x128 .f32) (s : Vec Ideal S1x128x128 .f32) : FVec Ideal S1x1x128x128 .f32 :=
  k0_pay143 (k0_pay5 v) (k0_pay8 lb z) (sums lb z) (k0_pay14 s)
def carry (z v : Vec Ideal S1x64x128 .f32) (lb : Vec Ideal S1x1x128 .f32) (s : Vec Ideal S1x128x128 .f32) : FVec Ideal S1x128x128 .f32 :=
  k0_pay142 (k0_pay5 v) (k0_pay8 lb z) (sums lb z) (k0_pay14 s)

section
variable (x1 x2 : Vec Ideal S1x64x512 .f32) (x4 : Vec Ideal S4x1x128 .f32) (s : Vec Ideal S4x128x128 .f32)

/-- The four heads' states in the output's block, and in the scratch. -/
def shown : List (View.Piece (Elt Ideal) S1x4x128x128 .f32) :=
  [⟨Rect.unit (s := S1x4x128x128) ![0, 3, 0, 0] S1x1x128x128.size inb_S1x4x128x128_S1x1x128x128_0_3_0_0,
     state (View.ld x1 (Rect.unit (s := S1x64x512) ![0, 0, 384] S1x64x128.size inb_S1x64x512_S1x64x128_0_0_384)) (View.ld x2 (Rect.unit (s := S1x64x512) ![0, 0, 384] S1x64x128.size inb_S1x64x512_S1x64x128_0_0_384))
       (View.ld x4 (Rect.unit (s := S4x1x128) ![3, 0, 0] S1x1x128.size inb_S4x1x128_S1x1x128_3_0_0)) (View.ld s (Rect.unit (s := S4x128x128) ![3, 0, 0] S1x128x128.size inb_S4x128x128_S1x128x128_3_0_0))⟩,
   ⟨Rect.unit (s := S1x4x128x128) ![0, 2, 0, 0] S1x1x128x128.size inb_S1x4x128x128_S1x1x128x128_0_2_0_0,
     state (View.ld x1 (Rect.unit (s := S1x64x512) ![0, 0, 256] S1x64x128.size inb_S1x64x512_S1x64x128_0_0_256)) (View.ld x2 (Rect.unit (s := S1x64x512) ![0, 0, 256] S1x64x128.size inb_S1x64x512_S1x64x128_0_0_256))
       (View.ld x4 (Rect.unit (s := S4x1x128) ![2, 0, 0] S1x1x128.size inb_S4x1x128_S1x1x128_2_0_0)) (View.ld s (Rect.unit (s := S4x128x128) ![2, 0, 0] S1x128x128.size inb_S4x128x128_S1x128x128_2_0_0))⟩,
   ⟨Rect.unit (s := S1x4x128x128) ![0, 1, 0, 0] S1x1x128x128.size inb_S1x4x128x128_S1x1x128x128_0_1_0_0,
     state (View.ld x1 (Rect.unit (s := S1x64x512) ![0, 0, 128] S1x64x128.size inb_S1x64x512_S1x64x128_0_0_128)) (View.ld x2 (Rect.unit (s := S1x64x512) ![0, 0, 128] S1x64x128.size inb_S1x64x512_S1x64x128_0_0_128))
       (View.ld x4 (Rect.unit (s := S4x1x128) ![1, 0, 0] S1x1x128.size inb_S4x1x128_S1x1x128_1_0_0)) (View.ld s (Rect.unit (s := S4x128x128) ![1, 0, 0] S1x128x128.size inb_S4x128x128_S1x128x128_1_0_0))⟩,
   ⟨Rect.unit (s := S1x4x128x128) ![0, 0, 0, 0] S1x1x128x128.size inb_S1x4x128x128_S1x1x128x128_0_0_0_0,
     state (View.ld x1 (Rect.unit (s := S1x64x512) ![0, 0, 0] S1x64x128.size inb_S1x64x512_S1x64x128_0_0_0)) (View.ld x2 (Rect.unit (s := S1x64x512) ![0, 0, 0] S1x64x128.size inb_S1x64x512_S1x64x128_0_0_0))
       (View.ld x4 (Rect.unit (s := S4x1x128) ![0, 0, 0] S1x1x128.size inb_S4x1x128_S1x1x128_0_0_0)) (View.ld s (Rect.unit (s := S4x128x128) ![0, 0, 0] S1x128x128.size inb_S4x128x128_S1x128x128_0_0_0))⟩]
def kept : List (View.Piece (Elt Ideal) S4x128x128 .f32) :=
  [⟨Rect.unit (s := S4x128x128) ![3, 0, 0] S1x128x128.size inb_S4x128x128_S1x128x128_3_0_0,
     carry (View.ld x1 (Rect.unit (s := S1x64x512) ![0, 0, 384] S1x64x128.size inb_S1x64x512_S1x64x128_0_0_384)) (View.ld x2 (Rect.unit (s := S1x64x512) ![0, 0, 384] S1x64x128.size inb_S1x64x512_S1x64x128_0_0_384))
       (View.ld x4 (Rect.unit (s := S4x1x128) ![3, 0, 0] S1x1x128.size inb_S4x1x128_S1x1x128_3_0_0)) (View.ld s (Rect.unit (s := S4x128x128) ![3, 0, 0] S1x128x128.size inb_S4x128x128_S1x128x128_3_0_0))⟩,
   ⟨Rect.unit (s := S4x128x128) ![2, 0, 0] S1x128x128.size inb_S4x128x128_S1x128x128_2_0_0,
     carry (View.ld x1 (Rect.unit (s := S1x64x512) ![0, 0, 256] S1x64x128.size inb_S1x64x512_S1x64x128_0_0_256)) (View.ld x2 (Rect.unit (s := S1x64x512) ![0, 0, 256] S1x64x128.size inb_S1x64x512_S1x64x128_0_0_256))
       (View.ld x4 (Rect.unit (s := S4x1x128) ![2, 0, 0] S1x1x128.size inb_S4x1x128_S1x1x128_2_0_0)) (View.ld s (Rect.unit (s := S4x128x128) ![2, 0, 0] S1x128x128.size inb_S4x128x128_S1x128x128_2_0_0))⟩,
   ⟨Rect.unit (s := S4x128x128) ![1, 0, 0] S1x128x128.size inb_S4x128x128_S1x128x128_1_0_0,
     carry (View.ld x1 (Rect.unit (s := S1x64x512) ![0, 0, 128] S1x64x128.size inb_S1x64x512_S1x64x128_0_0_128)) (View.ld x2 (Rect.unit (s := S1x64x512) ![0, 0, 128] S1x64x128.size inb_S1x64x512_S1x64x128_0_0_128))
       (View.ld x4 (Rect.unit (s := S4x1x128) ![1, 0, 0] S1x1x128.size inb_S4x1x128_S1x1x128_1_0_0)) (View.ld s (Rect.unit (s := S4x128x128) ![1, 0, 0] S1x128x128.size inb_S4x128x128_S1x128x128_1_0_0))⟩,
   ⟨Rect.unit (s := S4x128x128) ![0, 0, 0] S1x128x128.size inb_S4x128x128_S1x128x128_0_0_0,
     carry (View.ld x1 (Rect.unit (s := S1x64x512) ![0, 0, 0] S1x64x128.size inb_S1x64x512_S1x64x128_0_0_0)) (View.ld x2 (Rect.unit (s := S1x64x512) ![0, 0, 0] S1x64x128.size inb_S1x64x512_S1x64x128_0_0_0))
       (View.ld x4 (Rect.unit (s := S4x1x128) ![0, 0, 0] S1x1x128.size inb_S4x1x128_S1x1x128_0_0_0)) (View.ld s (Rect.unit (s := S4x128x128) ![0, 0, 0] S1x128x128.size inb_S4x128x128_S1x128x128_0_0_0))⟩]
end

section
variable (c : Dev nD) (i : grid0.Coords) (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S1x4x128x128 .f32) (harg8 : arg8.IsWhole) (arg9 : Memref sig .tc .vmem S1x64x512 .f32) (harg9 : arg9.IsWhole) (arg10 : Memref sig .tc .vmem S1x4x128x128 .f32) (harg10 : arg10.IsWhole) (arg11 : Memref sig .tc .vmem S4x128x128 .f32) (harg11 : arg11.IsWhole)
    (x0 x1 x2 x3 : Vec Ideal S1x64x512 .f32) (x4 x5 : Vec Ideal S4x1x128 .f32) (x6 : Vec Ideal S1x4x128x128 .f32) (xs0 : Vec Ideal S4x128x128 .f32)

/-- A whole array read through a rectangle. -/
theorem read_at {S : Shape} (a : Memref sig .tc .vmem S .f32) (h : a.IsWhole) (x : Vec Ideal S .f32) (r : Rect S) :
    View.readAt (Elt Ideal) a.view r.toLoadRect (h.unread x) = View.ld x r := by
  rw [View.readAt_eq_ld, h.read_unread]

/-- The first chunk's stores: the incoming state's heads carried on; the scratch held the incoming state before. -/
theorem stored_A (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5 x6).2.1 = shown x1 x2 x4 (k0_pay2 x6)
    ∧ (kernelRun0_A c i arg2 harg2 arg3 harg3 arg4 harg4 arg5 harg5 arg6 harg6 arg7 harg7 arg8 harg8 arg9 harg9 arg10 harg10 arg11 harg11 hc0 x0 x1 x2 x3 x4 x5 x6).2.2.1
      = kept x1 x2 x4 (k0_pay2 x6) ++ [⟨Rect.unit (s := S4x128x128) ![0, 0, 0] S4x128x128.size inb_S4x128x128_S4x128x128_0_0_0, k0_pay2 x6⟩] := by
  unfold kernelRun0_A
  dsimp only
  sl_unfold_words
  have r8 : View.readAt (Elt Ideal) arg8.view (Rect.unit (s := S1x4x128x128) ![0, 0, 0, 0] S1x4x128x128.size inb_S1x4x128x128_S1x4x128x128_0_0_0_0).toLoadRect (harg8.unread x6) = x6 :=
    (read_at arg8 harg8 x6 _).trans (View.ld_unit_lit _ _ (by decide))
  simp (disch := decide) only [↓View.readCov_skip, ↓View.readCov_fill, r8, read_at arg2, read_at arg3, read_at arg4, read_at arg5, read_at arg6,
    read_at arg7]
  exact ⟨rfl, rfl⟩

/-- A later chunk's stores: the heads of the state the chunk before left carried on. -/
theorem stored_B (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 x6 xs0).2.1 = shown x1 x2 x4 xs0
    ∧ (kernelRun0_B c i arg2 harg2 arg3 harg3 arg4 harg4 arg5 harg5 arg6 harg6 arg7 harg7 arg8 harg8 arg9 harg9 arg10 harg10 arg11 harg11 hc0 x0 x1 x2 x3 x4 x5 x6 xs0).2.2.1 = kept x1 x2 x4 xs0 := by
  unfold kernelRun0_B
  dsimp only
  sl_unfold_words
  simp (disch := decide) only [read_at arg2, read_at arg3, read_at arg4, read_at arg5, read_at arg6, read_at arg7, read_at arg11]
  exact ⟨rfl, rfl⟩
end

end Cert.GatedPromptIdeal.Heads
-- ==== Proof.GatedPromptSpec.lean ====
module

public import proofs.«01_k».proof.Proof.GatedSpec

/-! The state the gated recurrence leaves of a long sequence: one sum over its positions, reached chunk by chunk. -/

@[expose] public section

noncomputable section

open Idealize.ShloMosaic
open scoped BigOperators

namespace Cert.Gated

/-- A sum of real numbers among the extended ones. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A real factor that is not negative moves into a sum. -/
theorem real_mul_sum {ι : Type} (s : Finset ι) (r : ℝ) (hr : 0 ≤ r) (f : ι → EReal) : (r : EReal) * ∑ x ∈ s, f x = ∑ x ∈ s, r * f x := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

/-- The weights' sum up to a position, each under the gates that follow it. -/
def decayed (w : ℕ → EReal) (g : ℕ → ℝ) (k : ℕ) : EReal :=
  ∑ t ∈ Finset.range k, w t * ((Real.exp (∑ y ∈ Finset.Ico (t + 1) k, g y) : ℝ) : EReal)

/-- Further positions put the sum so far under their own gates and add their own weights. -/
theorem decayed_add (w : ℕ → EReal) (g : ℕ → ℝ) (k n : ℕ) : decayed w g (k + n)
    = ((Real.exp (∑ y ∈ Finset.range n, g (k + y)) : ℝ) : EReal) * decayed w g k
      + ∑ x ∈ Finset.range n, w (k + x) * ((Real.exp (∑ y ∈ Finset.Ico (x + 1) n, g (k + y)) : ℝ) : EReal) := by
  have hs : ∀ a b : ℕ, ∑ y ∈ Finset.Ico a b, g (k + y) = ∑ y ∈ Finset.Ico (k + a) (k + b), g y := fun a b => by
    rw [Finset.sum_Ico_add, Nat.add_comm a, Nat.add_comm b]
  unfold decayed
  rw [Finset.sum_range_add, real_mul_sum _ _ (Real.exp_pos _).le]
  refine congrArg₂ (· + ·) (Finset.sum_congr rfl fun t ht => ?_) (Finset.sum_congr rfl fun x _ => ?_)
  · have ht' : t + 1 ≤ k := Finset.mem_range.mp ht
    rw [Finset.range_eq_Ico, hs, Nat.add_zero, ← Finset.sum_Ico_consecutive g ht' (Nat.le_add_right k n), Real.exp_add, EReal.coe_mul,
      ← mul_assoc, mul_comm]
    simp only [Nat.add_zero]
  · rw [hs, Nat.add_assoc]

section
variable {n : ℕ} (z v : Fin n → Fin 128 → EReal) (lb : Fin 128 → EReal) (s : Fin 128 → Fin 128 → EReal) (d : Fin 128)
  (g : ℕ → ℝ) (hg : ∀ x : Fin n, gate z lb x d = (g x.val : EReal))
include hg

theorem cum_eq (t : Fin n) : cum z lb t d = ((∑ y ∈ Finset.range (t.val + 1), g y : ℝ) : EReal) := by
  have e : ∀ x : Fin n, (if x ≤ t then gate z lb x d else 0) = (((if x.val ∈ Finset.range (t.val + 1) then g x.val else 0 : ℝ)) : EReal) := fun x => by
    by_cases h : x ≤ t
    · rw [if_pos h, if_pos (Finset.mem_range.mpr (Nat.lt_succ_of_le h)), hg]
    · rw [if_neg h, if_neg fun h' => h (Nat.le_of_lt_succ (Finset.mem_range.mp h'))]; rfl
  unfold cum
  rw [Finset.sum_congr rfl fun x _ => e x, ← coe_sum, Fin.sum_univ_eq_sum_range (fun k => if k ∈ Finset.range (t.val + 1) then g k else 0) n,
    ← Finset.sum_filter]
  refine congrArg _ (Finset.sum_congr (Finset.ext fun k => ?_) fun _ _ => rfl)
  have := t.isLt
  simp only [Finset.mem_filter, Finset.mem_range]
  omega

/-- The state left of positions whose gates are real. -/
theorem left_eq (l : Fin n) (hl : l.val + 1 = n) (e : Fin 128) (w : ℕ → EReal) (hw : ∀ x : Fin n, v x e * key z lb x d = w x.val) :
    left z v lb s l e d = ((Real.exp (∑ y ∈ Finset.range n, g y) : ℝ) : EReal) * s e d
      + ∑ x ∈ Finset.range n, w x * ((Real.exp (∑ y ∈ Finset.Ico (x + 1) n, g y) : ℝ) : EReal) := by
  unfold left
  rw [cum_eq z lb d g hg l, hl, Ideal.exp_coe, ← Fin.sum_univ_eq_sum_range (fun x => w x * ((Real.exp (∑ y ∈ Finset.Ico (x + 1) n, g y) : ℝ) : EReal)) n]
  refine congrArg _ (Finset.sum_congr rfl fun x _ => ?_)
  rw [cum_eq z lb d g hg x, ← EReal.coe_sub, Ideal.exp_coe, ← mul_assoc, hw, Finset.sum_Ico_eq_sub _ (Nat.succ_le_of_lt x.isLt)]
end

section
variable (z v : Fin 2048 → Fin 128 → EReal) (lb : Fin 128 → EReal) (e d : Fin 128)

/-- A position's gate and weight, none past the end. -/
def gateOf (k : ℕ) : ℝ := if h : k < 2048 then (gate z lb ⟨k, h⟩ d).toReal else 0
def weightOf (k : ℕ) : EReal := if h : k < 2048 then v ⟨k, h⟩ e * key z lb ⟨k, h⟩ d else 0

theorem weightOf_eq (t : Fin 2048) : v t e * key z lb t d = weightOf z v lb e d t.val := by
  unfold weightOf
  rw [dif_pos t.isLt]

/-- The state left of the first positions. -/
def upto (k : ℕ) : EReal := decayed (weightOf z v lb e d) (gateOf z lb d) k

/-- The state left of the whole sequence. -/
def whole : EReal :=
  ∑ t : Fin 2048, v t e * (key z lb t d * Ideal.exp (∑ y : Fin 2048, if t < y then gate z lb y d else 0))

/-- One chunk's positions. -/
abbrev chunk (f : Fin 2048 → Fin 128 → EReal) (k : Fin 32) (x : Fin 64) (d : Fin 128) : EReal := f ⟨64 * k.val + x.val, by omega⟩ d

theorem upto_zero : upto z v lb e d 0 = 0 := by
  simp [upto, decayed]

variable (hlb : ∀ d : Fin 128, ∃ r : ℝ, lb d = r)
include hlb

theorem gateOf_eq (t : Fin 2048) : gate z lb t d = (gateOf z lb d t.val : EReal) := by
  obtain ⟨r, hr⟩ := gate_real z lb t d (hlb d)
  unfold gateOf
  rw [dif_pos t.isLt, hr]
  exact (EReal.toReal_coe r).symm ▸ rfl

/-- A chunk carries the state on. -/
theorem upto_chunk (k : Fin 32) (s : Fin 128 → Fin 128 → EReal) (hs : s e d = upto z v lb e d (64 * k.val)) :
    left (chunk z k) (chunk v k) lb s 63 e d = upto z v lb e d (64 * (k.val + 1)) := by
  rw [left_eq (chunk z k) (chunk v k) lb s d (fun y => gateOf z lb d (64 * k.val + y)) (fun x => gateOf_eq z lb d hlb ⟨64 * k.val + x.val, by omega⟩)
    63 rfl e (fun x => weightOf z v lb e d (64 * k.val + x)) (fun x => weightOf_eq z v lb e d ⟨64 * k.val + x.val, by omega⟩), hs, Nat.mul_add]
  exact (decayed_add _ _ _ _).symm

theorem whole_eq : whole z v lb e d = upto z v lb e d 2048 := by
  unfold whole upto decayed
  rw [← Fin.sum_univ_eq_sum_range (fun t => weightOf z v lb e d t * ((Real.exp (∑ y ∈ Finset.Ico (t + 1) 2048, gateOf z lb d y) : ℝ) : EReal)) 2048]
  refine Finset.sum_congr rfl fun t _ => ?_
  have e1 : ∀ y : Fin 2048, (if t < y then gate z lb y d else 0) = (((if y.val ∈ Finset.Ico (t.val + 1) 2048 then gateOf z lb d y.val else 0 : ℝ)) : EReal) := fun y => by
    by_cases h : t < y
    · rw [if_pos h, if_pos (Finset.mem_Ico.mpr ⟨h, y.isLt⟩), gateOf_eq z lb d hlb]
    · rw [if_neg h, if_neg fun h' => h (Finset.mem_Ico.mp h').1]; rfl
  rw [Finset.sum_congr rfl fun y _ => e1 y, ← coe_sum,
    Fin.sum_univ_eq_sum_range (fun k => if k ∈ Finset.Ico (t.val + 1) 2048 then gateOf z lb d k else 0) 2048, ← Finset.sum_filter, Ideal.exp_coe, ← mul_assoc]
  have e2 : (Finset.range 2048).filter (fun k => k ∈ Finset.Ico (t.val + 1) 2048) = Finset.Ico (t.val + 1) 2048 := Finset.ext fun k => by
    simp only [Finset.mem_filter, Finset.mem_range, Finset.mem_Ico]
    omega
  rw [e2]
  rw [weightOf_eq]
end

end Cert.Gated
-- ==== Proof.GatedPromptEntries.lean ====
module

public import proofs.«01_k».proof.Proof.GatedPromptRows
public import proofs.«01_k».proof.Proof.GatedPromptSpec

/-! A head's carried state, entry by entry: one chunk's plain sums, the lower bounds finite. -/

@[expose] public section

noncomputable section

open Idealize.ShloMosaic Idealize.ShloMosaic.TcCoe Idealize.SL.Sem
open scoped BigOperators

namespace Cert.GatedPromptIdeal.Heads

open Cert.GatedPromptIdeal Cert.GatedPromptIdeal.Gen Cert.GatedPromptIdeal.Value

theorem at_or_before (t x : Fin 64) : IntOp.cmpi .sge (BitVec.ofNat 32 t.val) (BitVec.ofNat 32 x.val) = BitVec.ofBool (decide (x ≤ t)) :=
  WordCmp.cmpi_sge_ofNat (by have := t.isLt; omega) (by have := x.isLt; omega)
theorem select_bool (p : Prop) [Decidable p] (a b : EReal) : Scalar.select (BitVec.ofBool (decide p)) a b = if p then a else b := by
  by_cases h : p <;> simp [h, Scalar.select]

/-- A chunk's rows as a function of position and lane; a single row as one of the lane; a state as one of value and key. -/
abbrev cols (x : Vec Ideal S1x64x128 .f32) (t : Fin 64) (d : Fin 128) : EReal := x (ix3 0 t d)
abbrev lane (x : Vec Ideal S1x1x128 .f32) (d : Fin 128) : EReal := x (ix3 0 0 d)
abbrev square (x : Vec Ideal S1x128x128 .f32) (e d : Fin 128) : EReal := x (ix3 0 e d)

section
variable (z v : Vec Ideal S1x64x128 .f32) (lb : Vec Ideal S1x1x128 .f32) (s : Vec Ideal S1x128x128 .f32)

theorem gate_apply (t : Fin 64) (d : Fin 128) : k0_pay7 lb z (ix2 t d) = Gated.gate (cols z) (lane lb) t d := by
  pointwise [k0_pay7, k0_pay6]
  rfl
theorem key_apply (t : Fin 64) (d : Fin 128) : k0_pay8 lb z (ix2 t d) = Gated.key (cols z) (lane lb) t d := by
  pointwise [k0_pay8, k0_pay6]
  rfl

variable (hlb : ∀ d : Fin 128, ∃ r : ℝ, lane lb d = r)
include hlb

theorem sums_apply (t : Fin 64) (d : Fin 128) : sums lb z (ix2 t d) = Gated.cum (cols z) (lane lb) t d := by
  pointwise [sums, k0_pay13, k0_pay3, k0_pay9, k0_pay10, k0_pay11, k0_pay12]
  have e : ∀ x : Fin 64, Gated.gate (cols z) (lane lb) x d - Gated.gate (cols z) (lane lb) x d = 0 := fun x => Gated.gate_sub _ _ x d (hlb d)
  simp only [gate_apply, e, at_or_before, select_bool, sub_zero, ite_self, Finset.sum_const_zero, add_zero]
  rfl

theorem left_apply (e d : Fin 128) : k0_pay141 (k0_pay5 v) (k0_pay8 lb z) (sums lb z) (k0_pay14 s) (ix2 e d)
    = Gated.left (cols z) (cols v) (lane lb) (square s) 63 e d := by
  pointwise [k0_pay141, k0_pay14, k0_pay5]
  simp only [key_apply, sums_apply z lb hlb]
  rfl
theorem state_apply (e d : Fin 128) : state z v lb s (ix4 0 0 e d) = Gated.left (cols z) (cols v) (lane lb) (square s) 63 e d := by
  pointwise [state, k0_pay143]
  exact left_apply z v lb s hlb e d
theorem carry_apply (e d : Fin 128) : carry z v lb s (ix3 0 e d) = Gated.left (cols z) (cols v) (lane lb) (square s) 63 e d := by
  pointwise [carry, k0_pay142]
  exact left_apply z v lb s hlb e d
end

end Cert.GatedPromptIdeal.Heads
-- ==== Proof.GatedPromptRef.lean ====
module

public import proofs.«01_k».proof.Defs
public import proofs.«01_k».proof.Proof.GatedPromptSpec
public import proofs.«01_k».proof.Proof.Gen.GatedPromptRefIdeal.Read
public import Idealize.ShloMosaic.Lib.WordCmp
public import Idealize.ShloMosaic.Lib.Pipeline.ValueKit
public import Idealize.ShloMosaic.Lib.Pointwise

/-! The plain recurrence's state after the prompt, entry by entry: one head's plain sums. -/

@[expose] public section

noncomputable section

open Idealize.ShloMosaic Idealize.ShloMosaic.TcCoe Idealize.SL.Sem
open scoped BigOperators

namespace Cert.GatedPromptRefIdeal.Heads

open Cert.GatedPromptRefIdeal Cert.GatedPromptRefIdeal.Gen Cert.GatedPromptRefIdeal.Read

variable (x0 : (⟨S8x2048x3560, .f32⟩ : BufTy).Contents (Elt Ideal)) (x1 : (⟨S512, .f32⟩ : BufTy).Contents (Elt Ideal))
  (b : Fin 8) (h : Fin 4)

/-- A head's columns of one of the parts of the projection's rows; its lower bounds. -/
abbrev cols (p : Fin 4) (t : Fin 2048) (d : Fin 128) : EReal := x0 (ix3 b t ⟨512 * p.val + (128 * h.val + d.val), by omega⟩)
abbrev bound (d : Fin 128) : EReal := x1 (ix1 ⟨128 * h.val + d.val, by omega⟩)

theorem gate_apply (t : Fin 2048) (d : Fin 128) :
    val_main_v32 (F := Ideal) x0 x1 (ix4 b h t d) = Gated.gate (cols x0 b h 1) (bound x1 h) t d := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v1, val_main_cst, val_main_cst_0, val_main_cst_1, val_main_cst_2]
  simp only [Nat.mul_comm h.val 128]
  rfl

theorem key_apply (t : Fin 2048) (d : Fin 128) :
    val_main_v35 (F := Ideal) x0 x1 (ix4 b h t d) = Gated.key (cols x0 b h 1) (bound x1 h) t d := by
  pointwise [val_main_v35, val_main_v34, val_main_v33, val_main_cst_3, val_main_v28, val_main_v27, val_main_v26, val_main_v25, val_main_v24, val_main_v23, val_main_v22, val_main_v21, val_main_v20, val_main_v19, val_main_v18, val_main_v17, val_main_v16, val_main_v15, val_main_v14, val_main_v13, val_main_v1, val_main_cst, val_main_cst_0, val_main_cst_1]
  simp only [Nat.mul_comm h.val 128]
  rfl

theorem value_apply (t : Fin 2048) (d : Fin 128) : val_main_v37 (F := Ideal) x0 (ix4 b h t d) = cols x0 b h 2 t d := by
  pointwise [val_main_v37, val_main_v36, val_main_v2]
  simp only [Nat.mul_comm h.val 128]
  rfl

theorem before (t y : Fin 2048) : IntOp.cmpi .slt (BitVec.ofNat 32 t.val) (BitVec.ofNat 32 y.val) = BitVec.ofBool (decide (t < y)) :=
  WordCmp.cmpi_slt_ofNat (by have := t.isLt; omega) (by have := y.isLt; omega)

/-- The mask: one for a later position. -/
theorem later_apply (t y : Fin 2048) : val_main_v44 (F := Ideal) (ix2 t y) = if t < y then (1 : EReal) else 0 := by
  pointwise [val_main_v44, val_main_v43, val_main_v42, val_main_v41, val_main_v40, val_main_v39, val_main_v38, val_main_call0_v0, val_main_call0_v1, val_main_cst_4, val_main_cst_5]
  simp only [before]
  by_cases p : t < y <;> simp [p, Scalar.select]

theorem state_apply (e d : Fin 128) : val_main_v49 (F := Ideal) x0 x1 (ix4 b h e d)
    = Gated.whole (cols x0 b h 1) (cols x0 b h 2) (bound x1 h) e d := by
  pointwise [val_main_v49, val_main_v48, val_main_v47, val_main_v46, val_main_v45]
  simp only [key_apply, value_apply, gate_apply, later_apply, mul_ite, mul_one, mul_zero]
  rfl

end Cert.GatedPromptRefIdeal.Heads
-- ==== Proof.GatedPromptValue.lean ====
module

public import proofs.«01_k».proof.Proof.GatedPromptEntries
public import proofs.«01_k».proof.Proof.GatedPromptRef
public import proofs.«01_k».proof.Proof.GatedValue
public import proofs.«01_k».proof.Pre_prompt_bounds_finite

/-! The state the prompt's recurrence leaves is the plain one of its arguments, the lower bounds finite. -/

@[expose] public section

noncomputable section

open Idealize.ShloMosaic Idealize.ShloMosaic.TcCoe Idealize.SL.Sem
open Idealize.ShloMosaic.Pipeline (Dat)
open scoped BigOperators

namespace Cert.Pre_prompt_bounds_finite

/-- The shape relations of the precondition's operations. -/
theorem facts : Cert.Pre_prompt_bounds_finite.Facts where
  bcast_S_S512 := by decide
  reducesTo_S512_S_d0 := by decide
  h_S_ := by decide

variable [Facts]

theorem bounds_real (x0 : FVec Ideal S8x2048x3560 .f32) (x1 : FVec Ideal S512 .f32) (x2 : FVec Ideal S4x128 .f32)
    (h : fn (F := Ideal) x0 x1 x2 = fun _ => 1#1) : ∀ j, ∃ r : ℝ, x1 j = (r : EReal) := by
  have h' := congrFun h (fun k => k.elim0)
  unfold fn at h'
  exact Cert.Pre_finite.real_of_all x1 _ _ _ h'

end Cert.Pre_prompt_bounds_finite

namespace Cert.GatedPromptIdeal.Heads

open Cert.GatedPromptIdeal Cert.GatedPromptIdeal.Gen Cert.GatedPromptIdeal.Value
open Cert.GatedIdeal.Heads (hlane ld_lane emb_square)

/-- A head's columns of a chunk's block, and its state among the carried ones. -/
def hcols (x : Vec Ideal S1x64x512 .f32) (h : Fin 4) (t : Fin 64) (d : Fin 128) : EReal := x (ix3 0 t ⟨128 * h.val + d.val, by omega⟩)
def hstate (s : Vec Ideal S4x128x128 .f32) (h : Fin 4) (e d : Fin 128) : EReal := s (ix3 h e d)

section
variable (h : Fin 4)

theorem ld_cols (x : Vec Ideal S1x64x512 .f32) (o : Fin 3 → ℕ) (ho : o = ![0, 0, 128 * h.val]) (inb) :
    cols (View.ld x (Rect.unit (s := S1x64x512) o S1x64x128.size inb)) = hcols x h := by
  subst ho
  funext t d
  refine View.ld_unit_apply_of x _ _ _ _ _ fun a => ?_
  match a with
  | ⟨0, _⟩ => rfl
  | ⟨1, _⟩ => exact (Nat.zero_add _).symm
  | ⟨2, _⟩ => rfl

theorem ld_square (s : Vec Ideal S4x128x128 .f32) (o : Fin 3 → ℕ) (ho : o = ![h.val, 0, 0]) (inb) :
    square (View.ld s (Rect.unit (s := S4x128x128) o S1x128x128.size inb)) = hstate s h := by
  subst ho
  funext e d
  refine View.ld_unit_apply_of s _ _ _ _ (ix3 h e d) fun a => ?_
  match a with
  | ⟨0, _⟩ => rfl
  | ⟨1, _⟩ => exact (Nat.zero_add _).symm
  | ⟨2, _⟩ => exact (Nat.zero_add _).symm

theorem emb_kept (o : Fin 3 → ℕ) (ho : o = ![h.val, 0, 0]) (inb) (e d : Fin 128) :
    (Rect.unit (s := S4x128x128) o S1x128x128.size inb).emb (ix3 0 e d) = ix3 h e d := by
  subst ho
  refine funext fun a => Fin.ext ?_
  rw [Rect.emb_apply]
  match a with
  | ⟨0, _⟩ => simp
  | ⟨1, _⟩ => simp
  | ⟨2, _⟩ => simp
end

section
variable (x1 x2 : Vec Ideal S1x64x512 .f32) (x4 : Vec Ideal S4x1x128 .f32) (s : Vec Ideal S4x128x128 .f32)

/-- A head's state after a chunk. -/
def next (h : Fin 4) (e d : Fin 128) : EReal := Gated.left (hcols x1 h) (hcols x2 h) (hlane x4 h) (hstate s h) 63 e d

variable (hlb : ∀ (h : Fin 4) (d : Fin 128), ∃ r : ℝ, hlane x4 h d = r)
include hlb

theorem shown_piece (h : Fin 4) (w : Fin 4 → ℕ) (hw : w = ![0, h.val, 0, 0]) (iw) (o : Fin 3 → ℕ) (ho : o = ![0, 0, 128 * h.val]) (ib)
    (p : Fin 3 → ℕ) (hp : p = ![h.val, 0, 0]) (i4) (i6) (x : S1x1x128x128.Idx) :
    state (View.ld x1 (Rect.unit (s := S1x64x512) o S1x64x128.size ib)) (View.ld x2 (Rect.unit (s := S1x64x512) o S1x64x128.size ib))
      (View.ld x4 (Rect.unit (s := S4x1x128) p S1x1x128.size i4)) (View.ld s (Rect.unit (s := S4x128x128) p S1x128x128.size i6)) x
      = (fun y : S1x4x128x128.Idx => next x1 x2 x4 s (y 1) (y 2) (y 3)) ((Rect.unit (s := S1x4x128x128) w S1x1x128x128.size iw).emb x) := by
  obtain ⟨e, d, rfl⟩ : ∃ (e d : Fin 128), x = ix4 0 0 e d :=
    ⟨x 2, x 3, (ValueIdx.eq_ix4 x).trans (congrArg₂ (fun a b => ix4 a b (x 2) (x 3)) (Subsingleton.elim (α := Fin 1) _ _) (Subsingleton.elim (α := Fin 1) _ _))⟩
  have l := ld_lane h x4 p hp i4
  rw [emb_square h w hw iw e d, state_apply _ _ _ _ (fun d => (hlb h d).imp fun _ q => (congrFun l d).trans q), ld_square h s p hp i6, ld_cols h x1 o ho ib, ld_cols h x2 o ho ib]
  exact congrArg (fun b => Gated.left (hcols x1 h) (hcols x2 h) b (hstate s h) 63 e d) l

theorem kept_piece (h : Fin 4) (o : Fin 3 → ℕ) (ho : o = ![0, 0, 128 * h.val]) (ib)
    (p : Fin 3 → ℕ) (hp : p = ![h.val, 0, 0]) (i4) (i6) (x : S1x128x128.Idx) :
    carry (View.ld x1 (Rect.unit (s := S1x64x512) o S1x64x128.size ib)) (View.ld x2 (Rect.unit (s := S1x64x512) o S1x64x128.size ib))
      (View.ld x4 (Rect.unit (s := S4x1x128) p S1x1x128.size i4)) (View.ld s (Rect.unit (s := S4x128x128) p S1x128x128.size i6)) x
      = (fun y : S4x128x128.Idx => next x1 x2 x4 s (y 0) (y 1) (y 2)) ((Rect.unit (s := S4x128x128) p S1x128x128.size i6).emb x) := by
  obtain ⟨e, d, rfl⟩ : ∃ (e d : Fin 128), x = ix3 0 e d :=
    ⟨x 1, x 2, (ValueIdx.eq_ix3 x).trans (congrArg (fun a => ix3 a (x 1) (x 2)) (Subsingleton.elim (α := Fin 1) _ _))⟩
  have l := ld_lane h x4 p hp i4
  rw [emb_kept h p hp i6 e d, carry_apply _ _ _ _ (fun d => (hlb h d).imp fun _ q => (congrFun l d).trans q), ld_square h s p hp i6, ld_cols h x1 o ho ib, ld_cols h x2 o ho ib]
  exact congrArg (fun b => Gated.left (hcols x1 h) (hcols x2 h) b (hstate s h) 63 e d) l

/-- The output's block, and the scratch, read back. -/
theorem shown_read (L) (hL : L = shown x1 x2 x4 s) (f) (y : S1x4x128x128.Idx) :
    VO0_8.read (Elt Ideal) (VO0_8.writes (Elt Ideal) f L) y = next x1 x2 x4 s (y 1) (y 2) (y 3) := by
  subst hL
  refine View.read_writes_apply_of_pieces _ _ (fun y : S1x4x128x128.Idx => next x1 x2 x4 s (y 1) (y 2) (y 3)) _ (fun p hp x => ?_) y
    (View.cover_of_tiledL (shown x1 x2 x4 s) S1x1x128x128.size (by sl_kernel_rfl) y)
  simp only [shown, List.mem_cons, List.not_mem_nil, or_false] at hp
  rcases hp with rfl | rfl | rfl | rfl
  · exact shown_piece x1 x2 x4 s hlb 3 _ rfl inb_S1x4x128x128_S1x1x128x128_0_3_0_0 _ rfl _ _ rfl _ _ x
  · exact shown_piece x1 x2 x4 s hlb 2 _ rfl inb_S1x4x128x128_S1x1x128x128_0_2_0_0 _ rfl _ _ rfl _ _ x
  · exact shown_piece x1 x2 x4 s hlb 1 _ rfl inb_S1x4x128x128_S1x1x128x128_0_1_0_0 _ rfl _ _ rfl _ _ x
  · exact shown_piece x1 x2 x4 s hlb 0 _ rfl inb_S1x4x128x128_S1x1x128x128_0_0_0_0 _ rfl _ _ rfl _ _ x
theorem kept_read (L L') (hL : L = kept x1 x2 x4 s ++ L') (f) (y : S4x128x128.Idx) :
    VS0_0.read (Elt Ideal) (VS0_0.writes (Elt Ideal) f L) y = next x1 x2 x4 s (y 0) (y 1) (y 2) := by
  rw [hL, View.writes_append]
  refine View.read_writes_apply_of_pieces _ _ (fun y : S4x128x128.Idx => next x1 x2 x4 s (y 0) (y 1) (y 2)) _ (fun p hp x => ?_) y
    (View.cover_of_tiledL (kept x1 x2 x4 s) S1x128x128.size (by sl_kernel_rfl) y)
  simp only [kept, List.mem_cons, List.not_mem_nil, or_false] at hp
  rcases hp with rfl | rfl | rfl | rfl
  · exact kept_piece x1 x2 x4 s hlb 3 _ rfl _ _ rfl _ _ x
  · exact kept_piece x1 x2 x4 s hlb 2 _ rfl _ _ rfl _ _ x
  · exact kept_piece x1 x2 x4 s hlb 1 _ rfl _ _ rfl _ _ x
  · exact kept_piece x1 x2 x4 s hlb 0 _ rfl _ _ rfl _ _ x
end

section
variable (c : Dev nD) (i : grid0.Coords) (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S1x4x128x128 .f32) (harg8 : arg8.IsWhole) (arg9 : Memref sig .tc .vmem S1x64x512 .f32) (harg9 : arg9.IsWhole) (arg10 : Memref sig .tc .vmem S1x4x128x128 .f32) (harg10 : arg10.IsWhole) (arg11 : Memref sig .tc .vmem S4x128x128 .f32) (harg11 : arg11.IsWhole)
    (x0 x1 x2 x3 : Vec Ideal S1x64x512 .f32) (x4 x5 : Vec Ideal S4x1x128 .f32) (x6 : Vec Ideal S1x4x128x128 .f32) (xs0 : Vec Ideal S4x128x128 .f32)
    (hlb : ∀ (h : Fin 4) (d : Fin 128), ∃ r : ℝ, hlane x4 h d = r)
include hlb

theorem first (hc0 : cond0_0 i) (h : Fin 4) (e d : Fin 128) :
    out0_A_8 c i arg2 harg2 arg3 harg3 arg4 harg4 arg5 harg5 arg6 harg6 arg7 harg7 arg8 harg8 arg9 harg9 arg10 harg10 arg11 harg11 hc0 x0 x1 x2 x3 x4 x5 x6 (ix4 0 h e d) = next x1 x2 x4 (k0_pay2 x6) h e d
    ∧ sout0_A_0 c i arg2 harg2 arg3 harg3 arg4 harg4 arg5 harg5 arg6 harg6 arg7 harg7 arg8 harg8 arg9 harg9 arg10 harg10 arg11 harg11 hc0 x0 x1 x2 x3 x4 x5 x6 (ix3 h e d) = next x1 x2 x4 (k0_pay2 x6) h e d := by
  unfold out0_A_8 sout0_A_0
  obtain ⟨p, q⟩ := stored_A c i arg2 harg2 arg3 harg3 arg4 harg4 arg5 harg5 arg6 harg6 arg7 harg7 arg8 harg8 arg9 harg9 arg10 harg10 arg11 harg11 x0 x1 x2 x3 x4 x5 x6 hc0
  exact ⟨shown_read x1 x2 x4 _ hlb _ p _ (ix4 0 h e d), kept_read x1 x2 x4 _ hlb _ _ q _ (ix3 h e d)⟩

theorem later (hc0 : ¬cond0_0 i) (h : Fin 4) (e d : Fin 128) :
    out0_B_8 c i arg2 harg2 arg3 harg3 arg4 harg4 arg5 harg5 arg6 harg6 arg7 harg7 arg8 harg8 arg9 harg9 arg10 harg10 arg11 harg11 hc0 x0 x1 x2 x3 x4 x5 x6 xs0 (ix4 0 h e d) = next x1 x2 x4 xs0 h e d
    ∧ sout0_B_0 c i arg2 harg2 arg3 harg3 arg4 harg4 arg5 harg5 arg6 harg6 arg7 harg7 arg8 harg8 arg9 harg9 arg10 harg10 arg11 harg11 hc0 x0 x1 x2 x3 x4 x5 x6 xs0 (ix3 h e d) = next x1 x2 x4 xs0 h e d := by
  unfold out0_B_8 sout0_B_0
  obtain ⟨p, q⟩ := stored_B c i arg2 harg2 arg3 harg3 arg4 harg4 arg5 harg5 arg6 harg6 arg7 harg7 arg8 harg8 arg9 harg9 arg10 harg10 arg11 harg11 x0 x1 x2 x3 x4 x5 x6 xs0 hc0
  exact ⟨shown_read x1 x2 x4 _ hlb _ p _ (ix4 0 h e d), kept_read x1 x2 x4 _ hlb _ _ (q.trans (List.append_nil _).symm) _ (ix3 h e d)⟩
end

variable (m : (ℓ : Loc nD τ sig) → Buf (Elt Ideal) ℓ) (c : Dev nD)

theorem idx1 : ∀ t : Fin cfg0.N, win0_1.index t = ![t.val / 32, t.val % 32, 1] := (by decide +kernel : ∀ t : Fin grid0.N, _)
theorem idx2 : ∀ t : Fin cfg0.N, win0_2.index t = ![t.val / 32, t.val % 32, 2] := (by decide +kernel : ∀ t : Fin grid0.N, _)
theorem idx4 : ∀ t : Fin cfg0.N, win0_4.index t = ![0, 0, 0] := (by decide +kernel : ∀ t : Fin grid0.N, _)
theorem idx6 : ∀ t : Fin cfg0.N, win0_6.index t = ![t.val / 32, 0, 0, 0] := (by decide +kernel : ∀ t : Fin grid0.N, _)
theorem idx8 : ∀ t : Fin cfg0.N, win0_8.index t = ![t.val / 32, 0, 0, 0] := (by decide +kernel : ∀ t : Fin grid0.N, _)

theorem lt_points (t : Fin cfg0.N) : t.val < 256 := lt_of_lt_of_eq t.isLt N_0

/-- A point's batch and chunk. -/
def batch (t : Fin cfg0.N) : Fin 8 := ⟨t.val / 32, by have := lt_points t; omega⟩
def part (t : Fin cfg0.N) : Fin 32 := ⟨t.val % 32, Nat.mod_lt _ (by omega)⟩

theorem entry_lb (h : Fin 4) (d : Fin 128) : V m c main_v2 (ix3 h 0 d)
    = Cert.GatedPromptRefIdeal.Heads.bound (m ((c : Thread nD τ).loc main_arg1)) h d := by
  entry_read
  pointwise []
  simp only [Nat.mul_comm h.val 128]
theorem entry_s (b : Fin 8) (h : Fin 4) (e d : Fin 128) : V m c main_v4 (ix4 b h e d) = (0 : EReal) := by
  entry_read
  pointwise []

/-- The blocks of a point's gates and values: a chunk of its batch's columns. -/
theorem read_rows (t : Fin cfg0.N) (h : Fin 4) :
    hcols (X0_1 m c t) h = Gated.chunk (Cert.GatedPromptRefIdeal.Heads.cols (m ((c : Thread nD τ).loc main_arg0)) (batch t) h 1) (part t)
    ∧ hcols (X0_2 m c t) h = Gated.chunk (Cert.GatedPromptRefIdeal.Heads.cols (m ((c : Thread nD τ).loc main_arg0)) (batch t) h 2) (part t) := by
  refine ⟨funext₂ fun s d => ?_, funext₂ fun s d => ?_⟩
  · unfold hcols X0_1 Pipeline.Window.fill batch part
    rw [dif_pos (moved0_1 t _)]
    blk_simp [iblk, V_main_arg0]
    refine congrArg _ ?_
    blk_ext [idx1]
  · unfold hcols X0_2 Pipeline.Window.fill batch part
    rw [dif_pos (moved0_2 t _)]
    blk_simp [iblk, V_main_arg0]
    refine congrArg _ ?_
    blk_ext [idx2]

theorem read_lb (t : Fin cfg0.N) (h : Fin 4) : hlane (iblk m c 4 t) h = Cert.GatedPromptRefIdeal.Heads.bound (m ((c : Thread nD τ).loc main_arg1)) h := by
  funext d
  unfold hlane
  blk_simp [iblk]
  rw [← entry_lb m c h d]
  refine congrArg _ ?_
  blk_ext [idx4]
theorem read_s (t : Fin cfg0.N) (h : Fin 4) (e d : Fin 128) : hstate (k0_pay2 (iblk m c 6 t)) h e d = 0 := by
  unfold hstate
  pointwise [k0_pay2]
  blk_simp [iblk]
  refine Eq.trans ?_ (entry_s m c (batch t) h e d)
  refine congrArg _ ?_
  unfold batch
  blk_ext [idx6]

/-- The state of a batch's head after its first positions. -/
def upto (b : Fin 8) (h : Fin 4) (e d : Fin 128) (k : ℕ) : EReal :=
  Gated.upto (Cert.GatedPromptRefIdeal.Heads.cols (m ((c : Thread nD τ).loc main_arg0)) b h 1) (Cert.GatedPromptRefIdeal.Heads.cols (m ((c : Thread nD τ).loc main_arg0)) b h 2)
    (Cert.GatedPromptRefIdeal.Heads.bound (m ((c : Thread nD τ).loc main_arg1)) h) e d k

section
variable (hlb : ∀ j, ∃ r : ℝ, m ((c : Thread nD τ).loc main_arg1) j = (r : EReal))
include hlb

theorem lane_real (t : Fin cfg0.N) (h : Fin 4) (d : Fin 128) : ∃ r : ℝ, hlane (iblk m c 4 t) h d = r := by
  rw [read_lb]
  exact hlb _

/-- A point carries on the state of the positions before its chunk. -/
theorem next_upto (t : Fin cfg0.N) (s : Vec Ideal S4x128x128 .f32) (h : Fin 4) (e d : Fin 128)
    (hs : hstate s h e d = upto m c (batch t) h e d (64 * (part t).val)) :
    next (X0_1 m c t) (X0_2 m c t) (iblk m c 4 t) s h e d = upto m c (batch t) h e d (64 * ((part t).val + 1)) := by
  obtain ⟨q1, q2⟩ := read_rows m c t h
  unfold next
  rw [q1, q2, read_lb]
  exact Gated.upto_chunk _ _ _ e d (fun d => hlb _) (part t) _ hs

/-- After a point the output's block and the scratch both hold the state of the positions up to the end of its chunk. -/
theorem carried (n : ℕ) : ∀ (hn : n < cfg0.N) (h : Fin 4) (e d : Fin 128),
    (outsAt0 m c n hn).2.1 (ix4 0 h e d) = upto m c (batch ⟨n, hn⟩) h e d (64 * ((part ⟨n, hn⟩).val + 1))
    ∧ (outsAt0 m c n hn).2.2 (ix3 h e d) = upto m c (batch ⟨n, hn⟩) h e d (64 * ((part ⟨n, hn⟩).val + 1)) := by
  induction n with
  | zero =>
    intro hn h e d
    have z := next_upto m c hlb ⟨0, hn⟩ (k0_pay2 (iblk m c 6 ⟨0, hn⟩)) h e d ((read_s m c ⟨0, hn⟩ h e d).trans (Gated.upto_zero _ _ _ e d).symm)
    have f := outsAt0_A m c ⟨0, hn⟩ rfl
    dsimp only at f
    rw [f]
    dsimp only
    rw [← z]
    exact first (hlb := lane_real m c hlb ⟨0, hn⟩) ..
  | succ n ih =>
    intro hn h e d
    by_cases h0 : (n + 1) % 32 = 0
    · have hp : (part ⟨n + 1, hn⟩).val = 0 := h0
      have z := next_upto m c hlb ⟨n + 1, hn⟩ (k0_pay2 (iblk m c 6 ⟨n + 1, hn⟩)) h e d ((read_s m c ⟨n + 1, hn⟩ h e d).trans (by
        rw [hp]; exact (Gated.upto_zero _ _ _ e d).symm))
      have f := outsAt0_A m c ⟨n + 1, hn⟩ h0
      dsimp only at f
      rw [f]
      dsimp only
      rw [← z]
      exact first (hlb := lane_real m c hlb ⟨n + 1, hn⟩) ..
    · have hb : batch ⟨n + 1, hn⟩ = batch ⟨n, Nat.lt_of_succ_lt hn⟩ := Fin.ext (by show (n + 1) / 32 = n / 32; omega)
      have hp : (part ⟨n + 1, hn⟩).val = (part ⟨n, Nat.lt_of_succ_lt hn⟩).val + 1 := by show (n + 1) % 32 = n % 32 + 1; omega
      have z := next_upto m c hlb ⟨n + 1, hn⟩ (outsAt0 m c n (Nat.lt_of_succ_lt hn)).2.2 h e d (by
        rw [hb, hp]; exact (ih (Nat.lt_of_succ_lt hn) h e d).2)
      have f := outsAt0_B m c ⟨n + 1, hn⟩ h0
      dsimp only [Nat.add_sub_cancel] at f
      rw [f]
      dsimp only
      rw [← z]
      exact later (hlb := lane_real m c hlb ⟨n + 1, hn⟩) ..

/-- The state array is the plain recurrence's. -/
theorem final8 : (dats m 0 c).arrAt 8 cfg0.N
    = Cert.GatedPromptRefIdeal.Read.val_main_v49 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  obtain ⟨h, e, d, rfl⟩ : ∃ (h : Fin 4) (e d : Fin 128), y = ix4 0 h e d :=
    ⟨y 1, y 2, y 3, (ValueIdx.eq_ix4 y).trans (congrArg (fun a => ix4 a (y 1) (y 2) (y 3)) (Subsingleton.elim (α := Fin 1) _ _))⟩
  have hl : t.val % 32 = 31 := (flush0_8 t).mp hf
  have eo : (win0_8.blk t).view.emb (ix4 0 h e d) = ix4 (batch t) h e d := by
    unfold batch
    blk_ext [idx8]
  refine ((carried m c hlb t.val t.isLt h e d).1.trans ?_).trans (congrArg (Cert.GatedPromptRefIdeal.Read.val_main_v49 (F := Ideal) (m ((c : Thread nD τ).loc main_arg0))
    (m ((c : Thread nD τ).loc main_arg1))) eo).symm
  rw [Cert.GatedPromptRefIdeal.Heads.state_apply, Gated.whole_eq _ _ _ e d (fun d => hlb _)]
  have hk : 64 * ((part ⟨t.val, t.isLt⟩).val + 1) = 2048 := by show 64 * (t.val % 32 + 1) = 2048; omega
  rw [hk]
  rfl
end

end Cert.GatedPromptIdeal.Heads

/-- The state the prompt's recurrence leaves is the plain recurrence's on finite lower bounds. -/
theorem Cert.GatedPromptIdeal.Heads.algebraic [inst : Cert.Pre_prompt_bounds_finite.Facts] : Cert.algebraic_GatedPromptIdeal_GatedPromptRefIdeal_pre_prompt_bounds_finite := by
  pair_intro
  · run_from Cert.GatedPromptIdeal.Value.run_blocks m g
  · run_from Cert.GatedPromptRefIdeal.Value.run m' g'
    obtain ⟨e0, e1, e2⟩ := hagree c
    rw [Cert.GatedPromptIdeal.Heads.final8 m c (Cert.Pre_prompt_bounds_finite.bounds_real _ _ _ (hpre c)), ← e0, ← e1]
    exact Cert.GatedPromptRefIdeal.Read.val_main_v49_eq (F := Ideal) _ _

end
-- ==== Proof.DownSample.lean ====
/-
  The feed-forward layer's narrowing product for the sample batch: two blocks of rows, each computed as the prompt's are.
-/
module

public import proofs.«01_k».proof.Defs
public import proofs.«01_k».proof.Proof.Down
public import proofs.«01_k».proof.Proof.Gen.DownSampleIdeal.Value
public import proofs.«01_k».proof.Proof.Gen.DownSampleRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)
open scoped BigOperators

namespace Cert.DownSampleIdeal.Row

open Cert.DownSampleIdeal Cert.DownSampleIdeal.Gen Cert.DownSampleIdeal.Value Cert.ResLn

variable (m : (ℓ : Loc nD τ sig) → Buf (Elt Ideal) ℓ)

/-- The block is the prompt's, entry by entry. -/
theorem pay1_apply (res : Vec Ideal S512x1024 .f32) (x : Vec Ideal S512x2816 .bf16) (w : Vec Ideal S2816x1024 .bf16)
    (g b : Vec Ideal S1x1024 .f32) (r : Fin 512) (l : Fin 1024) :
    k0_pay1 (F := Ideal) res x w g b (ix2 r l)
      = rowNorm (resid (fun k => x (ix2 r k)) (fun k l => w (ix2 k l)) (fun l => res (ix2 r l)))
          (fun l => g (ix2 (0 : Fin 1) l)) (fun l => b (ix2 (0 : Fin 1) l)) l :=
  Cert.DownIdeal.Row.pay1_apply res x w g b r l

theorem pay2_apply (res : Vec Ideal S512x1024 .f32) (x : Vec Ideal S512x2816 .bf16) (w : Vec Ideal S2816x1024 .bf16)
    (g b : Vec Ideal S1x1024 .f32) (j : S512x1024.Idx) :
    k0_pay2 (F := Ideal) res x w g b j = k0_pay1 (F := Ideal) res x w g b j := rfl

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)

/-- The weight enters the product converted, which leaves it as it is. -/
theorem V_v0 (c : Dev nD) : V m c main_v0 = m ((c : Thread nD τ).loc main_arg1) := by
  entry_read
  rfl
/-- The scale's row. -/
theorem V_v1 (c : Dev nD) (l : Fin 1024) : (V m c main_v1 : Vec Ideal S1x1024 .f32) (ix2 (0 : Fin 1) l)
    = (m ((c : Thread nD τ).loc main_arg3) : Vec Ideal S1024 .f32) (ix1 l) := by
  entry_read
  pointwise []
/-- The shift's row. -/
theorem V_v2 (c : Dev nD) (l : Fin 1024) : (V m c main_v2 : Vec Ideal S1x1024 .f32) (ix2 (0 : Fin 1) l)
    = (m ((c : Thread nD τ).loc main_arg4) : Vec Ideal S1024 .f32) (ix1 l) := by
  entry_read
  pointwise []

/-- The layer's output rows, from its five arguments. -/
def Y (x : Vec Ideal S1024x2816 .bf16) (w : Vec Ideal S2816x1024 .f32) (res : Vec Ideal S1024x1024 .f32)
    (g b : Vec Ideal S1024 .f32) : Vec Ideal S1024x1024 .f32 := fun j =>
  rowNorm (resid (fun k => x (ix2 (j 0) k)) (fun k l => w (ix2 k l)) (fun l => res (ix2 (j 0) l))) (fun l => g (ix1 l)) (fun l => b (ix1 l)) (j 1)

/-- The block's rows at a point are the array's. -/
theorem block_eq (c : Dev nD) (t : Fin cfg0.N) (r : Fin 512) (l : Fin 1024) :
    k0_pay1 (F := Ideal) (iblk m c 2 t) (iblk m c 0 t) (iblk m c 1 t) (iblk m c 3 t) (iblk m c 4 t) (ix2 r l)
      = Y (m ((c : Thread nD τ).loc main_arg0)) (m ((c : Thread nD τ).loc main_arg1)) (m ((c : Thread nD τ).loc main_arg2))
          (m ((c : Thread nD τ).loc main_arg3)) (m ((c : Thread nD τ).loc main_arg4))
          (ix2 (⟨(grid0.coords t 0).val * 512 + r.val, by have := (grid0.coords t 0).isLt; have := r.isLt; simp at *; omega⟩ : Fin 1024) l) := by
  refine (pay1_apply _ _ _ _ _ r l).trans ?_
  unfold Y
  congr 1
  · congr 1
    · funext k
      blk_simp [iblk, V_main_arg0]
      refine congrArg _ ?_
      blk_ext [idx0]
    · funext k l
      blk_simp [iblk, V_v0]
      refine congrArg _ ?_
      blk_ext [idx1]
    · funext l
      blk_simp [iblk, V_main_arg2]
      refine congrArg _ ?_
      blk_ext [idx2]
  · funext l
    blk_simp [iblk]
    rw [← V_v1 m c l]
    refine congrArg _ ?_
    blk_ext [idx3]
  · funext l
    blk_simp [iblk]
    rw [← V_v2 m c l]
    refine congrArg _ ?_
    blk_ext [idx4]

theorem final5 (c : Dev nD) : (dats m 0 c).arrAt 5 cfg0.N
    = Y (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  rw [after0_5]; frame_out
  obtain ⟨r, l, rfl⟩ : ∃ (r : Fin 512) (l : Fin 1024), y = ix2 r l := ⟨y 0, y 1, (ValueIdx.eq_ix2 y)⟩
  refine (block_eq m c t r l).trans (congrArg _ ?_)
  blk_ext [idx5]

theorem final6 (c : Dev nD) : (dats m 0 c).arrAt 6 cfg0.N
    = Y (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  blk_simp
  rw [after0_6]; frame_out
  obtain ⟨r, l, rfl⟩ : ∃ (r : Fin 512) (l : Fin 1024), y = ix2 r l := ⟨y 0, y 1, (ValueIdx.eq_ix2 y)⟩
  refine (pay2_apply _ _ _ _ _ _).trans ((block_eq m c t r l).trans (congrArg _ ?_))
  blk_ext [idx6]

section
open Cert.DownSampleRefIdeal.Read

/-- The reference's residual sum. -/
theorem ref_resid (x : Vec Ideal S1024x2816 .bf16) (w : Vec Ideal S2816x1024 .f32) (res : Vec Ideal S1024x1024 .f32) (r : Fin 1024) (l : Fin 1024) :
    val_main_v4 (F := Ideal) x w res (ix2 r l)
      = resid (fun k => x (ix2 r k)) (fun k l => w (ix2 k l)) (fun l => res (ix2 r l)) l := by
  pointwise [val_main_v4, val_main_v3, val_main_v2, val_main_v1, val_main_v0, val_main_cst, resid]

/-- The reference's output rows are the same. -/
theorem ref_eq (x : Vec Ideal S1024x2816 .bf16) (w : Vec Ideal S2816x1024 .f32) (res : Vec Ideal S1024x1024 .f32) (g b : Vec Ideal S1024 .f32) :
    val_main_v28 (F := Ideal) x w res g b = Y x w res g b := by
  funext j
  obtain ⟨r, l, rfl⟩ : ∃ (r : Fin 1024) (l : Fin 1024), j = ix2 r l := ⟨j 0, j 1, (ValueIdx.eq_ix2 j)⟩
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v5, val_main_cst_0, val_main_cst_1,
    val_main_cst_2, val_main_cst_3, val_main_cst_4, Y, rowNorm, mean, ref_resid]
end

end Cert.DownSampleIdeal.Row

/-- Both copies of the output rows are the reference's. -/
theorem Cert.DownSampleIdeal.Row.algebraic : Cert.algebraic_DownSampleIdeal_DownSampleRefIdeal := by
  pair_intro
  · run_from Cert.DownSampleIdeal.Value.run_blocks m g
  · run_from Cert.DownSampleRefIdeal.Value.run m' g'
    · rw [Cert.DownSampleIdeal.Row.final5 m c, ← Cert.DownSampleIdeal.Row.ref_eq]
      exact Cert.DownSampleRefIdeal.Read.val_main_v28_eq (F := Ideal) _ _ _ _ _
    · rw [Cert.DownSampleIdeal.Row.final6 m c, ← Cert.DownSampleIdeal.Row.ref_eq]
      exact Cert.DownSampleRefIdeal.Read.val_main_v29_eq (F := Ideal) _ _ _ _ _

end
-- ==== Proof.OutSample.lean ====
/-
  The mixers' output projection for the sample batch: two blocks of rows, each computed as the prompt's are, its rows
  numbered through the 128 sequences of eight positions.
-/
module

public import proofs.«01_k».proof.Defs
public import proofs.«01_k».proof.Proof.Out
public import proofs.«01_k».proof.Proof.Gen.OutSampleIdeal.Value
public import proofs.«01_k».proof.Proof.Gen.OutSampleRefIdeal.Read

@[expose] public section

noncomputable section

open Idealize.ShloMosaic Idealize.ShloMosaic.TcCoe Idealize.SL.Sem
open Idealize.ShloMosaic.Pipeline (Dat)
open scoped BigOperators

namespace Cert.OutSampleIdeal.Row

open Cert.OutSampleIdeal Cert.OutSampleIdeal.Gen Cert.OutSampleIdeal.Value Cert.ResLn
open Cert.OutIdeal.Row (pay1_apply pay2_apply)

variable (m : (ℓ : Loc nD τ sig) → Buf (Elt Ideal) ℓ)

/-- The blocks of rows follow the point, the weights and the normalisation's rows stay. -/
theorem idx : ∀ t : Fin cfg0.N, win0_0.index t = ![(grid0.coords t 0).val, 0] ∧ win0_1.index t = ![0, 0]
    ∧ win0_2.index t = ![(grid0.coords t 0).val, 0] ∧ win0_3.index t = ![0, 0] ∧ win0_4.index t = ![0, 0]
    ∧ win0_5.index t = ![(grid0.coords t 0).val, 0] ∧ win0_6.index t = ![(grid0.coords t 0).val, 0] :=
  (by decide +kernel : ∀ t : Fin grid0.N, _)

/-- A row of the batch: its position in its sequence. -/
abbrev row (x : Vec Ideal S128x8x1024 .f32) (R : Fin 1024) (k : Fin 1024) : EReal := x (ix3 ⟨R.val / 8, by omega⟩ ⟨R.val % 8, Nat.mod_lt _ (by norm_num)⟩ k)

theorem V_v1 (c : Dev nD) (R k : Fin 1024) : (V m c main_v1 : Vec Ideal S1024x1024 .bf16) (ix2 R k) = row (m ((c : Thread nD τ).loc main_arg0)) R k := by
  entry_read
  pointwise []
/-- The weight enters the product converted, which leaves it as it is. -/
theorem V_v2 (c : Dev nD) : V m c main_v2 = m ((c : Thread nD τ).loc main_arg1) := by
  entry_read
  rfl
theorem V_v3 (c : Dev nD) (R k : Fin 1024) : (V m c main_v3 : Vec Ideal S1024x1024 .f32) (ix2 R k) = row (m ((c : Thread nD τ).loc main_arg2)) R k := by
  entry_read
  pointwise []
/-- The rows of the scale and of the shift. -/
theorem V_v4 (c : Dev nD) (l : Fin 1024) : (V m c main_v4 : Vec Ideal S1x1024 .f32) (ix2 (0 : Fin 1) l)
    = (m ((c : Thread nD τ).loc main_arg3) : Vec Ideal S1024 .f32) (ix1 l) := by
  entry_read
  pointwise []
theorem V_v5 (c : Dev nD) (l : Fin 1024) : (V m c main_v5 : Vec Ideal S1x1024 .f32) (ix2 (0 : Fin 1) l)
    = (m ((c : Thread nD τ).loc main_arg4) : Vec Ideal S1024 .f32) (ix1 l) := by
  entry_read
  pointwise []

/-- The normalised rows, from the call's five arguments. -/
def Y (x : Vec Ideal S128x8x1024 .f32) (w : Vec Ideal S1024x1024 .f32) (res : Vec Ideal S128x8x1024 .f32) (g b : Vec Ideal S1024 .f32) :
    Vec Ideal S1024x1024 .f32 := fun j =>
  rowNorm (resid (row x (j 0)) (fun k l => w (ix2 k l)) (row res (j 0))) (fun l => g (ix1 l)) (fun l => b (ix1 l)) (j 1)
/-- The same of a core's arguments. -/
abbrev YAt (c : Dev nD) : Vec Ideal S1024x1024 .f32 := Y (m ((c : Thread nD τ).loc main_arg0)) (m ((c : Thread nD τ).loc main_arg1))
  (m ((c : Thread nD τ).loc main_arg2)) (m ((c : Thread nD τ).loc main_arg3)) (m ((c : Thread nD τ).loc main_arg4))

/-- The block's rows at a point are the array's. -/
theorem block_eq (c : Dev nD) (t : Fin cfg0.N) (r : Fin 512) (l : Fin 1024) :
    k0_pay1 (F := Ideal) (iblk m c 2 t) (iblk m c 0 t) (iblk m c 1 t) (iblk m c 3 t) (iblk m c 4 t) (ix2 r l)
      = YAt m c (ix2 (⟨(grid0.coords t 0).val * 512 + r.val, by have := (grid0.coords t 0).isLt; have := r.isLt; simp at *; omega⟩ : Fin 1024) l) := by
  obtain ⟨i0, i1, i2, i3, i4, -, -⟩ := idx t
  refine (pay1_apply _ _ _ _ _ r l).trans ?_
  unfold YAt Y
  congr 1
  · congr 1
    · funext k
      blk_simp [iblk]
      refine Eq.trans ?_ (V_v1 m c _ k)
      refine congrArg _ ?_
      blk_ext [i0]
    · funext k l
      blk_simp [iblk, V_v2]
      refine congrArg _ ?_
      blk_ext [i1]
    · funext l
      blk_simp [iblk]
      refine Eq.trans ?_ (V_v3 m c _ l)
      refine congrArg _ ?_
      blk_ext [i2]
  · funext l
    blk_simp [iblk]
    rw [← V_v4 m c l]
    refine congrArg _ ?_
    blk_ext [i3]
  · funext l
    blk_simp [iblk]
    rw [← V_v5 m c l]
    refine congrArg _ ?_
    blk_ext [i4]

/-- Both copies of the result hold these rows. -/
theorem final5 (c : Dev nD) : (dats m 0 c).arrAt 5 cfg0.N = YAt m c := by
  refine (dats m 0 c).arrAt_eq_of_covers 5 _ (by decide +kernel) fun t hf y => ?_
  blk_simp
  rw [after0_5]; frame_out
  obtain ⟨r, l, rfl⟩ : ∃ (r : Fin 512) (l : Fin 1024), y = ix2 r l := ⟨y 0, y 1, (ValueIdx.eq_ix2 y)⟩
  refine (block_eq m c t r l).trans (congrArg _ ?_)
  blk_ext [(idx t).2.2.2.2.2.1]
theorem final6 (c : Dev nD) : (dats m 0 c).arrAt 6 cfg0.N = YAt m c := by
  refine (dats m 0 c).arrAt_eq_of_covers 6 _ (by decide +kernel) fun t hf y => ?_
  blk_simp
  rw [after0_6]; frame_out
  obtain ⟨r, l, rfl⟩ : ∃ (r : Fin 512) (l : Fin 1024), y = ix2 r l := ⟨y 0, y 1, (ValueIdx.eq_ix2 y)⟩
  refine (pay2_apply _ _ _ _ _ _).trans ((block_eq m c t r l).trans (congrArg _ ?_))
  blk_ext [(idx t).2.2.2.2.2.2]

section
open Cert.OutSampleRefIdeal.Read
variable (x : Vec Ideal S128x8x1024 .f32) (w : Vec Ideal S1024x1024 .f32) (res : Vec Ideal S128x8x1024 .f32)

/-- The reference's residual sum. -/
theorem ref_resid (p : Fin 128) (r : Fin 8) (l : Fin 1024) : val_main_v3 (F := Ideal) x w res (ix3 p r l)
    = resid (fun k => x (ix3 p r k)) (fun k l => w (ix2 k l)) (fun l => res (ix3 p r l)) l := by
  pointwise [val_main_v3, val_main_v2, val_main_v1, val_main_v0, val_main_cst, resid]

/-- The reference's normalised rows are the same. -/
theorem ref_eq (g b : Vec Ideal S1024 .f32) : val_main_v28 (F := Ideal) x w res g b = Y x w res g b := by
  funext j
  obtain ⟨r, l, rfl⟩ : ∃ (r l : Fin 1024), j = ix2 r l := ⟨j 0, j 1, (ValueIdx.eq_ix2 j)⟩
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_cst_0, val_main_cst_1,
    val_main_cst_2, val_main_cst_3, val_main_cst_4, Y, rowNorm, mean, ref_resid]
end

end Cert.OutSampleIdeal.Row

/-- Both copies of the output rows are the reference's. -/
theorem Cert.OutSampleIdeal.Row.algebraic : Cert.algebraic_OutSampleIdeal_OutSampleRefIdeal := by
  pair_intro
  · run_from Cert.OutSampleIdeal.Value.run_blocks m g
  · run_from Cert.OutSampleRefIdeal.Value.run m' g'
    · rw [Cert.OutSampleIdeal.Row.final5 m c, Cert.OutSampleIdeal.Row.YAt, ← Cert.OutSampleIdeal.Row.ref_eq]
      exact Cert.OutSampleRefIdeal.Read.val_main_v28_eq (F := Ideal) _ _ _ _ _
    · rw [Cert.OutSampleIdeal.Row.final6 m c, Cert.OutSampleIdeal.Row.YAt, ← Cert.OutSampleIdeal.Row.ref_eq]
      exact Cert.OutSampleRefIdeal.Read.val_main_v29_eq (F := Ideal) _ _ _ _ _

end
-- ==== Proof.UpSample.lean ====
/-
  The feed-forward layer's two widening products for the sample batch: two blocks of rows, each computed as the prompt's are.
-/
module

public import proofs.«01_k».proof.Defs
public import proofs.«01_k».proof.Proof.Up
public import proofs.«01_k».proof.Proof.Gen.UpSampleIdeal.Value
public import proofs.«01_k».proof.Proof.Gen.UpSampleRefIdeal.Read

@[expose] public section

noncomputable section

open Idealize.ShloMosaic Idealize.ShloMosaic.TcCoe Idealize.SL.Sem
open Idealize.ShloMosaic.Pipeline (Dat)
open scoped BigOperators

namespace Cert.UpSampleIdeal.Hidden

open Cert.UpSampleIdeal Cert.UpSampleIdeal.Gen Cert.UpSampleIdeal.Value
open Cert.UpIdeal.Hidden (gated pay_apply)

variable (m : (ℓ : Loc nD τ sig) → Buf (Elt Ideal) ℓ)

/-- The rows' block follows the first coordinate, the weights' columns the second. -/
theorem idx : ∀ t : Fin cfg0.N, win0_0.index t = ![(grid0.coords t 0).val, 0] ∧ win0_1.index t = ![0, (grid0.coords t 1).val]
    ∧ win0_2.index t = ![0, (grid0.coords t 1).val] ∧ win0_3.index t = ![(grid0.coords t 0).val, (grid0.coords t 1).val] :=
  (by decide +kernel : ∀ t : Fin grid0.N, _)

/-- The weights enter the products converted, which leaves them as they are. -/
theorem entries (c : Dev nD) : V m c main_v0 = m ((c : Thread nD τ).loc main_arg1) ∧ V m c main_v1 = m ((c : Thread nD τ).loc main_arg2) := by
  constructor
  · entry_read
    rfl
  · entry_read
    rfl

/-- The hidden rows, from the call's three arguments. -/
def H (x : Vec Ideal S1024x1024 .bf16) (g u : Vec Ideal S1024x2816 .f32) : Vec Ideal S1024x2816 .bf16 := fun j =>
  gated (fun k => x (ix2 (j 0) k)) (fun k => g (ix2 k (j 1))) (fun k => u (ix2 k (j 1)))

theorem final (c : Dev nD) : (dats m 0 c).arrAt 3 cfg0.N
    = H (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  obtain ⟨r, l, rfl⟩ : ∃ (r : Fin 512) (l : Fin 1408), y = ix2 r l := ⟨y 0, y 1, (ValueIdx.eq_ix2 y)⟩
  obtain ⟨i0, i1, i2, i3⟩ := idx t
  obtain ⟨v0, v1⟩ := entries m c
  refine (pay_apply _ _ _ r l).trans ?_
  unfold H
  congr 1 <;> funext k
  · blk_simp [iblk, V_main_arg0]
    refine congrArg _ ?_
    blk_ext [i0, i3]
  · blk_simp [iblk, v0]
    refine congrArg _ ?_
    blk_ext [i1, i3]
  · blk_simp [iblk, v1]
    refine congrArg _ ?_
    blk_ext [i2, i3]

section
open Cert.UpSampleRefIdeal.Read

/-- The reference's hidden rows are the same. -/
theorem ref_eq (x : Vec Ideal S1024x1024 .bf16) (g u : Vec Ideal S1024x2816 .f32) : val_main_v5 (F := Ideal) x g u = H x g u := by
  funext j
  obtain ⟨r, l, rfl⟩ : ∃ (r : Fin 1024) (l : Fin 2816), j = ix2 r l := ⟨j 0, j 1, (ValueIdx.eq_ix2 j)⟩
  pointwise [val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0, H, gated]
  rfl
end

end Cert.UpSampleIdeal.Hidden

/-- The hidden rows of the kernel are the reference's. -/
theorem Cert.UpSampleIdeal.Hidden.algebraic : Cert.algebraic_UpSampleIdeal_UpSampleRefIdeal := by
  pair_intro
  · run_from Cert.UpSampleIdeal.Value.run_blocks m g
  · run_from Cert.UpSampleRefIdeal.Value.run m' g'
    rw [Cert.UpSampleIdeal.Hidden.final m c, ← Cert.UpSampleIdeal.Hidden.ref_eq]
    exact Cert.UpSampleRefIdeal.Read.val_main_v5_eq (F := Ideal) _ _ _

end
-- ==== Proof.ProjSampleBody.lean ====
/-
  The sample's projection by blocks: the rows fit in one block, so its buffer is filled once and the columns go by. The
  last block of columns reaches past the array as it does for the prompt.
-/
module

public import proofs.«01_k».proof.Proof.Gen.ProjSampleIdeal.Frame
public import proofs.«01_k».proof.Proof.Gen.ProjSampleIdeal.Skeleton
public import Idealize.ShloMosaic.Lib.Pipeline.ValueKit

@[expose] public section

set_option maxRecDepth 16384

noncomputable section

namespace Cert.ProjSampleIdeal.Body

open Cert.ProjSampleIdeal Cert.ProjSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights' block at a point, with zeros where it reaches past the array. -/
def wblk (c : Dev nD) (t : Fin cfg0.N) : Vec F S1024x512 .bf16 :=
  win0_1.fill (grid0.coords t) (fun _ => FloatOps.ofBits .bf16 0#16) (iblk m c 1 t)

/-- The arrays at the region's entry; after a point the rows' block, the weights' block and their product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => k0_pay1 (iblk m c 0 t) (wblk m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = wblk m c t := by dsimp only [dats]
theorem after_2 (c : Dev nD) (t : Fin cfg0.N) : (dats m 0 c).after 2 t = k0_pay1 (iblk m c 0 t) (wblk m c t) := by
  dsimp only [dats]

theorem before_0 (c : Dev nD) (t : Fin cfg0.N) (d) : (dats m 0 c).before 0 t d = iblk m c 0 t :=
  before0_0_of m (dats m 0 c) (A_eq m c 0) (after_0 m c) t d

/-- The weights' buffer was just filled: the block, and `d` past the array's end. -/
theorem before_1 (c : Dev nD) (t : Fin cfg0.N) (d) :
    (dats m 0 c).before 1 t d = win0_1.fill (grid0.coords t) d (iblk m c 1 t) := by
  unfold Dat.before
  rw [if_pos (fetch0_1 t)]
  rfl

/-- The body on whole buffers: the third ends at the product of the first two. -/
theorem product (c : Dev nD) (E : Set ℕ) (i : grid0.Coords) (s0 : Fin 1) (s1 s2 : Fin 2)
    (X0 : S1024x1024.Idx → Elt F .bf16) (X1 : S1024x512.Idx → Elt F .bf16) (K : PUnit → sProp 𝕄) :
    iprop(owns (c : Thread nD τ) (stage0_0 s0) fullShare X0 ∗ owns (c : Thread nD τ) (stage0_1 s1) fullShare X1
        ∗ (∃ d, owns (c : Thread nD τ) (stage0_2 s2) fullShare d)
        ∗ (iprop(owns (c : Thread nD τ) (stage0_0 s0) fullShare X0 ∗ owns (c : Thread nD τ) (stage0_1 s1) fullShare X1
            ∗ owns (c : Thread nD τ) (stage0_2 s2) fullShare (k0_pay1 X0 X1)) -∗ K ⟨⟩))
      ⊢ wp frame (wpE (defs₀ (F := F)) Variants.none c none) E
          (cc0_dense_matmul i (stage0_0 s0) (hstage0_0 s0) (stage0_1 s1) (hstage0_1 s1) (stage0_2 s2) (hstage0_2 s2)) K := by
  have hz : (![0, 0] : Fin 2 → Nat) = fun _ => 0 := funext fun a => by fin_cases a <;> rfl
  simp only [cc0_dense_matmul_eq_skeleton]; unfold cc0_dense_matmul_skel
  unfold owns
  iintro ⟨⟨%f0, %hf0, H0⟩, ⟨%f1, %hf1, H1⟩, ⟨%d2, ⟨%f2, -, H2⟩⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ fun y => View.cover_of_tiled _ S1024x512.size (by rfl) y).trans ?_
  exact (View.canon_cons_unit_zero hz _ _ _).trans
    (congrArg₂ k0_pay1 (View.ld_unit_zero hz _ _) (View.ld_unit_zero hz _ _))

/-- The window of the product, of which the run at any floats says nothing. -/
abbrev unsaid : Fin 3 → Bool := ![false, false, true]

/-- The body's obligation when nothing is asked of the product. -/
theorem obligation (c : Dev nD) :
    BodyObligationLoose (dats (F := F) m 0 c) (defs₀ (F := F)) Variants.none () Set.univ unsaid := fun t => by
  rw [bigSep_W0, bigSep_W0]
  simp only [unsaid, Matrix.cons_val_zero, Matrix.cons_val_one, Matrix.cons_val]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, H2⟩
  rw [before_0 m c t d0, before_1 m c t d1]
  iapply (product (F := F) c Set.univ (grid0.coords t) (cfg0.slots t 0) (cfg0.slots t 1) (cfg0.slots t 2)
    (iblk m c 0 t) (win0_1.fill (grid0.coords t) d1 (iblk m c 1 t)) _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · rw [after_0]; iexact H0
  isplitl [H1]
  · iexists d1
    change _ ⊢ owns (c : Thread nD τ) (stage0_1 (cfg0.slots t 1)) fullShare
      (win0_1.fill (grid0.coords t) d1 (win0_1.cut (grid0.coords t) (wblk m c t)))
    rw [show win0_1.cut (grid0.coords t) (wblk m c t) = iblk m c 1 t from win0_1.cut_fill _ _ _]
    try iexact H1
  · iexists _; iexact H2

/-- The buffers the operations after the region write. -/
abbrev written : Finset (Ref sig .tc) := hostOps1_W.toFinset

theorem writes_written : ∀ ops ∈ ([hostOps1] : List (List (HloOp τ sig (Elt F)))), ∀ op ∈ ops, ∀ b : Ref sig .tc,
    Proc.devRef .tc b ∈ op.writes → b ∈ written := by
  intro ops hops op hop b hb
  obtain rfl : ops = hostOps1 := by simpa using hops
  obtain ⟨y, hy, he⟩ := List.mem_map.mp (List.mem_toFinset.mp ((List.forall_iff_forall_mem.mp hostOps1_writes) op hop hb))
  exact List.mem_toFinset.mpr (Proc.devRef_injective _ he ▸ hy)

set_option backward.isDefEq.respectTransparency.types false in
set_option maxHeartbeats 800000 in
/-- The run, at any floats: the program ends, its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget (Q' := _) cfgs (dats m) (0 : Fin 1) launch0 defs₀ Variants.none unsaid written
    m ρ main (hbody := obligation m) (hshare := fun c => (dats m 0 c).share_full fun _ => rfl)
    (howed := fun _ _ => rfl) (V₀ := V0 m) (opss := [hostOps1]) sfx_sub sfx_fresh sfx_keeps writes_written
    (hmain := hmain m Variants.none) (hA := A_eq m) (hΦ := fun _ _ => rfl)
    (hQ' := fun r h => ⟨fun c =>
      ⟨((h.1 c).2 main_arg0 (Finset.mem_sdiff.mpr ⟨Pipeline.mem_restRefs_of main_arg0 (by decide) (by decide), by decide +kernel⟩)).trans (V_main_arg0 m c),
       ((h.1 c).2 main_arg1 (Finset.mem_sdiff.mpr ⟨Pipeline.mem_restRefs_of main_arg1 (by decide) (by decide), by decide +kernel⟩)).trans (V_main_arg1 m c),
       ((h.1 c).2 main_arg2 (Finset.mem_sdiff.mpr ⟨Pipeline.mem_restRefs_of main_arg2 (by decide) (by decide), by decide +kernel⟩)).trans (V_main_arg2 m c)⟩, h.2⟩)

end Cert.ProjSampleIdeal.Body

end
-- ==== Proof.ProjSampleFrame.lean ====
/-
  The two frames of the sample's projection, from one run.
-/
module

public import proofs.«01_k».proof.Defs
public import proofs.«01_k».proof.Proof.ProjSampleBody
public import proofs.«01_k».proof.Proof.Gen.ProjSample

@[expose] public section

open Idealize.ShloMosaic Idealize.ShloMosaic.TcCoe Idealize.SL.Sem

namespace Cert.ProjSample.Same

/-- The two programs' bodies are one, label by label. -/
theorem body_eq : Cert.ProjSample.defs₀ (F := Bits) = Cert.ProjSampleIdeal.defs₀ (F := Bits) := by
  funext p l a
  cases p with
  | tc =>
    obtain ⟨l, h⟩ := l
    obtain rfl : l = 0 := by omega
    obtain ⟨t, s⟩ := a
    unfold Cert.ProjSample.defs₀ Cert.ProjSampleIdeal.defs₀
    rw [Defs.onTc_tc, Defs.onTc_tc]
    rfl
  | scScalar _ => rfl
  | scVector _ _ => rfl

theorem defs_eq : Cert.ProjSample.defs (F := Bits) = Cert.ProjSampleIdeal.defs (F := Bits) :=
  congrArg (Pipeline.defs Cert.ProjSampleIdeal.pcfgs) body_eq

theorem frame_ProjSample : Cert.quiescent_ProjSample (hProjSample := Cert.ProjSample.Gen.facts) := fun m g _ => by
  have h := Cert.ProjSampleIdeal.Body.frame (F := Bits) m g
  rw [← defs_eq] at h
  exact h

theorem frame_ProjSampleIdeal : Cert.quiescent_ProjSampleIdeal (hProjSampleIdeal := Cert.ProjSampleIdeal.Gen.facts) := fun m g _ =>
  Cert.ProjSampleIdeal.Body.frame m g

end Cert.ProjSample.Same

end
-- ==== Proof.ProjSampleValue.lean ====
/-
  The sample's projection over the extended reals: a block's entry is the prompt's row against a column, and the array ends
  at the product of the rows and the weights.
-/
module

public import proofs.«01_k».proof.Defs
public import proofs.«01_k».proof.Proof.ProjValue
public import proofs.«01_k».proof.Proof.ProjSampleBody
public import proofs.«01_k».proof.Proof.Gen.ProjSampleRefIdeal.Read
public import Idealize.ShloMosaic.Lib.Pointwise

@[expose] public section

set_option maxRecDepth 16384

noncomputable section

namespace Cert.ProjSampleIdeal.Value

open Cert.ProjSampleIdeal Cert.ProjSampleIdeal.Gen Cert.ProjSampleIdeal.Body
open Idealize.ShloMosaic Idealize.ShloMosaic.TcCoe Idealize.ShloMosaic.Tactic
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligationLoose cellOf)

variable (m : (ℓ : Loc nD τ sig) → Buf (Elt Ideal) ℓ) (ρ : Dev nD → PrngReg)

/-- One entry of a block's product: a row against a column. -/
theorem pay_apply (x : Vec Ideal S1024x1024 .bf16) (w : Vec Ideal S1024x512 .bf16) (r : Fin 1024) (l : Fin 512) :
    k0_pay1 (F := Ideal) x w (ix2 r l) = ∑ k : Fin 1024, x (ix2 r k) * w (ix2 k l) := by
  exact Cert.ProjIdeal.Value.pay_apply x w r l

/-- A column that lies in the array is read off the array. -/
theorem fill_apply (c : Dev nD) (t : Fin cfg0.N) (d : Vec Ideal S1024x512 .bf16) (k : Fin 1024) (l : Fin 512)
    (h : l.val < win0_1.xsize (grid0.coords t) 1) :
    win0_1.fill (grid0.coords t) d (iblk m c 1 t) (ix2 k l) = wblk m c t (ix2 k l) := by
  have hm : win0_1.moved (grid0.coords t) (ix2 k l) = true := (win0_1.moved_iff _ _).mpr fun a => by
    fin_cases a
    · exact k.isLt
    · exact h
  unfold wblk Window.fill
  rw [dif_pos hm, dif_pos hm]

/-- The product's columns in the array, whatever the weights' buffer holds past it. -/
theorem cut_eq (c : Dev nD) (t : Fin cfg0.N) (d : Vec Ideal S1024x512 .bf16) :
    win0_2.cut (grid0.coords t) (k0_pay1 (F := Ideal) (iblk m c 0 t) (win0_1.fill (grid0.coords t) d (iblk m c 1 t)))
      = win0_2.cut (grid0.coords t) (k0_pay1 (F := Ideal) (iblk m c 0 t) (wblk m c t)) := by
  funext j
  obtain ⟨r, l, hl, hj⟩ : ∃ (r : Fin 1024) (l : Fin 512), l.val < win0_1.xsize (grid0.coords t) 1 ∧ win0_2.xinj (grid0.coords t) j = ix2 r l :=
    ⟨win0_2.xinj (grid0.coords t) j 0, win0_2.xinj (grid0.coords t) j 1, (j 1).isLt, ValueIdx.eq_ix2 _⟩
  change k0_pay1 (F := Ideal) _ _ (win0_2.xinj (grid0.coords t) j) = k0_pay1 (F := Ideal) _ _ (win0_2.xinj (grid0.coords t) j)
  rw [hj, pay_apply, pay_apply]
  exact Finset.sum_congr rfl fun k _ => congrArg _ (fill_apply m c t d k l hl)

theorem obligation (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (product (F := Ideal) c Set.univ (grid0.coords t) (cfg0.slots t 0) (cfg0.slots t 1) (cfg0.slots t 2)
    (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after_0]; iexact H0
  isplitl [H1]
  · iexists d1
    change _ ⊢ owns (c : Thread nD τ) (stage0_1 (cfg0.slots t 1)) fullShare
      (win0_1.fill (grid0.coords t) d1 (win0_1.cut (grid0.coords t) (wblk m c t)))
    rw [show win0_1.cut (grid0.coords t) (wblk m c t) = iblk m c 1 t from win0_1.cut_fill _ _ _]
    try iexact H1
  · iexists (k0_pay1 (F := Ideal) (iblk m c 0 t) (win0_1.fill (grid0.coords t) d1 (iblk m c 1 t)))
    change _ ⊢ owns (c : Thread nD τ) (stage0_2 (cfg0.slots t 2)) fullShare
      (win0_2.fill (α := Elt Ideal .f32) (grid0.coords t) _ (win0_2.cut (α := Elt Ideal .f32) (grid0.coords t) (k0_pay1 (F := Ideal) (iblk m c 0 t) (wblk m c t))))
    rw [win0_2.fill_congr_cut (grid0.coords t) (cut_eq m c t d1)]
    try iexact H2

set_option backward.isDefEq.respectTransparency.types false in
set_option maxHeartbeats 800000 in
/-- The run over the extended reals: every array at what the points write into it, the rest after the last operations. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around (Q' := _) cfgs (dats m) (0 : Fin 1) launch0 defs₀ Variants.none m ρ main (hbody := obligation m)
    (hshare := fun c => (dats m 0 c).share_full fun _ => rfl) (howed := fun _ _ => rfl) (V₀ := V0 m) (opss := [hostOps1])
    sfx_sub sfx_fresh sfx_keeps (hmain := hmain m Variants.none) (hA := A_eq m) (hΦ := fun _ _ => rfl) (hQ' := fun _ h => h.1)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

/-- The rows against the columns. -/
def P (x : Vec Ideal S128x8x1024 .f32) (w : Vec Ideal S1024x3560 .f32) : Vec Ideal S1024x3560 .f32 := fun j =>
  ∑ k : Fin 1024, x (ix3 (⟨(j 0).val / 8, by have := (j 0).isLt; simp at this; omega⟩ : Fin 128) (⟨(j 0).val % 8, Nat.mod_lt _ (by norm_num)⟩ : Fin 8) k)
    * w (ix2 k (j 1))

theorem V_v1 (c : Dev nD) : V m c main_v1 = m ((c : Thread nD τ).loc main_arg1) := by
  entry_read
  rfl

theorem V_v2 (c : Dev nD) (R : Fin 1024) (k : Fin 1024) : (V m c main_v2 : Vec Ideal S1024x1024 .bf16) (ix2 R k)
    = (m ((c : Thread nD τ).loc main_arg0) : Vec Ideal S128x8x1024 .f32)
        (ix3 (⟨R.val / 8, by omega⟩ : Fin 128) (⟨R.val % 8, Nat.mod_lt _ (by norm_num)⟩ : Fin 8) k) := by
  unfold V V0
  rw [List.flatten_cons, List.flatten_nil, List.append_nil]
  entry_read
  pointwise []

/-- The weights' block, at a column in the array. -/
theorem wblk_apply (c : Dev nD) (t : Fin cfg0.N) (k : Fin 1024) (l : Fin 512) (h : l.val < win0_1.xsize (grid0.coords t) 1)
    (L : Fin 3560) (hL : L.val = (grid0.coords t 1).val * 512 + l.val) :
    wblk m c t (ix2 k l) = (m ((c : Thread nD τ).loc main_arg1) : Vec Ideal S1024x3560 .f32) (ix2 k L) := by
  have hm : win0_1.moved (grid0.coords t) (ix2 k l) = true := (win0_1.moved_iff _ _).mpr fun a => by
    fin_cases a
    · exact k.isLt
    · exact h
  unfold wblk Window.fill
  rw [dif_pos hm, ← V_v1 m c]
  blk_simp [iblk]
  refine congrArg _ ?_
  blk_ext [idx1, hL]

theorem final (c : Dev nD) : (dats m 0 c).arrAt 2 cfg0.N
    = P (m ((c : Thread nD τ).loc main_arg0)) (m ((c : Thread nD τ).loc main_arg1)) := by
  refine (dats m 0 c).arrAt_eq_of_covers 2 _ (by decide +kernel) fun t hf y => ?_
  rw [after_2]
  obtain ⟨r, l, hl, hr, hc, hy⟩ : ∃ (r : Fin 1024) (l : Fin 512), l.val < win0_1.xsize (grid0.coords t) 1
      ∧ r.val = (y 0).val ∧ l.val = (y 1).val ∧ win0_2.xinj (grid0.coords t) y = ix2 r l :=
    ⟨win0_2.xinj (grid0.coords t) y 0, win0_2.xinj (grid0.coords t) y 1, (y 1).isLt, rfl, rfl, ValueIdx.eq_ix2 _⟩
  blk_simp
  refine (congrArg (k0_pay1 (F := Ideal) (iblk m c 0 t) (wblk m c t)) hy).trans ((pay_apply _ _ r l).trans ?_)
  unfold P
  refine Finset.sum_congr rfl fun k _ => congrArg₂ (· * ·) ?_ ?_
  · refine Eq.trans ?_ (V_v2 m c _ k)
    blk_simp [iblk]
    refine congrArg _ ?_
    blk_ext [idx0, idx2, hr]
  · refine wblk_apply m c t k l hl _ ?_
    blk_simp [idx2, hc]

end Cert.ProjSampleIdeal.Value

end
-- ==== Proof.ProjSampleTail.lean ====
/-
  The operations after the sample's projection. They are the prompt's at other sizes, with positions that follow the cached
  ones, and stand the same way in the reference.
-/
module

public import proofs.«01_k».proof.Defs
public import proofs.«01_k».proof.Proof.Gen.ProjSampleIdeal.Launch
public import proofs.«01_k».proof.Proof.Gen.ProjSampleRefIdeal.Run
public import proofs.«01_k».proof.Proof.Gen.ProjSampleRefIdeal.Read
public import Idealize.ShloMosaic.Lib.StableHlo.Run

@[expose] public section

set_option maxRecDepth 16384

noncomputable section

namespace Cert.ProjSampleIdeal.Tail

open Cert.ProjSampleIdeal Cert.ProjSampleIdeal.Gen
open Idealize.ShloMosaic Idealize.ShloMosaic.TcCoe Idealize.SL.Sem Idealize.ShloMosaic.StableHlo

variable {F : FTy → Type} [FloatOps F]

/-- What the reference multiplies out. -/
abbrev D (x : (⟨S128x8x1024, .f32⟩ : BufTy).Contents (Elt F)) (w : (⟨S1024x3560, .f32⟩ : BufTy).Contents (Elt F)) : (⟨S128x8x3560, .f32⟩ : BufTy).Contents (Elt F) :=
  Host.dotGeneral Cert.ProjSampleRefIdeal.dot_S128x8x1024_S1024x3560_S128x8x3560_2_0_01_1_n_n none x w

/-- The reference's three arguments, of a memory. -/
abbrev h₀ (m' : (ℓ : Loc Cert.ProjSampleRefIdeal.nD Cert.ProjSampleRefIdeal.τ Cert.ProjSampleRefIdeal.sig) → Buf (Elt F) ℓ) (c : Dev Cert.ProjSampleRefIdeal.nD) :
    (⟨S128x8x1024, .f32⟩ : BufTy).Contents (Elt F) :=
  m' ((c.tc : Thread Cert.ProjSampleRefIdeal.nD Cert.ProjSampleRefIdeal.τ).loc Cert.ProjSampleRefIdeal.main_arg0)
abbrev w₀ (m' : (ℓ : Loc Cert.ProjSampleRefIdeal.nD Cert.ProjSampleRefIdeal.τ Cert.ProjSampleRefIdeal.sig) → Buf (Elt F) ℓ) (c : Dev Cert.ProjSampleRefIdeal.nD) :
    (⟨S1024x3560, .f32⟩ : BufTy).Contents (Elt F) :=
  m' ((c.tc : Thread Cert.ProjSampleRefIdeal.nD Cert.ProjSampleRefIdeal.τ).loc Cert.ProjSampleRefIdeal.main_arg1)
abbrev g₀ (m' : (ℓ : Loc Cert.ProjSampleRefIdeal.nD Cert.ProjSampleRefIdeal.τ Cert.ProjSampleRefIdeal.sig) → Buf (Elt F) ℓ) (c : Dev Cert.ProjSampleRefIdeal.nD) :
    (⟨S128, .f32⟩ : BufTy).Contents (Elt F) :=
  m' ((c.tc : Thread Cert.ProjSampleRefIdeal.nD Cert.ProjSampleRefIdeal.τ).loc Cert.ProjSampleRefIdeal.main_arg2)

variable (W : Valuation τ sig (Elt F)) (m' : (ℓ : Loc Cert.ProjSampleRefIdeal.nD Cert.ProjSampleRefIdeal.τ Cert.ProjSampleRefIdeal.sig) → Buf (Elt F) ℓ) (c : Dev Cert.ProjSampleRefIdeal.nD)

/-- The kernel's product, split into sequences, is the reference's. -/
abbrev Same : Prop := shapeCast S128x8x3560 (W (Proc.devRef .tc main_v3)) shapeCasts_S1024x3560_S128x8x3560 = D (h₀ m' c) (w₀ m' c)

/-- The second branch's values. -/
theorem values (h : Same W m' c) : after hostOps1 W (Proc.devRef .tc main_v55)
    = shapeCast S128x8x2x64 (extractStridedSlice S128x8x128 ![0, 0, 2432] (D (h₀ m' c) (w₀ m' c)) slices_S128x8x3560_S128x8x128_0_0_2432)
        shapeCasts_S128x8x128_S128x8x2x64 := by
  unfold hostOps1
  after_results_simp
  rw [← h]
  rfl

/-- The second branch's keys, rotated. -/
theorem keys (h : Same W m' c) : after hostOps1 W (Proc.devRef .tc main_v54) = Cert.ProjSampleRefIdeal.Value.res_out0 m' c := by
  unfold hostOps1
  generalize hf : (fun a b => concatenate S128x8x2x64 3 [⟨S128x8x2x32, a⟩, ⟨S128x8x2x32, b⟩] concatenates_S128x8x2x32_S128x8x2x32_S128x8x2x64_d3
    : (⟨S128x8x2x32, .f32⟩ : BufTy).Contents (Elt F) → (⟨S128x8x2x32, .f32⟩ : BufTy).Contents (Elt F) → (⟨S128x8x2x64, .f32⟩ : BufTy).Contents (Elt F)) = f
  after_results_simp
  subst hf
  unfold Cert.ProjSampleRefIdeal.Value.res_out0 Cert.ProjSampleRefIdeal.Value.res_main_v50
  unfold Same D h₀ w₀ at h
  rw [← h]
  rfl

/-- The index branch's key, rotated. -/
theorem index_key (h : Same W m' c) : after hostOps1 W (Proc.devRef .tc main_v90) = Cert.ProjSampleRefIdeal.Value.res_out2 m' c := by
  unfold hostOps1
  generalize hf : (fun a b => concatenate S128x8x1x64 3 [⟨S128x8x1x32, a⟩, ⟨S128x8x1x32, b⟩] concatenates_S128x8x1x32_S128x8x1x32_S128x8x1x64_d3
    : (⟨S128x8x1x32, .f32⟩ : BufTy).Contents (Elt F) → (⟨S128x8x1x32, .f32⟩ : BufTy).Contents (Elt F) → (⟨S128x8x1x64, .f32⟩ : BufTy).Contents (Elt F)) = f
  after_results_simp
  subst hf
  unfold Cert.ProjSampleRefIdeal.Value.res_out2 Cert.ProjSampleRefIdeal.Value.res_main_v86
  unfold Same D h₀ w₀ at h
  rw [← h]
  rfl

/-- The latent branch's rotated key. -/
theorem rotated_key (h : Same W m' c) : after hostOps1 W (Proc.devRef .tc main_v138) = Cert.ProjSampleRefIdeal.Value.res_out4 m' c := by
  unfold hostOps1
  generalize hf : (fun a b => concatenate S128x8x1x32 3 [⟨S128x8x1x16, a⟩, ⟨S128x8x1x16, b⟩] concatenates_S128x8x1x16_S128x8x1x16_S128x8x1x32_d3
    : (⟨S128x8x1x16, .f32⟩ : BufTy).Contents (Elt F) → (⟨S128x8x1x16, .f32⟩ : BufTy).Contents (Elt F) → (⟨S128x8x1x32, .f32⟩ : BufTy).Contents (Elt F)) = f
  after_results_simp
  subst hf
  unfold Cert.ProjSampleRefIdeal.Value.res_out4 Cert.ProjSampleRefIdeal.Value.res_main_v134
  unfold Same D h₀ w₀ at h
  rw [← h]
  rfl

/-- The latent, normalised. -/
theorem latent (h : Same W m' c) (hg : W (Proc.devRef .tc main_arg2) = g₀ m' c) : after hostOps1 W (Proc.devRef .tc main_v103)
    = Cert.ProjSampleRefIdeal.Read.val_main_v99 (h₀ m' c) (w₀ m' c) (g₀ m' c) := by
  unfold hostOps1
  after_results_simp
  unfold Same D at h
  rw [hg, ← Cert.ProjSampleRefIdeal.Read.val_main_v99_eq, ← h]
  rfl

end Cert.ProjSampleIdeal.Tail

end
-- ==== Proof.ProjSampleResults.lean ====
/-
  The sample's five new cache rows, as the reference's.
-/
module

public import proofs.«01_k».proof.Defs
public import proofs.«01_k».proof.Proof.ProjSampleValue
public import proofs.«01_k».proof.Proof.ProjSampleTail

@[expose] public section

set_option maxRecDepth 16384

noncomputable section

namespace Cert.ProjSampleIdeal.Results

open Cert.ProjSampleIdeal Cert.ProjSampleIdeal.Gen Cert.ProjSampleIdeal.Body Cert.ProjSampleIdeal.Value
open Idealize.ShloMosaic Idealize.ShloMosaic.TcCoe Idealize.ShloMosaic.Tactic Idealize.SL.Sem

/-- The product of the rows, split into sequences, is the reference's product. -/
theorem product_eq (x : Vec Ideal S128x8x1024 .f32) (w : Vec Ideal S1024x3560 .f32) :
    shapeCast S128x8x3560 (P x w) shapeCasts_S1024x3560_S128x8x3560 = Tail.D (F := Ideal) x w := by
  funext j
  obtain ⟨b, s, l, rfl⟩ : ∃ (b : Fin 128) (s : Fin 8) (l : Fin 3560), j = ix3 b s l := ⟨j 0, j 1, j 2, ValueIdx.eq_ix3 j⟩
  pointwise [P]
  have hb : (b.val * 8 + s.val) / 8 = b.val := by omega
  have hs : (b.val * 8 + s.val) % 8 = s.val := by omega
  simp only [hb, hs, Fin.eta]

variable (m : (ℓ : Loc nD τ sig) → Buf (Elt Ideal) ℓ) (ρ : Dev nD → PrngReg)

/-- What the operations after the product find. -/
abbrev atExit (c : Dev nD) : Valuation τ sig (Elt Ideal) :=
  Pipeline.withArrays spec0 c (V0 m c) fun w => (dats m 0 c).arrAt w cfg0.N

theorem exit_product (c : Dev nD) : atExit m c (Proc.devRef .tc main_v3)
    = P (m ((c : Thread nD τ).loc main_arg0)) (m ((c : Thread nD τ).loc main_arg1)) :=
  (Pipeline.withArrays_arr spec0 winFacts0.arr_inj c (V0 m c) _ 2).trans (final m c)

theorem exit_scale (c : Dev nD) : atExit m c (Proc.devRef .tc main_arg2) = m ((c : Thread nD τ).loc main_arg2) :=
  (Pipeline.withArrays_of_ne spec0 c (V0 m c) _ main_arg2 (by exact (by decide : ∀ w, Pipeline.arrRef spec0 w ≠ main_arg2))).trans
    (V_main_arg2 m c)

/-- The run, each buffer written after the product at the later operations' contents. -/
theorem run_tail : θ_run defs (onTc (τ := τ) (main (F := Ideal))) ⟨m, fun _ => 0, ρ⟩ (fun r => ∀ c : Dev nD,
    (∀ b : Ref sig .tc, b ∈ Pipeline.restRefs sig spec0 → r.2.mem ((c.tc : Thread nD τ).loc b) = StableHlo.after hostOps1 (atExit m c) (Proc.devRef .tc b))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨fun b hb => (h c).2 b hb,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ProjSampleIdeal.Results

open Idealize.ShloMosaic Idealize.ShloMosaic.TcCoe Idealize.SL.Sem Cert.ProjSampleIdeal Cert.ProjSampleIdeal.Gen Cert.ProjSampleIdeal.Results in
/-- The five results are the reference's. -/
theorem Cert.ProjSampleIdeal.Results.algebraic : Cert.algebraic_ProjSampleIdeal_ProjSampleRefIdeal := by
  intro m g m' g' _ hagree
  have same : ∀ c, Tail.Same (atExit m c) m' c := fun c => by
    unfold Tail.Same
    rw [exit_product, product_eq]
    exact congrArg₂ (Tail.D (F := Ideal)) (hagree c).1.symm (hagree c).2.1.symm
  have scale : ∀ c, atExit m c (Proc.devRef .tc main_arg2) = Tail.g₀ m' c := fun c => (exit_scale m c).trans (hagree c).2.2.symm
  refine ⟨fun c => Cert.ProjSampleRefIdeal.Value.res_out0 m' c, fun c => _, fun c => Cert.ProjSampleRefIdeal.Value.res_out2 m' c, fun c => _,
    fun c => Cert.ProjSampleRefIdeal.Value.res_out4 m' c, (θ_run _ _ _).mono (fun r h c => ?_) (run_tail m g), Cert.ProjSampleRefIdeal.Value.run m' g'⟩
  have at_ (b : Ref sig .tc) (h₁ : b.isScoped = false) (h₂ : ∀ w, (spec0 w).arr.view.ref ≠ b) :=
    (h c).1 b (Pipeline.mem_restRefs_of b h₁ h₂)
  exact ⟨(at_ main_v54 (by decide) (by decide)).trans (Tail.keys _ m' c (same c)),
    (at_ main_v55 (by decide) (by decide)).trans (Tail.values _ m' c (same c)),
    (at_ main_v90 (by decide) (by decide)).trans (Tail.index_key _ m' c (same c)),
    (at_ main_v103 (by decide) (by decide)).trans
      ((Tail.latent _ m' c (same c) (scale c)).trans (Cert.ProjSampleRefIdeal.Read.val_main_v99_eq _ _ _).symm),
    (at_ main_v138 (by decide) (by decide)).trans (Tail.rotated_key _ m' c (same c)), (h c).2⟩

end
-- ==== Proof.lean ====
module

public import proofs.«01_k».proof.Defs
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.MlaIdeal.Value
public import proofs.«01_k».proof.Proof.Gen.MlaRefIdeal.Run
public import proofs.«01_k».proof.Proof.Gen.MlaRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.MlaValue
public import proofs.«01_k».proof.Proof.Out
public import proofs.«01_k».proof.Proof.Up
public import proofs.«01_k».proof.Proof.Down
public import proofs.«01_k».proof.Proof.ProjFrame
public import proofs.«01_k».proof.Proof.ProjResults
public import Idealize.ShloMosaic.Lib.Quiescent
public import proofs.«01_k».proof.Proof.Gen.Proj
public import proofs.«01_k».proof.Proof.Gen.Proj.Skeleton
public import proofs.«01_k».proof.Proof.Gen.Proj.Launch
public import proofs.«01_k».proof.Proof.Gen.Proj.Frame
public import proofs.«01_k».proof.Proof.Gen.ProjIdeal.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Gated.Frame
public import proofs.«01_k».proof.Proof.Gen.GatedIdeal.Value
public import proofs.«01_k».proof.Proof.Gen.GatedRefIdeal.Run
public import proofs.«01_k».proof.Proof.Gen.GatedRefIdeal.Read
public import proofs.«01_k».proof.Proof.GatedValue
public import proofs.«01_k».proof.Proof.GatedPromptValue
public import proofs.«01_k».proof.Proof.Gen.DownSample
public import proofs.«01_k».proof.Proof.Gen.DownSampleIdeal
public import proofs.«01_k».proof.Proof.Gen.DownSampleRefIdeal
public import proofs.«01_k».proof.Proof.Gen.DownSampleRefIdeal.Run
public import proofs.«01_k».proof.Proof.Gen.DownSampleRefIdeal.Read
public import proofs.«01_k».proof.Proof.Gen.DownSample.Frame
public import proofs.«01_k».proof.Proof.Gen.DownSampleIdeal.Frame
public import proofs.«01_k».proof.Proof.Gen.DownSampleIdeal.Skeleton
public import proofs.«01_k».proof.Proof.Gen.DownSampleIdeal.Launch
public import proofs.«01_k».proof.Proof.Gen.DownSample.Launch
public import proofs.«01_k».proof.Proof.Gen.DownSample.Skeleton
public import proofs.«01_k».proof.Proof.Gen.DownSampleIdeal.Value
public import proofs.«01_k».proof.Proof.Gen.ProjSample
public import proofs.«01_k».proof.Proof.Gen.ProjSampleIdeal
public import proofs.«01_k».proof.Proof.Gen.ProjSampleRefIdeal
public import proofs.«01_k».proof.Proof.Gen.ProjSampleRefIdeal.Run
public import proofs.«01_k».proof.Proof.Gen.ProjSampleRefIdeal.Read
public import proofs.«01_k».proof.Proof.Gen.ProjSample.Frame
public import proofs.«01_k».proof.Proof.Gen.ProjSampleIdeal.Frame
public import proofs.«01_k».proof.Proof.Gen.ProjSampleIdeal.Skeleton
public import proofs.«01_k».proof.Proof.Gen.ProjSampleIdeal.Launch
public import proofs.«01_k».proof.Proof.Gen.ProjSample.Launch
public import proofs.«01_k».proof.Proof.Gen.ProjSample.Skeleton
public import proofs.«01_k».proof.Proof.DownSample
public import proofs.«01_k».proof.Proof.OutSample
public import proofs.«01_k».proof.Proof.UpSample
public import proofs.«01_k».proof.Proof.ProjSampleFrame
public import proofs.«01_k».proof.Proof.ProjSampleResults
public import proofs.«01_k».proof.Proof.Gen.GatedPrompt
public import proofs.«01_k».proof.Proof.Gen.GatedPrompt.Frame
public import proofs.«01_k».proof.Proof.Gen.GatedPromptIdeal
public import proofs.«01_k».proof.Proof.Gen.GatedPromptIdeal.Frame
public import proofs.«01_k».proof.Proof.Gen.GatedPromptIdeal.Value
public import proofs.«01_k».proof.Proof.Gen.GatedPromptRefIdeal
public import proofs.«01_k».proof.Proof.Gen.GatedPromptRefIdeal.Run
public import proofs.«01_k».proof.Proof.Gen.GatedPromptRefIdeal.Read
public import Idealize.ShloMosaic.Adequacy
public import Idealize.ShloMosaic.Init
public import proofs.«01_k».proof.Proof.Gen.OutSample
public import proofs.«01_k».proof.Proof.Gen.OutSample.Frame
public import proofs.«01_k».proof.Proof.Gen.OutSample.Launch
public import proofs.«01_k».proof.Proof.Gen.OutSample.Skeleton
public import proofs.«01_k».proof.Proof.Gen.OutSampleIdeal
public import proofs.«01_k».proof.Proof.Gen.OutSampleIdeal.Frame
public import proofs.«01_k».proof.Proof.Gen.OutSampleIdeal.Launch
public import proofs.«01_k».proof.Proof.Gen.OutSampleIdeal.Skeleton
public import proofs.«01_k».proof.Proof.Gen.OutSampleIdeal.Value
public import proofs.«01_k».proof.Proof.Gen.OutSampleRefIdeal
public import proofs.«01_k».proof.Proof.Gen.OutSampleRefIdeal.Read
public import proofs.«01_k».proof.Proof.Gen.OutSampleRefIdeal.Run
public import proofs.«01_k».proof.Proof.Gen.UpSample
public import proofs.«01_k».proof.Proof.Gen.UpSample.Frame
public import proofs.«01_k».proof.Proof.Gen.UpSample.Launch
public import proofs.«01_k».proof.Proof.Gen.UpSample.Skeleton
public import proofs.«01_k».proof.Proof.Gen.UpSampleIdeal
public import proofs.«01_k».proof.Proof.Gen.UpSampleIdeal.Frame
public import proofs.«01_k».proof.Proof.Gen.UpSampleIdeal.Launch
public import proofs.«01_k».proof.Proof.Gen.UpSampleIdeal.Skeleton
public import proofs.«01_k».proof.Proof.Gen.UpSampleIdeal.Value
public import proofs.«01_k».proof.Proof.Gen.UpSampleRefIdeal
public import proofs.«01_k».proof.Proof.Gen.UpSampleRefIdeal.Read
public import proofs.«01_k».proof.Proof.Gen.UpSampleRefIdeal.Run

@[expose] public section

noncomputable section

namespace Cert.Proof

open Idealize.ShloMosaic Idealize.SL.Sem

theorem frame_Mla : Cert.quiescent_Mla (hMla := Cert.Mla.Gen.facts) := fun m g _ => Cert.Mla.Gen.frame m g

theorem frame_MlaIdeal : Cert.quiescent_MlaIdeal (hMlaIdeal := Cert.MlaIdeal.Gen.facts) := fun m g _ => Cert.MlaIdeal.Gen.frame m g

theorem frame_MlaIdeal_finite : Cert.quiescent_MlaIdeal_pre_finite (hMlaIdeal := Cert.MlaIdeal.Gen.facts) (hPre_finite := Cert.Pre_finite.facts) :=
  fun m g _ => Cert.MlaIdeal.Gen.frame m g

theorem frame_MlaRef : Cert.quiescent_MlaRefIdeal (hMlaRefIdeal := Cert.MlaRefIdeal.Gen.facts) := fun m g _ =>
  (θ_run _ _ _).mono (fun r h => ⟨fun c => (h c).2, sem_eq_zero_of_no_sems (by decide) r.2⟩) (Cert.MlaRefIdeal.Value.run m g)

theorem frame_MlaRef_finite : Cert.quiescent_MlaRefIdeal_pre_finite (hMlaRefIdeal := Cert.MlaRefIdeal.Gen.facts) (hPre_finite := Cert.Pre_finite.facts) :=
  fun m g _ => frame_MlaRef m g trivial

theorem frame_Out : Cert.quiescent_Out (hOut := Cert.Out.Gen.facts) := fun m g _ => Cert.Out.Gen.frame m g

theorem frame_OutIdeal : Cert.quiescent_OutIdeal (hOutIdeal := Cert.OutIdeal.Gen.facts) := fun m g _ => Cert.OutIdeal.Gen.frame m g

theorem frame_OutRef : Cert.quiescent_OutRefIdeal (hOutRefIdeal := Cert.OutRefIdeal.Gen.facts) := fun m g _ =>
  (θ_run _ _ _).mono (fun r h => ⟨fun c => (h c).2.2, sem_eq_zero_of_no_sems (by decide) r.2⟩) (Cert.OutRefIdeal.Value.run m g)

theorem frame_Up : Cert.quiescent_Up (hUp := Cert.Up.Gen.facts) := fun m g _ => Cert.Up.Gen.frame m g

theorem frame_UpIdeal : Cert.quiescent_UpIdeal (hUpIdeal := Cert.UpIdeal.Gen.facts) := fun m g _ => Cert.UpIdeal.Gen.frame m g

theorem frame_UpRef : Cert.quiescent_UpRefIdeal (hUpRefIdeal := Cert.UpRefIdeal.Gen.facts) := fun m g _ =>
  (θ_run _ _ _).mono (fun r h => ⟨fun c => (h c).2, sem_eq_zero_of_no_sems (by decide) r.2⟩) (Cert.UpRefIdeal.Value.run m g)

theorem frame_Down : Cert.quiescent_Down (hDown := Cert.Down.Gen.facts) := fun m g _ => Cert.Down.Gen.frame m g

theorem frame_DownIdeal : Cert.quiescent_DownIdeal (hDownIdeal := Cert.DownIdeal.Gen.facts) := fun m g _ => Cert.DownIdeal.Gen.frame m g

theorem frame_DownRef : Cert.quiescent_DownRefIdeal (hDownRefIdeal := Cert.DownRefIdeal.Gen.facts) := fun m g _ =>
  (θ_run _ _ _).mono (fun r h => ⟨fun c => (h c).2.2, sem_eq_zero_of_no_sems (by decide) r.2⟩) (Cert.DownRefIdeal.Value.run m g)

theorem frame_ProjRef : Cert.quiescent_ProjRefIdeal (hProjRefIdeal := Cert.ProjRefIdeal.Gen.facts) := fun m g _ =>
  (θ_run _ _ _).mono (fun r h => ⟨fun c => (h c).2.2.2.2.2, sem_eq_zero_of_no_sems (by decide) r.2⟩) (Cert.ProjRefIdeal.Value.run m g)

theorem frame_Gated : Cert.quiescent_Gated (hGated := Cert.Gated.Gen.facts) := fun m g _ => Cert.Gated.Gen.frame m g

theorem frame_GatedIdeal : Cert.quiescent_GatedIdeal (hGatedIdeal := Cert.GatedIdeal.Gen.facts) := fun m g _ => Cert.GatedIdeal.Gen.frame m g

theorem frame_GatedIdeal_bounds : Cert.quiescent_GatedIdeal_pre_bounds_finite (hGatedIdeal := Cert.GatedIdeal.Gen.facts) (hPre_bounds_finite := Cert.Pre_bounds_finite.facts) :=
  fun m g _ => Cert.GatedIdeal.Gen.frame m g

theorem frame_GatedRef : Cert.quiescent_GatedRefIdeal (hGatedRefIdeal := Cert.GatedRefIdeal.Gen.facts) := fun m g _ =>
  (θ_run _ _ _).mono (fun r h => ⟨fun c => (h c).2.2, sem_eq_zero_of_no_sems (by decide) r.2⟩) (Cert.GatedRefIdeal.Value.run m g)

theorem frame_GatedRef_bounds : Cert.quiescent_GatedRefIdeal_pre_bounds_finite (hGatedRefIdeal := Cert.GatedRefIdeal.Gen.facts) (hPre_bounds_finite := Cert.Pre_bounds_finite.facts) :=
  fun m g _ => frame_GatedRef m g trivial

theorem frame_DownSample : Cert.quiescent_DownSample (hDownSample := Cert.DownSample.Gen.facts) := fun m g _ => Cert.DownSample.Gen.frame m g

theorem frame_DownSampleIdeal : Cert.quiescent_DownSampleIdeal (hDownSampleIdeal := Cert.DownSampleIdeal.Gen.facts) := fun m g _ =>
  Cert.DownSampleIdeal.Gen.frame m g

theorem frame_DownSampleRef : Cert.quiescent_DownSampleRefIdeal (hDownSampleRefIdeal := Cert.DownSampleRefIdeal.Gen.facts) := fun m g _ =>
  (θ_run _ _ _).mono (fun r h => ⟨fun c => (h c).2.2, sem_eq_zero_of_no_sems (by decide) r.2⟩) (Cert.DownSampleRefIdeal.Value.run m g)

theorem frame_ProjSampleRef : Cert.quiescent_ProjSampleRefIdeal (hProjSampleRefIdeal := Cert.ProjSampleRefIdeal.Gen.facts) := fun m g _ =>
  (θ_run _ _ _).mono (fun r h => ⟨fun c => (h c).2.2.2.2.2, sem_eq_zero_of_no_sems (by decide) r.2⟩) (Cert.ProjSampleRefIdeal.Value.run m g)

theorem frame_GatedPrompt : Cert.quiescent_GatedPrompt (hGatedPrompt := Cert.GatedPrompt.Gen.facts) := fun m g _ => Cert.GatedPrompt.Gen.frame m g

theorem frame_GatedPromptIdeal : Cert.quiescent_GatedPromptIdeal (hGatedPromptIdeal := Cert.GatedPromptIdeal.Gen.facts) := fun m g _ =>
  Cert.GatedPromptIdeal.Gen.frame m g

theorem frame_GatedPromptIdeal_bounds : Cert.quiescent_GatedPromptIdeal_pre_prompt_bounds_finite (hGatedPromptIdeal := Cert.GatedPromptIdeal.Gen.facts)
    (hPre_prompt_bounds_finite := Cert.Pre_prompt_bounds_finite.facts) :=
  fun m g _ => Cert.GatedPromptIdeal.Gen.frame m g

theorem frame_GatedPromptRef : Cert.quiescent_GatedPromptRefIdeal (hGatedPromptRefIdeal := Cert.GatedPromptRefIdeal.Gen.facts) := fun m g _ =>
  (θ_run _ _ _).mono (fun r h => ⟨fun c => (h c).2, sem_eq_zero_of_no_sems (by decide) r.2⟩) (Cert.GatedPromptRefIdeal.Value.run m g)

theorem frame_GatedPromptRef_bounds : Cert.quiescent_GatedPromptRefIdeal_pre_prompt_bounds_finite (hGatedPromptRefIdeal := Cert.GatedPromptRefIdeal.Gen.facts)
    (hPre_prompt_bounds_finite := Cert.Pre_prompt_bounds_finite.facts) :=
  fun m g _ => frame_GatedPromptRef m g trivial

theorem frame_OutSample : Cert.quiescent_OutSample (hOutSample := Cert.OutSample.Gen.facts) := fun m g _ => Cert.OutSample.Gen.frame m g

theorem frame_OutSampleIdeal : Cert.quiescent_OutSampleIdeal (hOutSampleIdeal := Cert.OutSampleIdeal.Gen.facts) := fun m g _ => Cert.OutSampleIdeal.Gen.frame m g

theorem frame_OutSampleRef : Cert.quiescent_OutSampleRefIdeal (hOutSampleRefIdeal := Cert.OutSampleRefIdeal.Gen.facts) := fun m g _ =>
  (θ_run _ _ _).mono (fun r h => ⟨fun c => (h c).2.2, sem_eq_zero_of_no_sems (by decide) r.2⟩) (Cert.OutSampleRefIdeal.Value.run m g)

theorem frame_UpSample : Cert.quiescent_UpSample (hUpSample := Cert.UpSample.Gen.facts) := fun m g _ => Cert.UpSample.Gen.frame m g

theorem frame_UpSampleIdeal : Cert.quiescent_UpSampleIdeal (hUpSampleIdeal := Cert.UpSampleIdeal.Gen.facts) := fun m g _ => Cert.UpSampleIdeal.Gen.frame m g

theorem frame_UpSampleRef : Cert.quiescent_UpSampleRefIdeal (hUpSampleRefIdeal := Cert.UpSampleRefIdeal.Gen.facts) := fun m g _ =>
  (θ_run _ _ _).mono (fun r h => ⟨fun c => (h c).2, sem_eq_zero_of_no_sems (by decide) r.2⟩) (Cert.UpSampleRefIdeal.Value.run m g)

theorem preserves_mask : Cert.preserves_Mla_MlaIdeal :=
  IdealRules.named_const.statement Cert.MlaIdeal.κ "mask" .f32 0xF149F2CA#32 ⊥ rfl

theorem preserves_gated_mask : Cert.preserves_Gated_GatedIdeal :=
  IdealRules.named_const.statement Cert.GatedIdeal.κ "mask" .f32 0xF149F2CA#32 ⊥ rfl

theorem preserves_gated_prompt_mask : Cert.preserves_GatedPrompt_GatedPromptIdeal :=
  IdealRules.named_const.statement Cert.GatedPromptIdeal.κ "mask" .f32 0xF149F2CA#32 ⊥ rfl

theorem claim : Cert.Claim := ⟨Cert.Mla.Gen.facts, Cert.MlaIdeal.Gen.facts, Cert.MlaRefIdeal.Gen.facts, Cert.Out.Gen.facts, Cert.OutIdeal.Gen.facts, Cert.OutRefIdeal.Gen.facts, Cert.Up.Gen.facts, Cert.UpIdeal.Gen.facts, Cert.UpRefIdeal.Gen.facts, Cert.Down.Gen.facts, Cert.DownIdeal.Gen.facts, Cert.DownRefIdeal.Gen.facts,
  Cert.Proj.Gen.facts, Cert.ProjIdeal.Gen.facts, Cert.ProjRefIdeal.Gen.facts, Cert.Gated.Gen.facts, Cert.GatedIdeal.Gen.facts, Cert.GatedRefIdeal.Gen.facts,
  Cert.DownSample.Gen.facts, Cert.DownSampleIdeal.Gen.facts, Cert.DownSampleRefIdeal.Gen.facts, Cert.ProjSample.Gen.facts, Cert.ProjSampleIdeal.Gen.facts, Cert.ProjSampleRefIdeal.Gen.facts,
  Cert.GatedPrompt.Gen.facts, Cert.GatedPromptIdeal.Gen.facts, Cert.GatedPromptRefIdeal.Gen.facts,
  Cert.OutSample.Gen.facts, Cert.OutSampleIdeal.Gen.facts, Cert.OutSampleRefIdeal.Gen.facts, Cert.UpSample.Gen.facts, Cert.UpSampleIdeal.Gen.facts, Cert.UpSampleRefIdeal.Gen.facts,
  Cert.Pre_finite.facts, Cert.Pre_bounds_finite.facts, Cert.Pre_prompt_bounds_finite.facts,
  frame_Mla, frame_MlaIdeal, frame_MlaIdeal_finite, frame_MlaRef, frame_MlaRef_finite,
  frame_Out, frame_OutIdeal, frame_OutRef, frame_Up, frame_UpIdeal, frame_UpRef, frame_Down, frame_DownIdeal, frame_DownRef,
  Cert.Proj.Same.frame_Proj, Cert.Proj.Same.frame_ProjIdeal, frame_ProjRef,
  frame_Gated, frame_GatedIdeal, frame_GatedIdeal_bounds, frame_GatedRef, frame_GatedRef_bounds,
  frame_DownSample, frame_DownSampleIdeal, frame_DownSampleRef, Cert.ProjSample.Same.frame_ProjSample, Cert.ProjSample.Same.frame_ProjSampleIdeal, frame_ProjSampleRef,
  frame_GatedPrompt, frame_GatedPromptIdeal, frame_GatedPromptIdeal_bounds, frame_GatedPromptRef, frame_GatedPromptRef_bounds,
  frame_OutSample, frame_OutSampleIdeal, frame_OutSampleRef, frame_UpSample, frame_UpSampleIdeal, frame_UpSampleRef,
  preserves_mask, Cert.MlaIdeal.Attn.algebraic (inst := Cert.Pre_finite.facts),
  trivial, Cert.OutIdeal.Row.algebraic, trivial, Cert.UpIdeal.Hidden.algebraic, trivial, Cert.DownIdeal.Row.algebraic,
  trivial, Cert.ProjIdeal.Results.algebraic, preserves_gated_mask, Cert.GatedIdeal.Heads.algebraic (inst := Cert.Pre_bounds_finite.facts),
  trivial, Cert.DownSampleIdeal.Row.algebraic, trivial, Cert.ProjSampleIdeal.Results.algebraic,
  preserves_gated_prompt_mask, Cert.GatedPromptIdeal.Heads.algebraic (inst := Cert.Pre_prompt_bounds_finite.facts),
  trivial, Cert.OutSampleIdeal.Row.algebraic, trivial, Cert.UpSampleIdeal.Hidden.algebraic⟩

end Cert.Proof

end
